-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1024 : Shape := ⟨3, ![6, 256, 1024]⟩
abbrev S6x256 : Shape := ⟨2, ![6, 256]⟩
abbrev S6x256x1152 : Shape := ⟨3, ![6, 256, 1152]⟩
abbrev S6x1x256 : Shape := ⟨3, ![6, 1, 256]⟩
abbrev S1024 : Shape := ⟨1, ![1024]⟩
abbrev S1024x1920 : Shape := ⟨2, ![1024, 1920]⟩
abbrev S1920 : Shape := ⟨1, ![1920]⟩
abbrev S1152x1024 : Shape := ⟨2, ![1152, 1024]⟩
abbrev S1024x4096 : Shape := ⟨2, ![1024, 4096]⟩
abbrev S4096 : Shape := ⟨1, ![4096]⟩
abbrev S4096x1024 : Shape := ⟨2, ![4096, 1024]⟩
abbrev S6x256x4096 : Shape := ⟨3, ![6, 256, 4096]⟩
abbrev S1x256x1024 : Shape := ⟨3, ![1, 256, 1024]⟩
abbrev S1x256x1152 : Shape := ⟨3, ![1, 256, 1152]⟩
abbrev S1x1x256 : Shape := ⟨3, ![1, 1, 256]⟩
abbrev S1x256x4096 : Shape := ⟨3, ![1, 256, 4096]⟩
abbrev S1x1024 : Shape := ⟨2, ![1, 1024]⟩
abbrev S1x1920 : Shape := ⟨2, ![1, 1920]⟩
abbrev S1x4096 : Shape := ⟨2, ![1, 4096]⟩
abbrev S256x1024 : Shape := ⟨2, ![256, 1024]⟩
abbrev S256x128 : Shape := ⟨2, ![256, 128]⟩
abbrev S256x1920 : Shape := ⟨2, ![256, 1920]⟩
abbrev S256x512 : Shape := ⟨2, ![256, 512]⟩
abbrev S256x4096 : Shape := ⟨2, ![256, 4096]⟩
abbrev S1536x256 : Shape := ⟨2, ![1536, 256]⟩
abbrev S32x256 : Shape := ⟨2, ![32, 256]⟩
abbrev S1152x256 : Shape := ⟨2, ![1152, 256]⟩
abbrev S8x256 : Shape := ⟨2, ![8, 256]⟩
abbrev S16 : Shape := ⟨1, ![16]⟩
abbrev S1 : Shape := ⟨1, ![1]⟩
abbrev S_ : Shape := ⟨0, ![]⟩
abbrev S1x256 : Shape := ⟨2, ![1, 256]⟩
abbrev S8x128 : Shape := ⟨2, ![8, 128]⟩
abbrev S128x128 : Shape := ⟨2, ![128, 128]⟩
abbrev S256x1152 : Shape := ⟨2, ![256, 1152]⟩
abbrev S256x256 : Shape := ⟨2, ![256, 256]⟩
abbrev S1x256x128 : Shape := ⟨3, ![1, 256, 128]⟩
abbrev S1x128 : Shape := ⟨2, ![1, 128]⟩
abbrev S1x1x128 : Shape := ⟨3, ![1, 1, 128]⟩
abbrev S1x128x128 : Shape := ⟨3, ![1, 128, 128]⟩
abbrev S1024x256 : Shape := ⟨2, ![1024, 256]⟩
abbrev S1x256x512 : Shape := ⟨3, ![1, 256, 512]⟩
abbrev S512x256 : Shape := ⟨2, ![512, 256]⟩

abbrev nBuf : Space → Nat
  | .hbm => 25
  | .vmem => 49
  | .smem => 0
  | _ => 0

abbrev bufTy : (tb : Table) → Fin (tcTables nBuf tb) → BufTy
  | .hbm, ⟨0, _⟩ => ⟨S6x256x1024, .bf16⟩
  | .hbm, ⟨1, _⟩ => ⟨S6x256, .i32⟩
  | .hbm, ⟨2, _⟩ => ⟨S6x256x1152, .fp8e4m3⟩
  | .hbm, ⟨3, _⟩ => ⟨S6x1x256, .f32⟩
  | .hbm, ⟨4, _⟩ => ⟨S1024, .f32⟩
  | .hbm, ⟨5, _⟩ => ⟨S1024, .f32⟩
  | .hbm, ⟨6, _⟩ => ⟨S1024x1920, .fp8e4m3⟩
  | .hbm, ⟨7, _⟩ => ⟨S1920, .f32⟩
  | .hbm, ⟨8, _⟩ => ⟨S1920, .f32⟩
  | .hbm, ⟨9, _⟩ => ⟨S1152x1024, .fp8e4m3⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .fp8e4m3⟩
  | .hbm, ⟨15, _⟩ => ⟨S4096, .f32⟩
  | .hbm, ⟨16, _⟩ => ⟨S4096, .f32⟩
  | .hbm, ⟨17, _⟩ => ⟨S4096x1024, .fp8e4m3⟩
  | .hbm, ⟨18, _⟩ => ⟨S1024, .f32⟩
  | .hbm, ⟨19, _⟩ => ⟨S1024, .f32⟩
  | .hbm, ⟨20, _⟩ => ⟨S6x256x1024, .bf16⟩
  | .hbm, ⟨21, _⟩ => ⟨S6x256x1024, .fp8e4m3⟩
  | .hbm, ⟨22, _⟩ => ⟨S6x1x256, .f32⟩
  | .hbm, ⟨23, _⟩ => ⟨S6x256x4096, .fp8e4m3⟩
  | .hbm, ⟨24, _⟩ => ⟨S6x1x256, .f32⟩
  | .local _ .vmem, ⟨0, _⟩ => ⟨S1x256x1024, .bf16⟩
  | .local _ .vmem, ⟨1, _⟩ => ⟨S1x256x1024, .bf16⟩
  | .local _ .vmem, ⟨2, _⟩ => ⟨S6x256, .i32⟩
  | .local _ .vmem, ⟨3, _⟩ => ⟨S1x256x1152, .fp8e4m3⟩
  | .local _ .vmem, ⟨4, _⟩ => ⟨S1x256x1152, .fp8e4m3⟩
  | .local _ .vmem, ⟨5, _⟩ => ⟨S1x1x256, .f32⟩
  | .local _ .vmem, ⟨6, _⟩ => ⟨S1x1x256, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .fp8e4m3⟩
  | .local _ .vmem, ⟨10, _⟩ => ⟨S1x256x1024, .fp8e4m3⟩
  | .local _ .vmem, ⟨11, _⟩ => ⟨S1x1x256, .f32⟩
  | .local _ .vmem, ⟨12, _⟩ => ⟨S1x1x256, .f32⟩
  | .local _ .vmem, ⟨13, _⟩ => ⟨S1x256x4096, .fp8e4m3⟩
  | .local _ .vmem, ⟨14, _⟩ => ⟨S1x256x4096, .fp8e4m3⟩
  | .local _ .vmem, ⟨15, _⟩ => ⟨S1x1x256, .f32⟩
  | .local _ .vmem, ⟨16, _⟩ => ⟨S1x1x256, .f32⟩
  | .local _ .vmem, ⟨17, _⟩ => ⟨S1x1024, .f32⟩
  | .local _ .vmem, ⟨18, _⟩ => ⟨S1x1024, .f32⟩
  | .local _ .vmem, ⟨19, _⟩ => ⟨S1x1920, .f32⟩
  | .local _ .vmem, ⟨20, _⟩ => ⟨S1x1920, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x4096, .f32⟩
  | .local _ .vmem, ⟨26, _⟩ => ⟨S1x4096, .f32⟩
  | .local _ .vmem, ⟨27, _⟩ => ⟨S1x1024, .f32⟩
  | .local _ .vmem, ⟨28, _⟩ => ⟨S1x1024, .f32⟩
  | .local _ .vmem, ⟨29, _⟩ => ⟨S1024x1920, .fp8e4m3⟩
  | .local _ .vmem, ⟨30, _⟩ => ⟨S1152x1024, .fp8e4m3⟩
  | .local _ .vmem, ⟨31, _⟩ => ⟨S1024x4096, .fp8e4m3⟩
  | .local _ .vmem, ⟨32, _⟩ => ⟨S4096x1024, .fp8e4m3⟩
  | .local _ .vmem, ⟨33, _⟩ => ⟨S256x1024, .f32⟩
  | .local _ .vmem, ⟨34, _⟩ => ⟨S256x128, .f32⟩
  | .local _ .vmem, ⟨35, _⟩ => ⟨S256x1920, .bf16⟩
  | .local _ .vmem, ⟨36, _⟩ => ⟨S256x512, .bf16⟩
  | .local _ .vmem, ⟨37, _⟩ => ⟨S256x128, .f32⟩
  | .local _ .vmem, ⟨38, _⟩ => ⟨S256x1024, .f32⟩
  | .local _ .vmem, ⟨39, _⟩ => ⟨S256x1024, .fp8e4m3⟩
  | .local _ .vmem, ⟨40, _⟩ => ⟨S256x1024, .f32⟩
  | .local _ .vmem, ⟨41, _⟩ => ⟨S256x128, .f32⟩
  | .local _ .vmem, ⟨42, _⟩ => ⟨S256x128, .f32⟩
  | .local _ .vmem, ⟨43, _⟩ => ⟨S256x4096, .f32⟩
  | .local _ .vmem, ⟨44, _⟩ => ⟨S256x128, .f32⟩
  | .local _ .vmem, ⟨45, _⟩ => ⟨S1536x256, .bf16⟩
  | .local _ .vmem, ⟨46, _⟩ => ⟨S32x256, .bf16⟩
  | .local _ .vmem, ⟨47, _⟩ => ⟨S1152x256, .f32⟩
  | .local _ .vmem, ⟨48, _⟩ => ⟨S8x256, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_scratch14 : Ref sig .tc := ⟨.vmem, 31, rfl⟩
abbrev cc0_scratch15 : Ref sig .tc := ⟨.vmem, 32, rfl⟩
abbrev cc0_scratch16 : Ref sig .tc := ⟨.vmem, 33, rfl⟩
abbrev cc0_scratch17 : Ref sig .tc := ⟨.vmem, 34, rfl⟩
abbrev cc0_scratch18 : Ref sig .tc := ⟨.vmem, 35, rfl⟩
abbrev cc0_scratch19 : Ref sig .tc := ⟨.vmem, 36, rfl⟩
abbrev cc0_scratch20 : Ref sig .tc := ⟨.vmem, 37, rfl⟩
abbrev cc0_scratch21 : Ref sig .tc := ⟨.vmem, 38, rfl⟩
abbrev cc0_scratch22 : Ref sig .tc := ⟨.vmem, 39, rfl⟩
abbrev cc0_scratch23 : Ref sig .tc := ⟨.vmem, 40, rfl⟩
abbrev cc0_scratch24 : Ref sig .tc := ⟨.vmem, 41, rfl⟩
abbrev cc0_scratch25 : Ref sig .tc := ⟨.vmem, 42, rfl⟩
abbrev cc0_scratch26 : Ref sig .tc := ⟨.vmem, 43, rfl⟩
abbrev cc0_scratch27 : Ref sig .tc := ⟨.vmem, 44, rfl⟩
abbrev cc0_scratch28 : Ref sig .tc := ⟨.vmem, 45, rfl⟩
abbrev cc0_scratch29 : Ref sig .tc := ⟨.vmem, 46, rfl⟩
abbrev cc0_scratch30 : Ref sig .tc := ⟨.vmem, 47, rfl⟩
abbrev cc0_scratch31 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg0 : BitVec 32 := BitVec.ofNat 32 (i 0).val
  let c5_i32 : BitVec 32 := 5#32
  let v0 : BitVec 32 := Scalar.minsi arg0 c5_i32
  let v123 : Index := Scalar.indexCast v0
  let c0 : Index := 0#32
  ![v123.toNat, 0]
def k0_cond3 (i : grid0.Coords) : BitVec 1 :=
  let arg0 : BitVec 32 := BitVec.ofNat 32 (i 0).val
  let c0_i32_2 : BitVec 32 := 0#32
  let v7 : BitVec 1 := Scalar.cmpi .sgt arg0 c0_i32_2
  let c6_i32 : BitVec 32 := 6#32
  let v8 : BitVec 1 := Scalar.cmpi .slt arg0 c6_i32
  let v9 : BitVec 1 := Scalar.andi v7 v8
  let v10 : BitVec 32 := Scalar.extui v9
  let c0_i32_3 : BitVec 32 := 0#32
  let v11 : BitVec 1 := Scalar.cmpi .ne v10 c0_i32_3
  v11

def k0_off2 (i : grid0.Coords) : Fin 2 → Nat :=
  let arg0 : BitVec 32 := BitVec.ofNat 32 (i 0).val
  let c5_i32 : BitVec 32 := 5#32
  let v0 : BitVec 32 := Scalar.minsi arg0 c5_i32
  let v178 : Index := Scalar.indexCast v0
  let c0_102 : Index := 0#32
  ![v178.toNat, 0]
def k0_cond4 (i : grid0.Coords) : BitVec 1 :=
  let arg0 : BitVec 32 := BitVec.ofNat 32 (i 0).val
  let c6_i32_4 : BitVec 32 := 6#32
  let v12 : BitVec 1 := Scalar.cmpi .eq arg0 c6_i32_4
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_21 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_22 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_23 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_24 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1152 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S6x256x1024 : Shape := ⟨3, ![6, 256, 1024]⟩
abbrev S6x256 : Shape := ⟨2, ![6, 256]⟩
abbrev S6x256x1152 : Shape := ⟨3, ![6, 256, 1152]⟩
abbrev S6x1x256 : Shape := ⟨3, ![6, 1, 256]⟩
abbrev S1024 : Shape := ⟨1, ![1024]⟩
abbrev S1024x1920 : Shape := ⟨2, ![1024, 1920]⟩
abbrev S1920 : Shape := ⟨1, ![1920]⟩
abbrev S1152x1024 : Shape := ⟨2, ![1152, 1024]⟩
abbrev S1024x4096 : Shape := ⟨2, ![1024, 4096]⟩
abbrev S4096 : Shape := ⟨1, ![4096]⟩
abbrev S4096x1024 : Shape := ⟨2, ![4096, 1024]⟩
abbrev S6x256x4096 : Shape := ⟨3, ![6, 256, 4096]⟩
abbrev S1536x1024 : Shape := ⟨2, ![1536, 1024]⟩
abbrev S1536x1152 : Shape := ⟨2, ![1536, 1152]⟩
abbrev S1536x1 : Shape := ⟨2, ![1536, 1]⟩
abbrev S1x1024 : Shape := ⟨2, ![1, 1024]⟩
abbrev S1536 : Shape := ⟨1, ![1536]⟩
abbrev S1536x4096 : Shape := ⟨2, ![1536, 4096]⟩
abbrev S1x4096 : Shape := ⟨2, ![1, 4096]⟩

abbrev nBuf : Space → Nat
  | .hbm => 25
  | .vmem => 20
  | .smem => 0
  | _ => 0

abbrev bufTy : (tb : Table) → Fin (tcTables nBuf tb) → BufTy
  | .hbm, ⟨0, _⟩ => ⟨S6x256x1024, .bf16⟩
  | .hbm, ⟨1, _⟩ => ⟨S6x256, .i32⟩
  | .hbm, ⟨2, _⟩ => ⟨S6x256x1152, .fp8e4m3⟩
  | .hbm, ⟨3, _⟩ => ⟨S6x1x256, .f32⟩
  | .hbm, ⟨4, _⟩ => ⟨S1024, .f32⟩
  | .hbm, ⟨5, _⟩ => ⟨S1024, .f32⟩
  | .hbm, ⟨6, _⟩ => ⟨S1024x1920, .fp8e4m3⟩
  | .hbm, ⟨7, _⟩ => ⟨S1920, .f32⟩
  | .hbm, ⟨8, _⟩ => ⟨S1920, .f32⟩
  | .hbm, ⟨9, _⟩ => ⟨S1152x1024, .fp8e4m3⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .fp8e4m3⟩
  | .hbm, ⟨15, _⟩ => ⟨S4096, .f32⟩
  | .hbm, ⟨16, _⟩ => ⟨S4096, .f32⟩
  | .hbm, ⟨17, _⟩ => ⟨S4096x1024, .fp8e4m3⟩
  | .hbm, ⟨18, _⟩ => ⟨S1024, .f32⟩
  | .hbm, ⟨19, _⟩ => ⟨S1024, .f32⟩
  | .hbm, ⟨20, _⟩ => ⟨S6x256x1024, .bf16⟩
  | .hbm, ⟨21, _⟩ => ⟨S6x256x1024, .fp8e4m3⟩
  | .hbm, ⟨22, _⟩ => ⟨S6x1x256, .f32⟩
  | .hbm, ⟨23, _⟩ => ⟨S6x256x4096, .fp8e4m3⟩
  | .hbm, ⟨24, _⟩ => ⟨S6x1x256, .f32⟩
  | .local _ .vmem, ⟨0, _⟩ => ⟨S6x256x1024, .bf16⟩
  | .local _ .vmem, ⟨1, _⟩ => ⟨S6x256, .i32⟩
  | .local _ .vmem, ⟨2, _⟩ => ⟨S6x256x1152, .fp8e4m3⟩
  | .local _ .vmem, ⟨3, _⟩ => ⟨S6x1x256, .f32⟩
  | .local _ .vmem, ⟨4, _⟩ => ⟨S1152x1024, .fp8e4m3⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024x4096, .fp8e4m3⟩
  | .local _ .vmem, ⟨10, _⟩ => ⟨S4096, .f32⟩
  | .local _ .vmem, ⟨11, _⟩ => ⟨S4096, .f32⟩
  | .local _ .vmem, ⟨12, _⟩ => ⟨S4096x1024, .fp8e4m3⟩
  | .local _ .vmem, ⟨13, _⟩ => ⟨S1024, .f32⟩
  | .local _ .vmem, ⟨14, _⟩ => ⟨S1024, .f32⟩
  | .local _ .vmem, ⟨15, _⟩ => ⟨S6x256x1024, .bf16⟩
  | .local _ .vmem, ⟨16, _⟩ => ⟨S6x256x1024, .fp8e4m3⟩
  | .local _ .vmem, ⟨17, _⟩ => ⟨S6x1x256, .f32⟩
  | .local _ .vmem, ⟨18, _⟩ => ⟨S6x256x4096, .fp8e4m3⟩
  | .local _ .vmem, ⟨19, _⟩ => ⟨S6x1x256, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F] [Named F]

def κ : String → Option EReal := fun
  | "inv_sqrt2" => some (((Real.sqrt 2)⁻¹ : ℝ) : EReal)
  | _ => none

abbrev grid0 : Pipeline.Grid := .none

abbrev stage0_0 : Fin 1 → Memref sig .tc .vmem S6x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x256x1024 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x256x4096 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S6x1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Mach.lean ====
/-
  A small machine for the kernel's vector code: programs that only load from and store to a fixed
  family of VMEM buffers, what such a program does to the buffers' contents, and the proof that the
  program run on the real machine does the same.
-/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.Lib.Memref
public import Idealize.ShloMosaic.Lib.Tactic
public import Idealize.ShloMosaic.Lib.Pipeline.FrameBody
public import Idealize.ShloMosaic.Lib.Exec
public import Idealize.ShloMosaic.Lib.Decide

@[expose] public section

noncomputable section

namespace Cert.Vit

open Idealize.ShloMosaic Idealize.SL.Sem

/-! ## Shapes -/

abbrev s1x256x1024 : Shape := ⟨3, ![1, 256, 1024]⟩
abbrev s1x256x1152 : Shape := ⟨3, ![1, 256, 1152]⟩
abbrev s1x256x4096 : Shape := ⟨3, ![1, 256, 4096]⟩
abbrev s1x256x512 : Shape := ⟨3, ![1, 256, 512]⟩
abbrev s1x256x128 : Shape := ⟨3, ![1, 256, 128]⟩
abbrev s1x128x128 : Shape := ⟨3, ![1, 128, 128]⟩
abbrev s1x1x256 : Shape := ⟨3, ![1, 1, 256]⟩
abbrev s1x1x128 : Shape := ⟨3, ![1, 1, 128]⟩
abbrev s6x256 : Shape := ⟨2, ![6, 256]⟩
abbrev s1x256 : Shape := ⟨2, ![1, 256]⟩
abbrev s8x256 : Shape := ⟨2, ![8, 256]⟩
abbrev s32x256 : Shape := ⟨2, ![32, 256]⟩
abbrev s8x128 : Shape := ⟨2, ![8, 128]⟩
abbrev s1x128 : Shape := ⟨2, ![1, 128]⟩
abbrev s1x1024 : Shape := ⟨2, ![1, 1024]⟩
abbrev s1x4096 : Shape := ⟨2, ![1, 4096]⟩
abbrev s128x128 : Shape := ⟨2, ![128, 128]⟩
abbrev s256x128 : Shape := ⟨2, ![256, 128]⟩
abbrev s256x256 : Shape := ⟨2, ![256, 256]⟩
abbrev s256x512 : Shape := ⟨2, ![256, 512]⟩
abbrev s512x256 : Shape := ⟨2, ![512, 256]⟩
abbrev s256x1024 : Shape := ⟨2, ![256, 1024]⟩
abbrev s256x1152 : Shape := ⟨2, ![256, 1152]⟩
abbrev s256x4096 : Shape := ⟨2, ![256, 4096]⟩
abbrev s1152x1024 : Shape := ⟨2, ![1152, 1024]⟩
abbrev s1152x256 : Shape := ⟨2, ![1152, 256]⟩
abbrev s1024x256 : Shape := ⟨2, ![1024, 256]⟩
abbrev s1024x4096 : Shape := ⟨2, ![1024, 4096]⟩
abbrev s4096x1024 : Shape := ⟨2, ![4096, 1024]⟩

/-! ## The buffers -/

/-- The names of the buffers the vector code uses: the input windows, the output windows, the copies
    of the weights and vectors, and the scratch buffers. -/
inductive Nm
  | x | seg | oc | os
  | y | a2c | a2s | gc | gs
  | so | bo | g2 | b2 | s1 | c1 | s2 | c2 | wo | w1 | w2
  | tmp | scol | segcol | h | a2m | hm | scolm | segcolm | gl | gmax
  deriving DecidableEq

/-- Each buffer's shape. -/
@[reducible] def sh : Nm → Shape
  | .x => s1x256x1024 | .seg => s6x256 | .oc => s1x256x1152 | .os => s1x1x256
  | .y => s1x256x1024 | .a2c => s1x256x1024 | .a2s => s1x1x256 | .gc => s1x256x4096 | .gs => s1x1x256
  | .so => s1x1024 | .bo => s1x1024 | .g2 => s1x1024 | .b2 => s1x1024
  | .s1 => s1x4096 | .c1 => s1x4096 | .s2 => s1x1024 | .c2 => s1x1024
  | .wo => s1152x1024 | .w1 => s1024x4096 | .w2 => s4096x1024
  | .tmp => s256x1024 | .scol => s256x128 | .segcol => s256x128 | .h => s256x1024
  | .a2m => s256x1024 | .hm => s256x1024 | .scolm => s256x128 | .segcolm => s256x128
  | .gl => s256x4096 | .gmax => s256x128

/-- Each buffer's element type. -/
@[reducible] def el : Nm → EltTy
  | .x => .bf16 | .seg => .i32 | .oc => .fp8e4m3 | .os => .f32
  | .y => .bf16 | .a2c => .fp8e4m3 | .a2s => .f32 | .gc => .fp8e4m3 | .gs => .f32
  | .so => .f32 | .bo => .f32 | .g2 => .f32 | .b2 => .f32
  | .s1 => .f32 | .c1 => .f32 | .s2 => .f32 | .c2 => .f32
  | .wo => .fp8e4m3 | .w1 => .fp8e4m3 | .w2 => .fp8e4m3
  | .tmp => .f32 | .scol => .f32 | .segcol => .f32 | .h => .f32
  | .a2m => .fp8e4m3 | .hm => .f32 | .scolm => .f32 | .segcolm => .f32
  | .gl => .f32 | .gmax => .f32

/-- The memory references behind the names: each a whole VMEM buffer. -/
structure Mems (sig : RefSig) where
  mem : ∀ n, Memref sig .tc .vmem (sh n) (el n)
  whole : ∀ n, (mem n).IsWhole

variable {F : FTy → Type} [FloatOps F]

/-- The contents of the buffers. -/
abbrev St (F : FTy → Type) := ∀ n, Vec F (sh n) (el n)

/-- Contents `old` with the rectangle `r` overwritten by `w`. -/
def put {s : Shape} {α : Type} (r : Rect s) (w : r.shape.Idx → α) (old : s.Idx → α) : s.Idx → α :=
  fun i => match preimage? r.emb i with
    | some j => w j
    | none => old i

theorem put_emb {s : Shape} {α : Type} (r : Rect s) (w : r.shape.Idx → α) (old : s.Idx → α) (j : r.shape.Idx) :
    put r w old (r.emb j) = w j := by
  unfold put; rw [preimage?_emb]

theorem put_of_not {s : Shape} {α : Type} (r : Rect s) (w : r.shape.Idx → α) (old : s.Idx → α) (i : s.Idx)
    (h : ∀ j, r.emb j ≠ i) : put r w old i = old i := by
  unfold put; rw [preimage?_eq_none h]

/-- A program of loads and stores on the named buffers. `ldq` is a load whose result is not used,
    through the rank-two view of the code output window. -/
inductive K (F : FTy → Type) : Type → Type 1
  | ret {α : Type} (a : α) : K F α
  | ld {α : Type} (n : Nm) (r : LoadRect (sh n)) (h : 0 < r.shape.numel) (k : (r.shape.Idx → Elt F (el n)) → K F α) : K F α
  | st {α : Type} (n : Nm) (r : Rect (sh n)) (h : 0 < r.shape.numel) (hp : r.PackedRows (el n).packing) (hs : ∀ a, r.stride a = 1)
      (w : r.shape.Idx → Elt F (el n)) (k : K F α) : K F α
  | ldq {α : Type} (r : LoadRect s256x1024) (h : 0 < r.shape.numel) (k : K F α) : K F α

namespace K

/-- One program, then another that reads its result. -/
def bind {α β : Type} : K F α → (α → K F β) → K F β
  | .ret a, f => f a
  | .ld n r h k, f => .ld n r h fun v => bind (k v) f
  | .st n r h hp hs w k, f => .st n r h hp hs w (bind k f)
  | .ldq r h k, f => .ldq r h (bind k f)

/-- What a program computes, and the contents it leaves. -/
def exec {α : Type} : K F α → St F → α × St F
  | .ret a, σ => (a, σ)
  | .ld n r _ k, σ => exec (k fun j => σ n (r.idx j)) σ
  | .st n r _ _ _ w k, σ => exec k (Function.update σ n (put r w (σ n)))
  | .ldq _ _ k, σ => exec k σ

/-- The program only uses buffers among `S`. -/
def Ok (S : Finset Nm) {α : Type} : K F α → Prop
  | .ret _ => True
  | .ld n _ _ k => n ∈ S ∧ ∀ v, Ok S (k v)
  | .st n _ _ _ _ _ k => n ∈ S ∧ Ok S k
  | .ldq _ _ k => Nm.a2c ∈ S ∧ Ok S k

theorem exec_bind {α β : Type} (p : K F α) (f : α → K F β) (σ : St F) :
    exec (bind p f) σ = exec (f (exec p σ).1) (exec p σ).2 := by
  induction p generalizing σ with
  | ret a => rfl
  | ld n r h k ih => exact ih _ _
  | st n r h hp hs w k ih => exact ih _
  | ldq r h k ih => exact ih _

theorem ok_bind {S : Finset Nm} {α β : Type} {p : K F α} {f : α → K F β} (hp : Ok S p) (hf : ∀ a, Ok S (f a)) :
    Ok S (bind p f) := by
  induction p with
  | ret a => exact hf a
  | ld n r h k ih => exact ⟨hp.1, fun v => ih v (hp.2 v)⟩
  | st n r h hpk hs w k ih => exact ⟨hp.1, ih hp.2⟩
  | ldq r h k ih => exact ⟨hp.1, ih hp.2⟩

end K

/-! ## The program on the machine -/

variable {nD : Nat} {τ : Topo} {sig : RefSig} {Λ : Labels}

theorem inb_q : ∀ a, (![0, 0, 0] : Fin 3 → Nat) a + s1x256x1024.size a ≤ s1x256x1024.size a := by decide
theorem squeezes_q : s1x256x1024.Squeezes s256x1024 := by decide

/-- The code output window seen as a matrix. -/
abbrev Mems.q (M : Mems sig) : Memref sig .tc .vmem s256x1024 .fp8e4m3 :=
  ((M.mem .a2c).slice (Rect.unit (s := s1x256x1024) ![0, 0, 0] s1x256x1024.size inb_q) (fun _ => rfl)).squeeze s256x1024 squeezes_q

theorem Mems.stores (M : Mems sig) (n : Nm) (r : Rect (sh n)) (h : 0 < r.shape.numel) (hp : r.PackedRows (el n).packing) :
    ((M.mem n).access r).Stores Finset.univ :=
  View.stores_vmem h ((M.whole n).storeExact_slice rfl r hp) (fun _ => rfl)

/-- The program as operations of the machine. -/
def K.toProg (M : Mems sig) {α : Type} : K F α → Prog (TpuEff nD τ sig (Elt F) Λ .tc) α
  | .ret a => .ret a
  | .ld n r h k => .op (.load (M.mem n) r (View.loadsAt_vmem h)) fun v => toProg M (k v)
  | .st n r h hp hs w k => .op (.store (M.mem n) r w Finset.univ (M.stores n r h hp) (.inl rfl)) fun _ => toProg M k
  | .ldq r h k => .op (.load M.q r (View.loadsAt_vmem h)) fun _ => toProg M k

theorem K.toProg_bind (M : Mems sig) {α β : Type} (p : K F α) (f : α → K F β) :
    (K.bind p f).toProg (nD := nD) (τ := τ) (Λ := Λ) M = (p.toProg M).bind fun a => (f a).toProg M := by
  induction p with
  | ret a => rfl
  | ld n r h k ih => exact congrArg (Prog.op _) (funext fun v => ih v)
  | st n r h hpk hs w k ih => exact congrArg (Prog.op _) (funext fun v => ih)
  | ldq r h k ih => exact congrArg (Prog.op _) (funext fun v => ih)

/-! ## Soundness -/

open Idealize.SL Idealize.SL.RA Idealize.SL.BI
open scoped Idealize.SL.BI
open Idealize.SL.BI.BIBase Idealize.SL.BI.Laws Idealize.SL.ProofMode
open Idealize.ShloMosaic.TcCoe Idealize.ShloMosaic.Tactic

local notation "𝕄" => MT nD τ sig Unit (Elt F) ℕ (Pipeline.UD sig nD τ) ℕ

/-- Core `c` owns the buffers `S` at contents `σ`. -/
def Own (M : Mems sig) (c : Dev nD) (S : Finset Nm) (σ : St F) : sProp 𝕄 :=
  bigSep S fun n => owns (c : Thread nD τ) (M.mem n) fullShare (σ n)

theorem Own_congr (M : Mems sig) (c : Dev nD) (S : Finset Nm) {σ σ' : St F} (h : ∀ n ∈ S, σ n = σ' n) :
    (Own M c S σ : sProp 𝕄) = Own M c S σ' :=
  bigSep_congr fun n hn => by rw [h n hn]

theorem write_put (M : Mems sig) (n : Nm) (r : Rect (sh n)) (w : r.shape.Idx → Elt F (el n)) (f : (M.mem n).view.ty.Contents (Elt F)) :
    (M.mem n).view.read (Elt F) (((M.mem n).access r).write (Elt F) f w Finset.univ) = put r w ((M.mem n).view.read (Elt F) f) := by
  funext i
  by_cases hi : ∃ j, r.emb j = i
  · obtain ⟨j, rfl⟩ := hi
    rw [put_emb]; exact View.read_slice_write_emb r f w (Finset.mem_univ j)
  · rw [put_of_not _ _ _ _ fun j hj => hi ⟨j, hj⟩]
    exact View.read_slice_write_of_not_mem r f w _ fun hm => by
      obtain ⟨j, -, hj⟩ := Finset.mem_map.mp hm; exact hi ⟨j, hj⟩

variable {defs : Defs nD τ sig (Elt F) Λ} (𝒱 : Variants)

/-- One buffer taken out of those owned, to be put back at any contents. -/
theorem Own_take (M : Mems sig) (c : Dev nD) (S : Finset Nm) (σ : St F) (n : Nm) (hn : n ∈ S) :
    (Own M c S σ : sProp 𝕄) ⊢ iprop(∃ f : (M.mem n).view.ty.Contents (Elt F), ⌜(M.mem n).view.read (Elt F) f = σ n⌝
      ∗ ((M.mem n).view.loc (c : Thread nD τ) ↦[(M.mem n).view.set]{fullShare} f)
      ∗ (∀ g : (M.mem n).view.ty.Contents (Elt F), ((M.mem n).view.loc (c : Thread nD τ) ↦[(M.mem n).view.set]{fullShare} g)
          -∗ Own M c S (Function.update σ n ((M.mem n).view.read (Elt F) g)))) := by
  have e : ∀ σ : St F, (Own M c S σ : sProp 𝕄) = iprop(owns (c : Thread nD τ) (M.mem n) fullShare (σ n)
      ∗ Own M c (S.erase n) σ) := fun σ => bigSep_erase hn
  have e2 : ∀ w, (Own M c (S.erase n) σ : sProp 𝕄) = Own M c (S.erase n) (Function.update σ n w) := fun w =>
    Own_congr M c _ fun k hk => (Function.update_of_ne (Finset.ne_of_mem_erase hk) _ _).symm
  have e3 : ∀ g : (M.mem n).view.ty.Contents (Elt F),
      (iprop(owns (c : Thread nD τ) (M.mem n) fullShare ((M.mem n).view.read (Elt F) g) ∗ Own M c (S.erase n) σ) : sProp 𝕄)
        ⊢ Own M c S (Function.update σ n ((M.mem n).view.read (Elt F) g)) := fun g => by
    rw [e (Function.update σ n ((M.mem n).view.read (Elt F) g)), e2 ((M.mem n).view.read (Elt F) g), Function.update_self]
  rw [e σ]
  iintro ⟨H, HR⟩
  unfold owns
  icases H with ⟨%f, %hf, H⟩
  iexists f
  isplitr; · ipureintro; exact hf
  isplitl [H]; · iexact H
  iintro %g H
  iapply (e3 g)
  isplitl [H]
  · iapply (owns_intro (c : Thread nD τ) (M.mem n) fullShare g); iexact H
  · iexact HR

/-- Run on buffers owned at `σ`, the program ends with its result and the buffers as `exec` says. -/
theorem K.sound (M : Mems sig) (c : Dev nD) (S : Finset Nm) {α : Type} (p : K F α) (σ : St F) (hok : p.Ok S)
    (Q : α → sProp 𝕄) :
    (iprop(Own M c S σ ∗ (Own M c S (p.exec σ).2 -∗ Q (p.exec σ).1)) : sProp 𝕄)
      ⊢ wp frame (wpE defs 𝒱 (c : Thread nD τ) none) Set.univ (p.toProg M) Q := by
  induction p generalizing σ with
  | ret a =>
    simp only [K.toProg, wp_ret, K.exec]
    refine .trans ?_ (fupd_intro (PROP := sProp 𝕄))
    iintro ⟨H, HQ⟩; iapply HQ; iexact H
  | ld n r h k ih =>
    obtain ⟨hn, hk⟩ := hok
    simp only [K.toProg]
    iintro ⟨HO, HQ⟩
    ihave HT := (Own_take M c S σ n hn) $$ HO
    icases HT with ⟨%f, %hf, H, HB⟩
    iapply (wp_load 𝒱 (c : Thread nD τ) none Set.univ (m := M.mem n) (r := r) (S := (M.mem n).view.set) (f := f)
      (Finset.map_subset_map.mpr (Finset.subset_univ _))) $$ H
    iintro H
    have e1 : (M.mem n).view.readAt (Elt F) r f = fun j => σ n (r.idx j) := by rw [← hf]; rfl
    rw [e1]
    iapply (ih _ σ (hk _))
    isplitl [H HB]
    · ispecialize HB $$ %f H
      rw [hf, Function.update_eq_self]
      iexact HB
    · iexact HQ
  | st n r h hp hs w k ih =>
    obtain ⟨hn, hk⟩ := hok
    simp only [K.toProg]
    iintro ⟨HO, HQ⟩
    ihave HT := (Own_take M c S σ n hn) $$ HO
    icases HT with ⟨%f, %hf, H, HB⟩
    iapply (wp_store 𝒱 (c : Thread nD τ) none Set.univ (m := M.mem n) (r := r) (S := (M.mem n).view.set) (f := f)
      ((M.mem n).view.set_slice_subset r)) $$ H
    iintro H
    iapply (ih (Function.update σ n (put r w (σ n))) hk)
    isplitl [H HB]
    · ispecialize HB $$ %(((M.mem n).access r).write (Elt F) f w Finset.univ) H
      rw [write_put, hf]
      iexact HB
    · iexact HQ
  | ldq r h k ih =>
    obtain ⟨hn, hk⟩ := hok
    simp only [K.toProg]
    iintro ⟨HO, HQ⟩
    ihave HT := (Own_take M c S σ .a2c hn) $$ HO
    icases HT with ⟨%f, %hf, H, HB⟩
    iapply (wp_load 𝒱 (c : Thread nD τ) none Set.univ (m := M.q) (r := r) (S := (M.mem .a2c).view.set) (f := f)
      ((Finset.map_subset_map.mpr (Finset.subset_univ _)).trans
        ((View.set_reshape _ _).trans_subset (View.set_slice_subset _ _)))) $$ H
    iintro H
    iapply (ih σ hk)
    isplitl [H HB]
    · ispecialize HB $$ %f H
      rw [hf, Function.update_eq_self]
      iexact HB
    · iexact HQ

end Cert.Vit
-- ==== Proof.Pieces.lean ====
/-
  The kernel's vector code written once, as programs of the small machine (`Mach`): the pieces each
  grid step interleaves, each over the tile it works on, and the orders the three kinds of step run
  them in. Everything is stated at any float operations and at any value `c0` of the constant `1/√2`.
-/
module

public import proofs.«01_k».proof.Proof.Mach

@[expose] public section

noncomputable section

namespace Cert.Vit

open Idealize.ShloMosaic Idealize.SL.Sem

variable {F : FTy → Type} [FloatOps F]

/-! ## Rectangles -/

theorem forall2 {p : Fin 2 → Prop} (h0 : p 0) (h1 : p 1) : ∀ a, p a := fun a => Fin.cases h0 (fun a => Fin.cases h1 (fun a => a.elim0) a) a
theorem forall3 {p : Fin 3 → Prop} (h0 : p 0) (h1 : p 1) (h2 : p 2) : ∀ a, p a :=
  fun a => Fin.cases h0 (fun a => Fin.cases h1 (fun a => Fin.cases h2 (fun a => a.elim0) a) a) a

/-- The `a × b` rectangle at row `i`, column `j` of a matrix. -/
@[reducible] def r2 {A B : Nat} (i j a b : Nat) (h0 : i + a ≤ A) (h1 : j + b ≤ B) : Rect (⟨2, ![A, B]⟩ : Shape) :=
  Rect.unit (s := ⟨2, ![A, B]⟩) ![i, j] (Shape.size ⟨2, ![a, b]⟩) (forall2 h0 h1)

/-- The `1 × a × b` rectangle at row `i`, column `j` of a block of one matrix. -/
@[reducible] def r3 {A B : Nat} (i j a b : Nat) (h0 : i + a ≤ A) (h1 : j + b ≤ B) : Rect (⟨3, ![1, A, B]⟩ : Shape) :=
  Rect.unit (s := ⟨3, ![1, A, B]⟩) ![0, i, j] (Shape.size ⟨3, ![1, a, b]⟩) (forall3 (le_refl 1) h0 h1)

theorem packed2 {A B : Nat} (i j a b : Nat) (h0 : i + a ≤ A) (h1 : j + b ≤ B) (p : Nat) (hi : p ∣ i) (ha : p ∣ a) :
    (r2 (A := A) (B := B) i j a b h0 h1).PackedRows p :=
  .inr ⟨le_refl 2, rfl, .inl ⟨hi, ha⟩⟩

theorem packed3 {A B : Nat} (i j a b : Nat) (h0 : i + a ≤ A) (h1 : j + b ≤ B) (p : Nat) (hi : p ∣ i) (ha : p ∣ a) :
    (r3 (A := A) (B := B) i j a b h0 h1).PackedRows p :=
  .inr ⟨(Nat.le_succ 2 : 2 ≤ 3), rfl, .inl ⟨hi, ha⟩⟩

theorem col8 (c : Fin 8) : 128 * c.val + 128 ≤ 1024 := by omega
theorem col32 (c : Fin 32) : 128 * c.val + 128 ≤ 4096 := by omega
theorem wide4 (n : Fin 4) : 256 * n.val + 256 ≤ 1024 := by omega
theorem wide16 (n : Fin 16) : 256 * n.val + 256 ≤ 4096 := by omega
theorem deep8 (k : Fin 8) : 512 * k.val + 512 ≤ 4096 := by omega
theorem half2 (r : Fin 2) : 128 * r.val + 128 ≤ 256 := by omega

/-- The `c`-th of the two column tiles under the `n`-th wide column tile, of eight. -/
def sub8 (n : Fin 4) (c : Fin 2) : Fin 8 := ⟨2 * n.val + c.val, by omega⟩
/-- The `c`-th of the two column tiles under the `n`-th wide column tile, of thirty-two. -/
def sub32 (n : Fin 16) (c : Fin 2) : Fin 32 := ⟨2 * n.val + c.val, by omega⟩
/-- The `c`-th of the four column tiles under the `k`-th deep tile. -/
def quad32 (k : Fin 8) (c : Fin 4) : Fin 32 := ⟨4 * k.val + c.val, by omega⟩

/-! ## Loads and stores -/

instance : Monad (K F) where
  pure := .ret
  bind := K.bind

/-- Load a rectangle. -/
def K.load (n : Nm) (r : Rect (sh n)) (h : 0 < r.shape.numel) : K F (r.shape.Idx → Elt F (el n)) :=
  .ld n r.toLoadRect h .ret

/-- Store to a rectangle, after a load of it whose result is not used. -/
def K.store (n : Nm) (r : Rect (sh n)) (h : 0 < r.shape.numel) (hp : r.PackedRows (el n).packing) (hs : ∀ a, r.stride a = 1)
    (w : r.shape.Idx → Elt F (el n)) : K F Unit :=
  .ld n r.toLoadRect h fun _ => .st n r h hp hs w (.ret ())

/-! ## The vector functions -/

theorem slices_tile : ∀ c : Fin 2, s256x256.Slices ![0, 128 * c.val] s256x128 := by decide
/-- One of the two column tiles of a wide tile. -/
def tile (acc : FVec F s256x256 .f32) (c : Fin 2) : FVec F s256x128 .f32 :=
  extractStridedSlice s256x128 ![0, 128 * c.val] acc (slices_tile c)

theorem slices_fold : ∀ k : Fin 16, s128x128.Slices ![8 * k.val, 0] s8x128 := by decide
theorem rotates_fold : s8x128.Rotates 0 none := by decide
theorem transposes_sq : s128x128.Transposes [1, 0] s128x128 := by decide

/-- The `k`-th block of eight rows. -/
def rows8 (v : FVec F s128x128 .f32) (k : Fin 16) : FVec F s8x128 .f32 := extractStridedSlice s8x128 ![8 * k.val, 0] v (slices_fold k)

/-- Rows folded to lanes: the columns of `m` combined by `f`, the result of row `r` at lane `r` of every one of eight rows. -/
def foldRows (f : FVec F s8x128 .f32 → FVec F s8x128 .f32 → FVec F s8x128 .f32) (m : FVec F s128x128 .f32) : FVec F s8x128 .f32 :=
  let t := transpose s128x128 [1, 0] m transposes_sq
  let v := f (f (f (f (f (f (f (f (f (f (f (f (f (f (f (rows8 t 0) (rows8 t 1)) (rows8 t 2)) (rows8 t 3)) (rows8 t 4)) (rows8 t 5))
    (rows8 t 6)) (rows8 t 7)) (rows8 t 8)) (rows8 t 9)) (rows8 t 10)) (rows8 t 11)) (rows8 t 12)) (rows8 t 13)) (rows8 t 14)) (rows8 t 15)
  let v4 := f v (dynamicRotate 0 4#32 none v rotates_fold)
  let v2 := f v4 (dynamicRotate 0 2#32 none v4 rotates_fold)
  f v2 (dynamicRotate 0 1#32 none v2 rotates_fold)

theorem concatenates16 : Shape.Concatenates [s8x128, s8x128, s8x128, s8x128, s8x128, s8x128, s8x128, s8x128, s8x128, s8x128, s8x128,
    s8x128, s8x128, s8x128, s8x128, s8x128] s128x128 0 := by decide
theorem concatenates2 : Shape.Concatenates [s128x128, s128x128] s256x128 0 := by decide

/-- Lanes spread back to rows: row `r` of the result is filled with lane `r` of `v`. -/
def spread (v : FVec F s8x128 .f32) : FVec F s128x128 .f32 :=
  transpose s128x128 [1, 0] (concatenate s128x128 0 [⟨s8x128, v⟩, ⟨s8x128, v⟩, ⟨s8x128, v⟩, ⟨s8x128, v⟩, ⟨s8x128, v⟩, ⟨s8x128, v⟩,
    ⟨s8x128, v⟩, ⟨s8x128, v⟩, ⟨s8x128, v⟩, ⟨s8x128, v⟩, ⟨s8x128, v⟩, ⟨s8x128, v⟩, ⟨s8x128, v⟩, ⟨s8x128, v⟩, ⟨s8x128, v⟩, ⟨s8x128, v⟩]
    concatenates16) transposes_sq

theorem slices_lane : ∀ c : Fin 2, s8x256.Slices ![0, 128 * c.val] s8x128 := by decide
/-- The same for a row of 256 lanes. -/
def spread256 (v : FVec F s8x256 .f32) : FVec F s256x128 .f32 :=
  concatenate s256x128 0 [⟨s128x128, spread (extractStridedSlice s8x128 ![0, 128 * (0 : Fin 2).val] v (slices_lane 0))⟩,
    ⟨s128x128, spread (extractStridedSlice s8x128 ![0, 128 * (1 : Fin 2).val] v (slices_lane 1))⟩] concatenates2

theorem cast_row : s1x256.ShapeCasts s1x256 := by decide
theorem bcast_32 : s1x256.Broadcasts s32x256 := by decide
theorem slices_32 : s32x256.Slices ![0, 0] s8x256 := by decide
/-- The segment ids of the rows, as floats. -/
def segCol (v : IVec s1x256 32) : FVec F s256x128 .f32 :=
  spread256 (extractStridedSlice s8x256 ![0, 0] (broadcastTo s32x256 (shapeCast s1x256 (sitofp .f32 v) cast_row) bcast_32) slices_32)

theorem cast_os : s1x1x256.ShapeCasts s1x256 := by decide
theorem bcast_8 : s1x256.Broadcasts s8x256 := by decide
/-- The scales of the rows. -/
def scaleCol (v : FVec F s1x1x256 .f32) : FVec F s256x128 .f32 :=
  spread256 (broadcastTo s8x256 (shapeCast s1x256 (shapeCast s1x256 v cast_os) cast_row) bcast_8)

def dotO : DotDims s256x1152 s1152x256 s256x256 where
  lhsContracting := [1]
  rhsContracting := [0]
  lhsNonContracting := [0]
  rhsNonContracting := [1]
  lhsBatch := []
  rhsBatch := []
  wf := by decide
def dot1 : DotDims s256x1024 s1024x256 s256x256 where
  lhsContracting := [1]
  rhsContracting := [0]
  lhsNonContracting := [0]
  rhsNonContracting := [1]
  lhsBatch := []
  rhsBatch := []
  wf := by decide
def dot2 : DotDims s256x512 s512x256 s256x256 where
  lhsContracting := [1]
  rhsContracting := [0]
  lhsNonContracting := [0]
  rhsNonContracting := [1]
  lhsBatch := []
  rhsBatch := []
  wf := by decide

theorem cast_oc : s1x256x1152.ShapeCasts s256x1152 := by decide
theorem cast_gc : s1x256x512.ShapeCasts s256x512 := by decide
theorem cast_x : s1x256x128.ShapeCasts s256x128 := by decide
theorem cast_y : s256x128.ShapeCasts s1x256x128 := by decide
theorem cast_c : s128x128.ShapeCasts s1x128x128 := by decide
theorem cast_s : s1x128.ShapeCasts s1x1x128 := by decide
theorem cast_256x128 : s256x128.ShapeCasts s256x128 := by decide
theorem cast_128x128 : s128x128.ShapeCasts s128x128 := by decide
theorem cast_256x1024 : s256x1024.ShapeCasts s256x1024 := by decide
theorem bcast_256 : s1x128.Broadcasts s256x128 := by decide
theorem bcast_128 : s1x128.Broadcasts s128x128 := by decide

/-- A wide column tile of the output projection's integer products. -/
def accO (a : FVec F s1x256x1152 .fp8e4m3) (b : FVec F s1152x256 .fp8e4m3) : FVec F s256x256 .f32 :=
  matmul dotO none (shapeCast s256x1152 a cast_oc) b (constant s256x256 .f32 0x00000000#32)
/-- A wide column tile of the first MLP product. -/
def acc1 (a : FVec F s256x1024 .fp8e4m3) (b : FVec F s1024x256 .fp8e4m3) : FVec F s256x256 .f32 :=
  matmul dot1 none a b (constant s256x256 .f32 0x00000000#32)
/-- A wide column tile of one chunk of the second MLP product. -/
def acc2 (a : FVec F s1x256x512 .fp8e4m3) (b : FVec F s512x256 .fp8e4m3) : FVec F s256x256 .f32 :=
  matmul dot2 none (shapeCast s256x512 a cast_gc) b (constant s256x256 .f32 0x00000000#32)

/-- A product's tile scaled by the row scales and the column scales, plus the bias. -/
def affine (t sc : FVec F s256x128 .f32) (w b : FVec F s1x128 .f32) : FVec F s256x128 .f32 :=
  addf (mulf (mulf t sc) (broadcastTo s256x128 w bcast_256)) (broadcastTo s256x128 b bcast_256)

/-- The widened input tile. -/
def xTile (v : FVec F s1x256x128 .bf16) : FVec F s256x128 .f32 := extf .f32 (shapeCast s256x128 v cast_x) (by decide)

/-- Eight tiles' entrywise sum. -/
def sum8 (v : Fin 8 → FVec F s128x128 .f32) : FVec F s128x128 .f32 :=
  addf (addf (addf (addf (addf (addf (addf (v 0) (v 1)) (v 2)) (v 3)) (v 4)) (v 5)) (v 6)) (v 7)
/-- Eight tiles' entrywise largest. -/
def max8 (v : Fin 8 → FVec F s128x128 .f32) : FVec F s128x128 .f32 :=
  maximumf (maximumf (maximumf (maximumf (maximumf (maximumf (maximumf (v 0) (v 1)) (v 2)) (v 3)) (v 4)) (v 5)) (v 6)) (v 7)

/-- The mean of each row of eight tiles, one row per lane. -/
def mean8 (v : Fin 8 → FVec F s128x128 .f32) : FVec F s8x128 .f32 :=
  mulf (foldRows addf (sum8 v)) (broadcast s8x128 (Scalar.ofBits .f32 0x3A800000#32))

/-- The reciprocal square root of variance plus epsilon, per row. -/
def rstd (d : Fin 8 → FVec F s128x128 .f32) : FVec F s128x128 .f32 :=
  spread (rsqrt (addf (mean8 fun j => mulf (d j) (d j)) (broadcast s8x128 (Scalar.ofBits .f32 0x358637BD#32))))

/-- A normalised tile. -/
def normT (d r : FVec F s128x128 .f32) (g b : FVec F s1x128 .f32) : FVec F s128x128 .f32 :=
  addf (mulf (mulf d r) (broadcastTo s128x128 g bcast_128)) (broadcastTo s128x128 b bcast_128)

/-- The exponent of the smallest power of two `> a / 448` (zero at zero). -/
def expo (a : FVec F s8x128 .f32) : IVec s8x128 32 :=
  let p := mulf a (broadcast s8x128 (Scalar.ofBits .f32 0x3B124925#32))
  let e := addi (fptosi 32 (floor (mulf (log p) (broadcast s8x128 (Scalar.ofBits .f32 0x3FB8AA3B#32))))) (broadcast s8x128 1#32)
  select (cmpf .oeq p (broadcast s8x128 (Scalar.ofBits .f32 0x00000000#32))) (broadcast s8x128 0#32) e

/-- Two to the exponent. -/
def pow2 (e : IVec s8x128 32) : FVec F s8x128 .f32 :=
  bitcastToFloat .f32 (shli (addi e (broadcast s8x128 127#32)) (broadcast s8x128 23#32))
/-- Two to minus the exponent. -/
def pow2inv (e : IVec s8x128 32) : FVec F s8x128 .f32 :=
  bitcastToFloat .f32 (shli (subi (broadcast s8x128 127#32) e) (broadcast s8x128 23#32))

theorem slices_one : s8x128.Slices ![0, 0] s1x128 := by decide
/-- One row of the scales, as stored. -/
def scaleRow (v : FVec F s8x128 .f32) : FVec F s1x1x128 .f32 :=
  shapeCast s1x1x128 (extractStridedSlice s1x128 ![0, 0] v slices_one) cast_s

/-- Clip to ±448 and round to a code. -/
def codes {s : Shape} (v : FVec F s .f32) : FVec F s .fp8e4m3 :=
  truncf .fp8e4m3 (minimumf (broadcast s (Scalar.ofBits .f32 0x43E00000#32)) (maximumf (broadcast s (Scalar.ofBits .f32 0xC3E00000#32)) v))
    (by decide)

/-- `u (1 + erf u)`. -/
def gelu (u : FVec F s256x128 .f32) : FVec F s256x128 .f32 :=
  mulf u (addf (broadcast s256x128 (Scalar.ofBits .f32 0x3F800000#32)) (erf u))

/-- Which rows are kept. -/
def keep (v : FVec F s256x128 .f32) : IVec s256x128 1 := cmpf .one v (broadcast s256x128 (Scalar.ofBits .f32 0x40400000#32))

/-- The layer's result, zero where the row is not kept. -/
def outTile (k : IVec s256x128 1) (h o : FVec F s256x128 .f32) : FVec F s1x256x128 .bf16 :=
  shapeCast s1x256x128 (truncf .bf16 (select k (addf h o) (broadcast s256x128 (Scalar.ofBits .f32 0x00000000#32))) (by decide)) cast_y

theorem pos_256x1024 : 0 < s256x1024.numel := by decide
theorem pos_256x128 : 0 < s256x128.numel := by decide
theorem pos_128x128 : 0 < s128x128.numel := by decide
theorem pos_1x256x128 : 0 < s1x256x128.numel := by decide
theorem pos_1x128x128 : 0 < s1x128x128.numel := by decide
theorem pos_1x1x128 : 0 < s1x1x128.numel := by decide
theorem pos_1x1x256 : 0 < s1x1x256.numel := by decide
theorem pos_1x256 : 0 < s1x256.numel := by decide
theorem pos_1x128 : 0 < s1x128.numel := by decide
theorem pos_1x256x1152 : 0 < s1x256x1152.numel := by decide
theorem pos_1152x256 : 0 < s1152x256.numel := by decide
theorem pos_1024x256 : 0 < s1024x256.numel := by decide
theorem pos_1x256x512 : 0 < s1x256x512.numel := by decide
theorem pos_512x256 : 0 < s512x256.numel := by decide

/-- Four rows per word: a tile of 128 rows starts on a word. -/
theorem four (r : Fin 2) : 4 ∣ 128 * r.val := Dvd.dvd.mul_right (by decide) _

/-! ## The pieces -/

/-- The four running sums of the second MLP product. -/
abbrev Acc (F : FTy → Type) := Fin 4 → FVec F s256x256 .f32

/-- The residual stream, the code scales and the segment ids handed from the front to the back. -/
def carry : K F Unit := do
  let v : FVec F s256x1024 .f32 ← K.load .h (r2 0 0 256 1024 (by decide) (by decide)) pos_256x1024
  K.store .hm (r2 0 0 256 1024 (by decide) (by decide)) pos_256x1024 (packed2 _ _ _ _ _ _ _ (one_dvd _) (one_dvd _)) (fun _ => rfl) (shapeCast s256x1024 v cast_256x1024)
  let v : FVec F s256x128 .f32 ← K.load .scol (r2 0 0 256 128 (by decide) (by decide)) pos_256x128
  K.store .scolm (r2 0 0 256 128 (by decide) (by decide)) pos_256x128 (packed2 _ _ _ _ _ _ _ (one_dvd _) (one_dvd _)) (fun _ => rfl) (shapeCast s256x128 v cast_256x128)
  let v : FVec F s256x128 .f32 ← K.load .segcol (r2 0 0 256 128 (by decide) (by decide)) pos_256x128
  K.store .segcolm (r2 0 0 256 128 (by decide) (by decide)) pos_256x128 (packed2 _ _ _ _ _ _ _ (one_dvd _) (one_dvd _)) (fun _ => rfl) (shapeCast s256x128 v cast_256x128)

/-- The segment ids of one batch's rows, at row offset `off` of the table. -/
def masks (off : Fin 2 → Nat) (hoff : ∀ a, off a + s1x256.size a ≤ s6x256.size a) : K F Unit := do
  let v : IVec s1x256 32 ← K.load .seg (Rect.unit (s := s6x256) off s1x256.size hoff) pos_1x256
  K.store .segcol (r2 0 0 256 128 (by decide) (by decide)) pos_256x128 (packed2 _ _ _ _ _ _ _ (one_dvd _) (one_dvd _)) (fun _ => rfl) (shapeCast s256x128 (segCol v) cast_256x128)

/-- The scales of the attention codes, one per row. -/
def oscale : K F Unit := do
  let v : FVec F s1x1x256 .f32 ← K.load .os (r3 0 0 1 256 (by decide) (by decide)) pos_1x1x256
  K.store .scol (r2 0 0 256 128 (by decide) (by decide)) pos_256x128 (packed2 _ _ _ _ _ _ _ (one_dvd _) (one_dvd _)) (fun _ => rfl) (shapeCast s256x128 (scaleCol v) cast_256x128)

/-- One column tile of the residual stream after the output projection. -/
def oprojTile (acc : FVec F s256x256 .f32) (c : Fin 2) (j : Fin 8) : K F Unit := do
  let x : FVec F s1x256x128 .bf16 ← K.load .x (r3 0 (128 * j.val) 256 128 (by decide) (col8 j)) pos_1x256x128
  let sc : FVec F s256x128 .f32 ← K.load .scol (r2 0 0 256 128 (by decide) (by decide)) pos_256x128
  let w : FVec F s1x128 .f32 ← K.load .so (r2 0 (128 * j.val) 1 128 (by decide) (col8 j)) pos_1x128
  let b : FVec F s1x128 .f32 ← K.load .bo (r2 0 (128 * j.val) 1 128 (by decide) (col8 j)) pos_1x128
  K.store .h (r2 0 (128 * j.val) 256 128 (by decide) (col8 j)) pos_256x128 (packed2 _ _ _ _ _ _ _ (one_dvd _) (one_dvd _)) (fun _ => rfl)
    (shapeCast s256x128 (addf (xTile x) (affine (tile acc c) sc w b)) cast_256x128)

/-- Two column tiles of it. -/
def oproj (n : Fin 4) : K F Unit := do
  let a : FVec F s1x256x1152 .fp8e4m3 ← K.load .oc (r3 0 0 256 1152 (by decide) (by decide)) pos_1x256x1152
  let b : FVec F s1152x256 .fp8e4m3 ← K.load .wo (r2 0 (256 * n.val) 1152 256 (by decide) (wide4 n)) pos_1152x256
  oprojTile (accO a b) 0 (sub8 n 0)
  oprojTile (accO a b) 1 (sub8 n 1)

/-- The `j`-th tile of row block `r` of the residual stream. -/
def loadH (r : Fin 2) (j : Fin 8) : K F (FVec F s128x128 .f32) :=
  K.load .h (r2 (128 * r.val) (128 * j.val) 128 128 (half2 r) (col8 j)) pos_128x128
/-- The `j`-th tile of row block `r` of the working buffer. -/
def loadT (r : Fin 2) (j : Fin 8) : K F (FVec F s128x128 .f32) :=
  K.load .tmp (r2 (128 * r.val) (128 * j.val) 128 128 (half2 r) (col8 j)) pos_128x128
/-- Store it. -/
def storeT (r : Fin 2) (j : Fin 8) (v : FVec F s128x128 .f32) : K F Unit :=
  K.store .tmp (r2 (128 * r.val) (128 * j.val) 128 128 (half2 r) (col8 j)) pos_128x128 (packed2 _ _ _ _ _ _ _ (one_dvd _) (one_dvd _)) (fun _ => rfl) (shapeCast s128x128 v cast_128x128)

/-- Eight results. -/
def all8 {α : Type} (f : Fin 8 → K F α) : K F (Fin 8 → α) := do
  let v0 ← f 0
  let v1 ← f 1
  let v2 ← f 2
  let v3 ← f 3
  let v4 ← f 4
  let v5 ← f 5
  let v6 ← f 6
  let v7 ← f 7
  .ret ![v0, v1, v2, v3, v4, v5, v6, v7]

/-- Row block `r` of the residual stream less its row means. -/
def center (r : Fin 2) : K F Unit := do
  let v ← all8 (loadH r)
  let m := spread (mean8 v)
  let _ ← all8 fun j => storeT r j (subf (v j) m)
  .ret ()

/-- One tile normalised, in place. -/
def normStep (r : Fin 2) (d : Fin 8 → FVec F s128x128 .f32) (s : FVec F s128x128 .f32) (j : Fin 8) : K F (FVec F s128x128 .f32) := do
  let g : FVec F s1x128 .f32 ← K.load .g2 (r2 0 (128 * j.val) 1 128 (by decide) (col8 j)) pos_1x128
  let b : FVec F s1x128 .f32 ← K.load .b2 (r2 0 (128 * j.val) 1 128 (by decide) (col8 j)) pos_1x128
  storeT r j (normT (d j) s g b)
  .ret (normT (d j) s g b)

/-- One tile's codes. -/
def codeStep (r : Fin 2) (inv : FVec F s128x128 .f32) (j : Fin 8) : K F Unit := do
  let t ← loadT r j
  .ldq (r2 (128 * r.val) (128 * j.val) 128 128 (half2 r) (col8 j)).toLoadRect pos_128x128 (.ret ())
  .st .a2c (r3 (128 * r.val) (128 * j.val) 128 128 (half2 r) (col8 j)) pos_1x128x128 (packed3 _ _ _ _ _ _ _ (four r) (by decide)) (fun _ => rfl)
    (shapeCast s1x128x128 (codes (mulf t inv)) cast_c) (.ret ())
  K.store .a2m (r2 (128 * r.val) (128 * j.val) 128 128 (half2 r) (col8 j)) pos_128x128 (packed2 _ _ _ _ _ _ _ (four r) (by decide)) (fun _ => rfl)
    (shapeCast s128x128 (codes (mulf t inv)) cast_128x128)

/-- Row block `r` normalised and quantised. -/
def last (r : Fin 2) : K F Unit := do
  let d ← all8 (loadT r)
  let u ← all8 (normStep r d (rstd d))
  let e := expo (foldRows maximumf (max8 fun j => absf (u j)))
  K.store .a2s (r3 0 (128 * r.val) 1 128 (by decide) (half2 r)) pos_1x1x128 (packed3 _ _ _ _ _ _ _ (one_dvd _) (one_dvd _)) (fun _ => rfl) (scaleRow (pow2 e))
  K.store .scol (r2 (128 * r.val) 0 128 128 (half2 r) (by decide)) pos_128x128 (packed2 _ _ _ _ _ _ _ (one_dvd _) (one_dvd _)) (fun _ => rfl) (shapeCast s128x128 (spread (pow2 e)) cast_128x128)
  let _ ← all8 (codeStep r (spread (pow2inv e)))
  .ret ()

/-- One column tile of `t (1 + erf t)`, `t` the first MLP product over `√2`. -/
def fc1Tile (c0 : F .f32) (acc : FVec F s256x256 .f32) (c : Fin 2) (j : Fin 32) : K F (FVec F s256x128 .f32) := do
  let sc : FVec F s256x128 .f32 ← K.load .scolm (r2 0 0 256 128 (by decide) (by decide)) pos_256x128
  let w : FVec F s1x128 .f32 ← K.load .s1 (r2 0 (128 * j.val) 1 128 (by decide) (col32 j)) pos_1x128
  let b : FVec F s1x128 .f32 ← K.load .c1 (r2 0 (128 * j.val) 1 128 (by decide) (col32 j)) pos_1x128
  let g := gelu (affine (tile acc c) sc (mulf w (broadcast s1x128 c0)) (mulf b (broadcast s1x128 c0)))
  K.store .gl (r2 0 (128 * j.val) 256 128 (by decide) (col32 j)) pos_256x128 (packed2 _ _ _ _ _ _ _ (one_dvd _) (one_dvd _)) (fun _ => rfl) (shapeCast s256x128 g cast_256x128)
  .ret g

/-- Two column tiles of it, and the running largest magnitude. -/
def fc1 (c0 : F .f32) (n : Fin 16) : K F Unit := do
  let a : FVec F s256x1024 .fp8e4m3 ← K.load .a2m (r2 0 0 256 1024 (by decide) (by decide)) pos_256x1024
  let b : FVec F s1024x256 .fp8e4m3 ← K.load .w1 (r2 0 (256 * n.val) 1024 256 (by decide) (wide16 n)) pos_1024x256
  let g0 ← fc1Tile c0 (acc1 a b) 0 (sub32 n 0)
  let g1 ← fc1Tile c0 (acc1 a b) 1 (sub32 n 1)
  let mag := maximumf (absf g0) (absf g1)
  match n with
  | 0 => K.store .gmax (r2 0 0 256 128 (by decide) (by decide)) pos_256x128 (packed2 _ _ _ _ _ _ _ (one_dvd _) (one_dvd _)) (fun _ => rfl) (shapeCast s256x128 mag cast_256x128)
  | _ => do
    let m : FVec F s256x128 .f32 ← K.load .gmax (r2 0 0 256 128 (by decide) (by decide)) pos_256x128
    K.store .gmax (r2 0 0 256 128 (by decide) (by decide)) pos_256x128 (packed2 _ _ _ _ _ _ _ (one_dvd _) (one_dvd _)) (fun _ => rfl) (shapeCast s256x128 (maximumf m mag) cast_256x128)

/-- The scales of row block `r` of the activation, and the factors its codes are taken with. -/
def gscale (c0 : F .f32) (r : Fin 2) : K F Unit := do
  let m : FVec F s128x128 .f32 ← K.load .gmax (r2 (128 * r.val) 0 128 128 (half2 r) (by decide)) pos_128x128
  let e := expo (mulf (foldRows maximumf m) (broadcast s8x128 c0))
  K.store .gs (r3 0 (128 * r.val) 1 128 (by decide) (half2 r)) pos_1x1x128 (packed3 _ _ _ _ _ _ _ (one_dvd _) (one_dvd _)) (fun _ => rfl) (scaleRow (pow2 e))
  K.store .scolm (r2 (128 * r.val) 0 128 128 (half2 r) (by decide)) pos_128x128 (packed2 _ _ _ _ _ _ _ (one_dvd _) (one_dvd _)) (fun _ => rfl) (shapeCast s128x128 (spread (pow2 e)) cast_128x128)
  K.store .gmax (r2 (128 * r.val) 0 128 128 (half2 r) (by decide)) pos_128x128 (packed2 _ _ _ _ _ _ _ (one_dvd _) (one_dvd _)) (fun _ => rfl)
    (shapeCast s128x128 (mulf (spread (pow2inv e)) (broadcast s128x128 c0)) cast_128x128)

/-- One column tile of the activation's codes. -/
def gcodesTile (j : Fin 32) : K F Unit := do
  let t : FVec F s256x128 .f32 ← K.load .gl (r2 0 (128 * j.val) 256 128 (by decide) (col32 j)) pos_256x128
  let m : FVec F s256x128 .f32 ← K.load .gmax (r2 0 0 256 128 (by decide) (by decide)) pos_256x128
  K.store .gc (r3 0 (128 * j.val) 256 128 (by decide) (col32 j)) pos_1x256x128 (packed3 _ _ _ _ _ _ _ (by decide) (by decide)) (fun _ => rfl)
    (shapeCast s1x256x128 (codes (mulf t m)) cast_y)

/-- Four column tiles of them. -/
def gcodes (k : Fin 8) : K F Unit := do
  gcodesTile (quad32 k 0)
  gcodesTile (quad32 k 1)
  gcodesTile (quad32 k 2)
  gcodesTile (quad32 k 3)

/-- One chunk of the second MLP product, added to its running sum. -/
def fc2dot (k : Fin 8) (n : Fin 4) (acc : Acc F) : K F (Acc F) := do
  let a : FVec F s1x256x512 .fp8e4m3 ← K.load .gc (r3 0 (512 * k.val) 256 512 (by decide) (deep8 k)) pos_1x256x512
  let b : FVec F s512x256 .fp8e4m3 ← K.load .w2 (r2 (512 * k.val) (256 * n.val) 512 256 (deep8 k) (wide4 n)) pos_512x256
  .ret (Function.update acc n (match k with | 0 => acc2 a b | _ => addf (acc n) (acc2 a b)))

/-- One column tile of the layer's result. -/
def fc2Tile (k : IVec s256x128 1) (acc : FVec F s256x256 .f32) (c : Fin 2) (j : Fin 8) : K F Unit := do
  let h : FVec F s256x128 .f32 ← K.load .hm (r2 0 (128 * j.val) 256 128 (by decide) (col8 j)) pos_256x128
  let sc : FVec F s256x128 .f32 ← K.load .scolm (r2 0 0 256 128 (by decide) (by decide)) pos_256x128
  let w : FVec F s1x128 .f32 ← K.load .s2 (r2 0 (128 * j.val) 1 128 (by decide) (col8 j)) pos_1x128
  let b : FVec F s1x128 .f32 ← K.load .c2 (r2 0 (128 * j.val) 1 128 (by decide) (col8 j)) pos_1x128
  K.store .y (r3 0 (128 * j.val) 256 128 (by decide) (col8 j)) pos_1x256x128 (packed3 _ _ _ _ _ _ _ (by decide) (by decide)) (fun _ => rfl)
    (outTile k h (affine (tile acc c) sc w b))

/-- Two column tiles of it. -/
def fc2 (n : Fin 4) (acc : Acc F) : K F Unit := do
  let m : FVec F s256x128 .f32 ← K.load .segcolm (r2 0 0 256 128 (by decide) (by decide)) pos_256x128
  fc2Tile (keep m) (acc n) 0 (sub8 n 0)
  fc2Tile (keep m) (acc n) 1 (sub8 n 1)

/-! ## The orders -/

/-- The names of the pieces. -/
inductive Pc
  | masks | oscale | oproj (n : Fin 4) | center (r : Fin 2) | last (r : Fin 2)
  | fc1 (n : Fin 16) | gscale (r : Fin 2) | gcodes (k : Fin 8) | dot (k : Fin 8) (n : Fin 4) | fc2 (n : Fin 4)

/-- What a piece runs, over the running sums. -/
def Pc.run (c0 : F .f32) (off : Fin 2 → Nat) (hoff : ∀ a, off a + s1x256.size a ≤ s6x256.size a) : Pc → Acc F → K F (Acc F)
  | .masks, acc => K.bind (Vit.masks off hoff) fun _ => .ret acc
  | .oscale, acc => K.bind Vit.oscale fun _ => .ret acc
  | .oproj n, acc => K.bind (Vit.oproj n) fun _ => .ret acc
  | .center r, acc => K.bind (Vit.center r) fun _ => .ret acc
  | .last r, acc => K.bind (Vit.last r) fun _ => .ret acc
  | .fc1 n, acc => K.bind (Vit.fc1 c0 n) fun _ => .ret acc
  | .gscale r, acc => K.bind (Vit.gscale c0 r) fun _ => .ret acc
  | .gcodes k, acc => K.bind (Vit.gcodes k) fun _ => .ret acc
  | .dot k n, acc => Vit.fc2dot k n acc
  | .fc2 n, acc => K.bind (Vit.fc2 n acc) fun _ => .ret acc

/-- Pieces in order. -/
def runAll (c0 : F .f32) (off : Fin 2 → Nat) (hoff : ∀ a, off a + s1x256.size a ≤ s6x256.size a) : List Pc → Acc F → K F (Acc F)
  | [], acc => .ret acc
  | p :: l, acc => K.bind (p.run c0 off hoff acc) (runAll c0 off hoff l)

/-- The front: a batch's output projection and second normalisation. -/
def frontL : List Pc :=
  [.masks, .oscale, .oproj 0, .oproj 1, .oproj 2, .oproj 3, .center 0, .last 0, .center 1, .last 1]

/-- The back: a batch's MLP. -/
def backL : List Pc :=
  [.fc1 0, .fc1 1, .fc1 2, .fc1 3, .fc1 4, .fc1 5, .fc1 6, .fc1 7, .fc1 8, .fc1 9, .fc1 10, .fc1 11, .fc1 12, .fc1 13, .fc1 14, .fc1 15,
   .gscale 0, .gscale 1,
   .gcodes 0, .dot 0 0, .dot 0 1, .dot 0 2, .dot 0 3, .gcodes 1, .dot 1 0, .dot 1 1, .dot 1 2, .dot 1 3,
   .gcodes 2, .dot 2 0, .dot 2 1, .dot 2 2, .dot 2 3, .gcodes 3, .dot 3 0, .dot 3 1, .dot 3 2, .dot 3 3,
   .gcodes 4, .dot 4 0, .dot 4 1, .dot 4 2, .dot 4 3, .gcodes 5, .dot 5 0, .dot 5 1, .dot 5 2, .dot 5 3,
   .gcodes 6, .dot 6 0, .dot 6 1, .dot 6 2, .dot 6 3, .gcodes 7, .dot 7 0, .dot 7 1, .dot 7 2, .dot 7 3,
   .fc2 0, .fc2 1, .fc2 2, .fc2 3]

/-- Two lists interleaved: `true` takes from the first. -/
def interleave : List Bool → List Pc → List Pc → List Pc
  | [], _, _ => []
  | true :: s, a :: l, m => a :: interleave s l m
  | false :: s, l, a :: m => a :: interleave s l m
  | _ :: _, _, _ => []

/-- The order in which a step interleaves its front and its back. -/
def sched : List Bool :=
  [false, false, false, true, false, false, false, false, false, false, true, false, false, false, false, false, false, true,
   false, false, false, false, false, false, false, true, false, false, false, false, false, false, true, false, false, false,
   false, false, false, true, false, false, false, false, false, false, true, false, false, false, false, false, false, true,
   false, false, false, false, false, false, false, true, false, false, false, false, false, false, true, false, false, false]

/-- The first step. -/
def first (c0 : F .f32) (off : Fin 2 → Nat) (hoff : ∀ a, off a + s1x256.size a ≤ s6x256.size a) : K F (Acc F) :=
  runAll c0 off hoff frontL fun _ => constant s256x256 .f32 0x00000000#32
/-- A middle step. -/
def middle (c0 : F .f32) (off : Fin 2 → Nat) (hoff : ∀ a, off a + s1x256.size a ≤ s6x256.size a) : K F (Acc F) :=
  K.bind carry fun _ => runAll c0 off hoff (interleave sched frontL backL) fun _ => constant s256x256 .f32 0x00000000#32
/-- The last step. -/
def final (c0 : F .f32) (off : Fin 2 → Nat) (hoff : ∀ a, off a + s1x256.size a ≤ s6x256.size a) : K F (Acc F) :=
  K.bind carry fun _ => runAll c0 off hoff backL fun _ => constant s256x256 .f32 0x00000000#32

end Cert.Vit
-- ==== Proof.Tiles.lean ====
/-
  Matrices put together from tiles, what a store of one tile does to a partly written matrix, and how
  programs of the small machine that use different buffers run interleaved.
-/
module

public import proofs.«01_k».proof.Proof.Pieces
public import Idealize.ShloMosaic.Lib.Pointwise.Index

@[expose] public section

noncomputable section

namespace Cert.Vit

open Idealize.ShloMosaic Idealize.SL.Sem

/-! ## Reading a rectangle -/

/-- The values of `v` over a rectangle. -/
abbrev rd {s : Shape} {α : Type} (v : s.Idx → α) (r : Rect s) : r.shape.Idx → α := fun j => v (r.toLoadRect.idx j)

/-- `v` is `f` where `d` holds. -/
def On {s : Shape} {α : Type} (d : s.Idx → Prop) (v f : s.Idx → α) : Prop := ∀ i, d i → v i = f i

theorem On.all {s : Shape} {α : Type} {d : s.Idx → Prop} {v f : s.Idx → α} (h : On d v f) (hd : ∀ i, d i) : v = f :=
  funext fun i => h i (hd i)

theorem On.rd {s : Shape} {α : Type} {d : s.Idx → Prop} {v f : s.Idx → α} (h : On d v f) (r : Rect s) (hd : ∀ k, d (r.emb k)) :
    rd v r = rd f r := funext fun k => h _ (hd k)

/-- A store of what `f` says extends the region where the buffer is `f`. -/
theorem On.put {s : Shape} {α : Type} {d d' : s.Idx → Prop} {v f : s.Idx → α} (h : On d v f) (r : Rect s) (w : r.shape.Idx → α)
    (hw : ∀ k, w k = f (r.emb k)) (hd : ∀ i, d' i → d i ∨ ∃ k, r.emb k = i) : On d' (put r w v) f := fun i hi => by
  by_cases hk : ∃ k, r.emb k = i
  · obtain ⟨k, rfl⟩ := hk; rw [put_emb]; exact hw k
  · rw [put_of_not _ _ _ _ fun k e => hk ⟨k, e⟩]
    exact h i ((hd i hi).resolve_right hk)

theorem shapeCast_self {s : Shape} {α : Type} (v : s.Idx → α) (h : s.ShapeCasts s) : shapeCast s v h = v :=
  funext fun i => congrArg v (Shape.reshapeEquiv_self h i)

/-- The indices under a rectangle of a matrix. -/
theorem mem_r2 {A B : Nat} (i j a b : Nat) (h0 : i + a ≤ A) (h1 : j + b ≤ B) (x : (⟨2, ![A, B]⟩ : Shape).Idx)
    (hi : i ≤ (x 0).val) (hi' : (x 0).val < i + a) (hj : j ≤ (x 1).val) (hj' : (x 1).val < j + b) :
    ∃ k, (r2 i j a b h0 h1).emb k = x := by
  refine ⟨ix2 ⟨(x 0).val - i, by omega⟩ ⟨(x 1).val - j, by omega⟩, ?_⟩
  funext c; apply Fin.ext
  match c with
  | ⟨0, _⟩ => show i + 1 * ((x 0).val - i) = (x 0).val; omega
  | ⟨1, _⟩ => show j + 1 * ((x 1).val - j) = (x 1).val; omega

theorem mem_r3 {A B : Nat} (i j a b : Nat) (h0 : i + a ≤ A) (h1 : j + b ≤ B) (x : (⟨3, ![1, A, B]⟩ : Shape).Idx)
    (hi : i ≤ (x 1).val) (hi' : (x 1).val < i + a) (hj : j ≤ (x 2).val) (hj' : (x 2).val < j + b) :
    ∃ k, (r3 i j a b h0 h1).emb k = x := by
  refine ⟨ix3 (0 : Fin 1) ⟨(x 1).val - i, by omega⟩ ⟨(x 2).val - j, by omega⟩, ?_⟩
  funext c; apply Fin.ext
  match c with
  | ⟨0, _⟩ => show 0 + 1 * 0 = (x 0).val; have : (x 0).val < 1 := (x 0).isLt; omega
  | ⟨1, _⟩ => show i + 1 * ((x 1).val - i) = (x 1).val; omega
  | ⟨2, _⟩ => show j + 1 * ((x 2).val - j) = (x 2).val; omega

theorem r2_emb {A B : Nat} (i j a b : Nat) (h0 : i + a ≤ A) (h1 : j + b ≤ B) (x : Fin a) (y : Fin b) :
    (r2 (A := A) (B := B) i j a b h0 h1).emb (ix2 x y) = ix2 ⟨i + x.val, by omega⟩ ⟨j + y.val, by omega⟩ := by
  funext c; apply Fin.ext
  match c with
  | ⟨0, _⟩ => show i + 1 * x.val = i + x.val; omega
  | ⟨1, _⟩ => show j + 1 * y.val = j + y.val; omega

theorem r3_emb {A B : Nat} (i j a b : Nat) (h0 : i + a ≤ A) (h1 : j + b ≤ B) (z : Fin 1) (x : Fin a) (y : Fin b) :
    (r3 (A := A) (B := B) i j a b h0 h1).emb (ix3 z x y) = ix3 (0 : Fin 1) ⟨i + x.val, by omega⟩ ⟨j + y.val, by omega⟩ := by
  funext c; apply Fin.ext
  match c with
  | ⟨0, _⟩ => show 0 + 1 * z.val = 0; omega
  | ⟨1, _⟩ => show i + 1 * x.val = i + x.val; omega
  | ⟨2, _⟩ => show j + 1 * y.val = j + y.val; omega

/-- Reading the whole matrix. -/
theorem rd_whole {A B : Nat} {α : Type} (v : (⟨2, ![A, B]⟩ : Shape).Idx → α) (h0 : 0 + A ≤ A) (h1 : 0 + B ≤ B) : rd v (r2 0 0 A B h0 h1) = v := by
  funext k
  have : (r2 (A := A) (B := B) 0 0 A B h0 h1).emb k = k := by
    refine (congrArg _ (eq_ix2 k)).trans ((r2_emb 0 0 A B h0 h1 (k 0) (k 1)).trans ?_)
    conv_rhs => rw [eq_ix2 k]
    congr 1 <;> exact Fin.ext (Nat.zero_add _)
  exact congrArg v this

/-- Writing the whole matrix. -/
theorem put_whole {A B : Nat} {α : Type} (v w : (⟨2, ![A, B]⟩ : Shape).Idx → α) (h0 : 0 + A ≤ A) (h1 : 0 + B ≤ B) : put (r2 0 0 A B h0 h1) w v = w := by
  refine On.all (d := fun _ => True) (On.put (d := fun _ => False) (fun _ h => h.elim) _ _ (fun k => ?_) fun i _ => .inr ?_) fun _ => trivial
  · exact (congrFun (rd_whole w h0 h1) k).symm
  · exact mem_r2 _ _ _ _ _ _ _ (Nat.zero_le _) (by have := (i 0).isLt; simpa using this) (Nat.zero_le _) (by have := (i 1).isLt; simpa using this)

/-! ## Matrices from tiles -/

/-- The matrix with `a × b` tiles `T`. -/
def glue2 {A B p q : Nat} (a b : Nat) (hA : A = a * p) (hB : B = b * q) {α : Type} (T : Fin p → Fin q → (⟨2, ![a, b]⟩ : Shape).Idx → α) :
    (⟨2, ![A, B]⟩ : Shape).Idx → α := fun i =>
  have h0 : (i 0).val < a * p := hA ▸ (i 0).isLt
  have h1 : (i 1).val < b * q := hB ▸ (i 1).isLt
  T ⟨(i 0).val / a, Nat.div_lt_of_lt_mul h0⟩ ⟨(i 1).val / b, Nat.div_lt_of_lt_mul h1⟩
    (ix2 ⟨(i 0).val % a, Nat.mod_lt _ (Nat.pos_of_ne_zero fun e => by simp [e] at h0)⟩
      ⟨(i 1).val % b, Nat.mod_lt _ (Nat.pos_of_ne_zero fun e => by simp [e] at h1)⟩)

/-- The one-matrix block with `1 × a × b` tiles `T`. -/
def glue3 {A B p q : Nat} (a b : Nat) (hA : A = a * p) (hB : B = b * q) {α : Type} (T : Fin p → Fin q → (⟨3, ![1, a, b]⟩ : Shape).Idx → α) :
    (⟨3, ![1, A, B]⟩ : Shape).Idx → α := fun i =>
  have h0 : (i 1).val < a * p := hA ▸ (i 1).isLt
  have h1 : (i 2).val < b * q := hB ▸ (i 2).isLt
  T ⟨(i 1).val / a, Nat.div_lt_of_lt_mul h0⟩ ⟨(i 2).val / b, Nat.div_lt_of_lt_mul h1⟩
    (ix3 (0 : Fin 1) ⟨(i 1).val % a, Nat.mod_lt _ (Nat.pos_of_ne_zero fun e => by simp [e] at h0)⟩
      ⟨(i 2).val % b, Nat.mod_lt _ (Nat.pos_of_ne_zero fun e => by simp [e] at h1)⟩)

theorem congr3 {α β γ δ : Type} (f : α → β → γ → δ) {a a' : α} {b b' : β} {c c' : γ} (ha : a = a') (hb : b = b') (hc : c = c') :
    f a b c = f a' b' c' := by subst ha hb hc; rfl

theorem glue2_ix {A B p q : Nat} (a b : Nat) (hA : A = a * p) (hB : B = b * q) {α : Type} (T : Fin p → Fin q → (⟨2, ![a, b]⟩ : Shape).Idx → α)
    (R : Fin p) (J : Fin q) (x : Fin a) (y : Fin b) (h0 : a * R.val + x.val < A) (h1 : b * J.val + y.val < B) :
    glue2 a b hA hB T (ix2 ⟨a * R.val + x.val, h0⟩ ⟨b * J.val + y.val, h1⟩) = T R J (ix2 x y) := by
  have ha : 0 < a := Nat.pos_of_ne_zero fun e => by subst e; exact x.elim0
  have hb : 0 < b := Nat.pos_of_ne_zero fun e => by subst e; exact y.elim0
  unfold glue2
  refine congr3 T (Fin.ext ?_) (Fin.ext ?_) (congrArg₂ ix2 (Fin.ext ?_) (Fin.ext ?_))
  · show (a * R.val + x.val) / a = R.val
    rw [Nat.mul_add_div ha, Nat.div_eq_of_lt x.isLt, Nat.add_zero]
  · show (b * J.val + y.val) / b = J.val
    rw [Nat.mul_add_div hb, Nat.div_eq_of_lt y.isLt, Nat.add_zero]
  · show (a * R.val + x.val) % a = x.val
    rw [Nat.mul_add_mod, Nat.mod_eq_of_lt x.isLt]
  · show (b * J.val + y.val) % b = y.val
    rw [Nat.mul_add_mod, Nat.mod_eq_of_lt y.isLt]

theorem glue3_ix {A B p q : Nat} (a b : Nat) (hA : A = a * p) (hB : B = b * q) {α : Type} (T : Fin p → Fin q → (⟨3, ![1, a, b]⟩ : Shape).Idx → α)
    (R : Fin p) (J : Fin q) (z : Fin 1) (x : Fin a) (y : Fin b) (h0 : a * R.val + x.val < A) (h1 : b * J.val + y.val < B) :
    glue3 a b hA hB T (ix3 z ⟨a * R.val + x.val, h0⟩ ⟨b * J.val + y.val, h1⟩) = T R J (ix3 (0 : Fin 1) x y) := by
  have ha : 0 < a := Nat.pos_of_ne_zero fun e => by subst e; exact x.elim0
  have hb : 0 < b := Nat.pos_of_ne_zero fun e => by subst e; exact y.elim0
  unfold glue3
  refine congr3 T (Fin.ext ?_) (Fin.ext ?_) (congrArg₂ (ix3 (0 : Fin 1)) (Fin.ext ?_) (Fin.ext ?_))
  · show (a * R.val + x.val) / a = R.val
    rw [Nat.mul_add_div ha, Nat.div_eq_of_lt x.isLt, Nat.add_zero]
  · show (b * J.val + y.val) / b = J.val
    rw [Nat.mul_add_div hb, Nat.div_eq_of_lt y.isLt, Nat.add_zero]
  · show (a * R.val + x.val) % a = x.val
    rw [Nat.mul_add_mod, Nat.mod_eq_of_lt x.isLt]
  · show (b * J.val + y.val) % b = y.val
    rw [Nat.mul_add_mod, Nat.mod_eq_of_lt y.isLt]

theorem glue2_emb {A B p q : Nat} (a b : Nat) (hA : A = a * p) (hB : B = b * q) {α : Type} (T : Fin p → Fin q → (⟨2, ![a, b]⟩ : Shape).Idx → α)
    (R : Fin p) (J : Fin q) (h0 : a * R.val + a ≤ A) (h1 : b * J.val + b ≤ B) (k : (⟨2, ![a, b]⟩ : Shape).Idx) :
    glue2 a b hA hB T ((r2 (a * R.val) (b * J.val) a b h0 h1).emb k) = T R J k := by
  refine (congrArg (fun x => glue2 a b hA hB T ((r2 (a * R.val) (b * J.val) a b h0 h1).emb x)) (eq_ix2 k)).trans ?_
  refine (congrArg (glue2 a b hA hB T) (r2_emb (a * R.val) (b * J.val) a b h0 h1 (k 0) (k 1))).trans ?_
  refine (glue2_ix a b hA hB T R J (k 0) (k 1) _ _).trans (congrArg (T R J) (eq_ix2 k).symm)

theorem glue3_emb {A B p q : Nat} (a b : Nat) (hA : A = a * p) (hB : B = b * q) {α : Type} (T : Fin p → Fin q → (⟨3, ![1, a, b]⟩ : Shape).Idx → α)
    (R : Fin p) (J : Fin q) (h0 : a * R.val + a ≤ A) (h1 : b * J.val + b ≤ B) (k : (⟨3, ![1, a, b]⟩ : Shape).Idx) :
    glue3 a b hA hB T ((r3 (a * R.val) (b * J.val) a b h0 h1).emb k) = T R J k := by
  refine (congrArg (fun x => glue3 a b hA hB T ((r3 (a * R.val) (b * J.val) a b h0 h1).emb x)) (eq_ix3 k)).trans ?_
  refine (congrArg (glue3 a b hA hB T) (r3_emb (a * R.val) (b * J.val) a b h0 h1 (k 0) (k 1) (k 2))).trans ?_
  refine (glue3_ix a b hA hB T R J (0 : Fin 1) (k 1) (k 2) _ _).trans (congrArg (T R J) ?_)
  refine Eq.trans ?_ (eq_ix3 k).symm
  congr 1
  exact Subsingleton.elim (α := Fin 1) _ _

/-! ## Programs side by side -/

variable {F : FTy → Type} [FloatOps F]

namespace K

theorem ok_load {S : Finset Nm} (n : Nm) (r : Rect (sh n)) (h : 0 < r.shape.numel) (hn : n ∈ S) : Ok S (K.load (F := F) n r h) :=
  ⟨hn, fun _ => trivial⟩
theorem ok_store {S : Finset Nm} (n : Nm) (r : Rect (sh n)) (h : 0 < r.shape.numel) (hp : r.PackedRows (el n).packing) (hs : ∀ a, r.stride a = 1)
    (w : r.shape.Idx → Elt F (el n)) (hn : n ∈ S) : Ok S (K.store (F := F) n r h hp hs w) := ⟨hn, fun _ => ⟨hn, trivial⟩⟩

theorem ok_all8 {S : Finset Nm} {α : Type} (f : Fin 8 → K F α) (h : ∀ j, Ok S (f j)) : Ok S (all8 f) :=
  ok_bind (h 0) fun _ => ok_bind (h 1) fun _ => ok_bind (h 2) fun _ => ok_bind (h 3) fun _ => ok_bind (h 4) fun _ =>
    ok_bind (h 5) fun _ => ok_bind (h 6) fun _ => ok_bind (h 7) fun _ => trivial

theorem ok_mono {S T : Finset Nm} (hST : S ⊆ T) {α : Type} (p : K F α) (h : Ok S p) : Ok T p := by
  induction p with
  | ret a => trivial
  | ld n r hn k ih => exact ⟨hST h.1, fun v => ih v (h.2 v)⟩
  | st n r hn hp hs w k ih => exact ⟨hST h.1, ih h.2⟩
  | ldq r hn k ih => exact ⟨hST h.1, ih h.2⟩

/-- A program's run depends only on the buffers it uses. -/
theorem exec_agree {S : Finset Nm} {α : Type} (p : K F α) (h : Ok S p) (σ σ' : St F) (hσ : ∀ n ∈ S, σ n = σ' n) :
    (exec p σ).1 = (exec p σ').1 ∧ ∀ n ∈ S, (exec p σ).2 n = (exec p σ').2 n := by
  induction p generalizing σ σ' with
  | ret a => exact ⟨rfl, hσ⟩
  | ld n r hn k ih =>
    have e : (fun j => σ n (r.idx j)) = fun j => σ' n (r.idx j) := by rw [hσ n h.1]
    simp only [exec]; rw [e]; exact ih _ (h.2 _) σ σ' hσ
  | st n r hn hp hs w k ih =>
    simp only [exec]
    refine ih h.2 _ _ fun m hm => ?_
    by_cases e : m = n
    · subst e; rw [Function.update_self, Function.update_self, hσ m hm]
    · rw [Function.update_of_ne e, Function.update_of_ne e, hσ m hm]
  | ldq r hn k ih => exact ih h.2 σ σ' hσ

/-- A program leaves the buffers it does not use as they were. -/
theorem exec_frame {S : Finset Nm} {α : Type} (p : K F α) (h : Ok S p) (σ : St F) (n : Nm) (hn : n ∉ S) : (exec p σ).2 n = σ n := by
  induction p generalizing σ with
  | ret a => rfl
  | ld m r hm k ih => exact ih _ (h.2 _) σ
  | st m r hm hp hs w k ih =>
    refine (ih h.2 _).trans (Function.update_of_ne ?_ _ _)
    rintro rfl; exact hn h.1
  | ldq r hm k ih => exact ih h.2 σ

/-- Eight steps in a row, by an invariant. -/
theorem exec_all8 {α : Type} (f : Fin 8 → K F α) (val : Fin 8 → α) (P : Nat → St F → Prop)
    (h : ∀ (j : Fin 8) σ, P j.val σ → (exec (f j) σ).1 = val j ∧ P (j.val + 1) (exec (f j) σ).2) (σ : St F) (h0 : P 0 σ) :
    (exec (all8 f) σ).1 = val ∧ P 8 (exec (all8 f) σ).2 := by
  obtain ⟨e0, p1⟩ := h 0 σ h0
  obtain ⟨e1, p2⟩ := h 1 _ p1
  obtain ⟨e2, p3⟩ := h 2 _ p2
  obtain ⟨e3, p4⟩ := h 3 _ p3
  obtain ⟨e4, p5⟩ := h 4 _ p4
  obtain ⟨e5, p6⟩ := h 5 _ p5
  obtain ⟨e6, p7⟩ := h 6 _ p6
  obtain ⟨e7, p8⟩ := h 7 _ p7
  unfold all8
  simp only [Bind.bind, exec_bind, exec]
  refine ⟨?_, p8⟩
  rw [e0, e1, e2, e3, e4, e5, e6, e7]
  funext j
  fin_cases j <;> rfl

end K

/-- `k` is the lists `l` and `m` shuffled. -/
inductive Shuffle : List Pc → List Pc → List Pc → Prop
  | nil : Shuffle [] [] []
  | left (a : Pc) {l m k : List Pc} : Shuffle l m k → Shuffle (a :: l) m (a :: k)
  | right (a : Pc) {l m k : List Pc} : Shuffle l m k → Shuffle l (a :: m) (a :: k)

section runs
variable (c0 : F .f32) (off : Fin 2 → Nat) (hoff : ∀ a, off a + s1x256.size a ≤ s6x256.size a)

theorem runAll_append (l m : List Pc) (acc : Acc F) (σ : St F) :
    (runAll c0 off hoff (l ++ m) acc).exec σ
      = (runAll c0 off hoff m ((runAll c0 off hoff l acc).exec σ).1).exec ((runAll c0 off hoff l acc).exec σ).2 := by
  induction l generalizing acc σ with
  | nil => rfl
  | cons a l ih => simp only [List.cons_append, runAll, K.exec_bind]; exact ih _ _

/-- A piece that leaves the running sums alone. -/
def Passes (p : Pc) : Prop := ∀ (acc acc' : Acc F) (σ : St F), ((p.run c0 off hoff acc).exec σ).1 = acc
  ∧ ((p.run c0 off hoff acc).exec σ).2 = ((p.run c0 off hoff acc').exec σ).2

/-- Two lists of pieces on disjoint buffers, run shuffled: each buffer ends as its own list alone leaves it. -/
theorem exec_shuffle {S T : Finset Nm} (hST : Disjoint S T) {l m k : List Pc} (h : Shuffle l m k)
    (hl : ∀ p ∈ l, ∀ acc, (Pc.run c0 off hoff p acc).Ok S) (hp : ∀ p ∈ l, Passes c0 off hoff p)
    (hm : ∀ p ∈ m, ∀ acc, (Pc.run c0 off hoff p acc).Ok T) (acc acc' : Acc F) (σ σl σm : St F)
    (hσl : ∀ n ∈ S, σ n = σl n) (hσm : ∀ n ∈ T, σ n = σm n) :
    ((runAll c0 off hoff k acc).exec σ).1 = ((runAll c0 off hoff m acc).exec σm).1
      ∧ (∀ n ∈ S, ((runAll c0 off hoff k acc).exec σ).2 n = ((runAll c0 off hoff l acc').exec σl).2 n)
      ∧ (∀ n ∈ T, ((runAll c0 off hoff k acc).exec σ).2 n = ((runAll c0 off hoff m acc).exec σm).2 n)
      ∧ (∀ n, n ∉ S → n ∉ T → ((runAll c0 off hoff k acc).exec σ).2 n = σ n) := by
  induction h generalizing acc acc' σ σl σm with
  | nil => exact ⟨rfl, hσl, hσm, fun _ _ _ => rfl⟩
  | @left a l m k _ ih =>
    simp only [runAll, K.exec_bind]
    have ha := hl a List.mem_cons_self
    have hpa := hp a List.mem_cons_self
    have e := K.exec_agree _ (ha acc) σ σl hσl
    rw [(hpa acc acc' σ).1]
    rw [(hpa acc' acc' σl).1]
    obtain ⟨i1, i2, i3, i4⟩ := ih (fun p hp => hl p (List.mem_cons_of_mem _ hp)) (fun p h => hp p (List.mem_cons_of_mem _ h)) hm acc acc'
      ((Pc.run c0 off hoff a acc).exec σ).2 ((Pc.run c0 off hoff a acc').exec σl).2 σm
      (fun n hn => by rw [e.2 n hn, (hpa acc acc' σl).2])
      (fun n hn => by rw [K.exec_frame _ (ha acc) σ n (Finset.disjoint_right.mp hST hn)]; exact hσm n hn)
    refine ⟨i1, i2, i3, fun n h1 h2 => (i4 n h1 h2).trans (K.exec_frame _ (ha acc) σ n h1)⟩
  | @right a l m k _ ih =>
    simp only [runAll, K.exec_bind]
    have ha := hm a List.mem_cons_self
    have e := K.exec_agree _ (ha acc) σ σm hσm
    rw [e.1]
    obtain ⟨i1, i2, i3, i4⟩ := ih hl hp (fun p hp => hm p (List.mem_cons_of_mem _ hp)) ((Pc.run c0 off hoff a acc).exec σm).1 acc'
      ((Pc.run c0 off hoff a acc).exec σ).2 σl ((Pc.run c0 off hoff a acc).exec σm).2
      (fun n hn => by rw [K.exec_frame _ (ha acc) σ n (Finset.disjoint_left.mp hST hn)]; exact hσl n hn) e.2
    exact ⟨i1, i2, i3, fun n h1 h2 => (i4 n h1 h2).trans (K.exec_frame _ (ha acc) σ n h2)⟩

/-- A run of `n` groups of pieces, by an invariant. -/
theorem exec_groups {n : Nat} (p : Fin n → List Pc) (P : Nat → Acc F → St F → Prop)
    (h : ∀ (k : Fin n) acc σ, P k.val acc σ → P (k.val + 1) ((runAll c0 off hoff (p k) acc).exec σ).1 ((runAll c0 off hoff (p k) acc).exec σ).2)
    (acc : Acc F) (σ : St F) (h0 : P 0 acc σ) :
    P n ((runAll c0 off hoff (List.ofFn p).flatten acc).exec σ).1 ((runAll c0 off hoff (List.ofFn p).flatten acc).exec σ).2 := by
  induction n generalizing P acc σ with
  | zero => simpa [runAll, K.exec] using h0
  | succ n ih =>
    rw [List.ofFn_succ, List.flatten_cons, runAll_append]
    exact ih (fun k => p k.succ) (fun k => P (k + 1)) (fun k acc σ hk => h k.succ acc σ hk) _ _ (h 0 acc σ h0)

end runs

end Cert.Vit
-- ==== Proof.Front.lean ====
/-
  What the front pieces compute: the residual stream after the output projection, its normalisation,
  the codes and scales, as functions of the buffers the pieces read; and that running the pieces
  leaves exactly those.
-/
module

public import proofs.«01_k».proof.Proof.Tiles

@[expose] public section

noncomputable section

namespace Cert.Vit

open Idealize.ShloMosaic Idealize.SL.Sem

variable {F : FTy → Type} [FloatOps F]

/-! ## The values, as functions of the contents `ι` -/

section values
variable (ι : St F)

/-- The row scales of the attention codes. -/
def fSC : FVec F s256x128 .f32 := scaleCol (rd (ι .os) (r3 0 0 1 256 (by decide) (by decide)))

/-- The segment ids of the rows. -/
def fSEG (off : Fin 2 → Nat) (hoff : ∀ a, off a + s1x256.size a ≤ s6x256.size a) : FVec F s256x128 .f32 :=
  segCol (F := F) (rd (ι .seg) (Rect.unit (s := s6x256) off s1x256.size hoff))

/-- A wide column tile of the output projection's products. -/
def fAO (n : Fin 4) : FVec F s256x256 .f32 :=
  accO (rd (ι .oc) (r3 0 0 256 1152 (by decide) (by decide))) (rd (ι .wo) (r2 0 (256 * n.val) 1152 256 (by decide) (wide4 n)))

/-- A column tile of the residual stream. -/
def fHT (n : Fin 4) (c : Fin 2) (j : Fin 8) : FVec F s256x128 .f32 :=
  addf (xTile (rd (ι .x) (r3 0 (128 * j.val) 256 128 (by decide) (col8 j))))
    (affine (tile (fAO ι n) c) (fSC ι) (rd (ι .so) (r2 0 (128 * j.val) 1 128 (by decide) (col8 j))) (rd (ι .bo) (r2 0 (128 * j.val) 1 128 (by decide) (col8 j))))

def half8 (j : Fin 8) : Fin 4 := ⟨j.val / 2, by omega⟩
def odd8 (j : Fin 8) : Fin 2 := ⟨j.val % 2, by omega⟩

/-- The residual stream. -/
def fH : FVec F s256x1024 .f32 := glue2 (p := 1) (q := 8) 256 128 rfl rfl fun _ j => fHT ι (half8 j) (odd8 j) j

/-- A tile of it. -/
def fHB (r : Fin 2) (j : Fin 8) : FVec F s128x128 .f32 := rd (fH ι) (r2 (128 * r.val) (128 * j.val) 128 128 (half2 r) (col8 j))

/-- A tile of it less the row means. -/
def fD (r : Fin 2) (j : Fin 8) : FVec F s128x128 .f32 := subf (fHB ι r j) (spread (mean8 (fHB ι r)))

/-- A tile of the normalised stream. -/
def fU (r : Fin 2) (j : Fin 8) : FVec F s128x128 .f32 :=
  normT (fD ι r j) (rstd (fD ι r)) (rd (ι .g2) (r2 0 (128 * j.val) 1 128 (by decide) (col8 j))) (rd (ι .b2) (r2 0 (128 * j.val) 1 128 (by decide) (col8 j)))

/-- The exponents of the scales of row block `r`. -/
def fE (r : Fin 2) : IVec s8x128 32 := expo (foldRows maximumf (max8 fun j => absf (fU ι r j)))

/-- The scales. -/
def fA2S : FVec F s1x1x256 .f32 := glue3 (p := 1) (q := 2) 1 128 rfl rfl fun _ r => scaleRow (pow2 (F := F) (fE ι r))

/-- The scales spread over the rows. -/
def fSCOL : FVec F s256x128 .f32 := glue2 (p := 2) (q := 1) 128 128 rfl rfl fun r _ => spread (pow2 (F := F) (fE ι r))

/-- A tile of the codes. -/
def fCode (r : Fin 2) (j : Fin 8) : FVec F s128x128 .fp8e4m3 := codes (mulf (fU ι r j) (spread (pow2inv (F := F) (fE ι r))))

/-- The codes. -/
def fA2C : FVec F s1x256x1024 .fp8e4m3 := glue3 (p := 2) (q := 8) 128 128 rfl rfl fun r j => shapeCast s1x128x128 (fCode ι r j) cast_c

/-- The codes, as the matrix the back reads. -/
def fA2M : FVec F s256x1024 .fp8e4m3 := glue2 (p := 2) (q := 8) 128 128 rfl rfl (fCode ι)

/-- The centred stream, as a matrix. -/
def fDM : FVec F s256x1024 .f32 := glue2 (p := 2) (q := 8) 128 128 rfl rfl (fD ι)
/-- The normalised stream, as a matrix. -/
def fUM : FVec F s256x1024 .f32 := glue2 (p := 2) (q := 8) 128 128 rfl rfl (fU ι)

end values

/-! ## The runs -/

/-- The buffers the front only reads. -/
def Same (S : Finset Nm) (σ ι : St F) : Prop := ∀ n ∈ S, σ n = ι n

theorem Same.update {S : Finset Nm} {σ ι : St F} (h : Same S σ ι) {n : Nm} (hn : n ∉ S) (w : Vec F (sh n) (el n)) :
    Same S (Function.update σ n w) ι := fun m hm => by
  have hne : m ≠ n := by rintro rfl; exact hn hm
  rw [Function.update_of_ne hne]; exact h m hm

abbrev inF : Finset Nm := {.x, .seg, .oc, .os, .so, .bo, .g2, .b2, .wo}

section runs
variable (ι : St F) (off : Fin 2 → Nat) (hoff : ∀ a, off a + s1x256.size a ≤ s6x256.size a)

theorem exec_masks (σ : St F) (h : Same inF σ ι) :
    (masks off hoff).exec σ = ((), Function.update σ .segcol (fSEG ι off hoff)) := by
  have e : σ .seg = ι .seg := h _ (by decide)
  refine congrArg (Prod.mk ()) (congrArg (Function.update σ .segcol) ?_)
  rw [put_whole, shapeCast_self]; unfold fSEG; rw [← e]

theorem exec_oscale (σ : St F) (h : Same inF σ ι) :
    oscale.exec σ = ((), Function.update σ .scol (fSC ι)) := by
  have e : σ .os = ι .os := h _ (by decide)
  refine congrArg (Prod.mk ()) (congrArg (Function.update σ .scol) ?_)
  rw [put_whole, shapeCast_self]; unfold fSC; rw [← e]

/-- One tile of the residual stream stored. -/
theorem exec_oprojTile (n : Fin 4) (c : Fin 2) (j : Fin 8) (σ : St F) (h : Same inF σ ι) (hs : σ .scol = fSC ι) :
    (oprojTile (fAO ι n) c j).exec σ
      = ((), Function.update σ .h (put (r2 0 (128 * j.val) 256 128 (by decide) (col8 j)) (fHT ι n c j) (σ .h))) := by
  refine congrArg (Prod.mk ()) (congrArg (fun w => Function.update σ .h (put _ w (σ .h))) ?_)
  rw [shapeCast_self]; unfold fHT
  rw [← hs, ← h .x (by decide), ← h .so (by decide), ← h .bo (by decide)]
  exact congrArg (fun v => addf (xTile (rd (σ .x) (r3 0 (128 * j.val) 256 128 (by decide) (col8 j))))
    (affine (tile (fAO ι n) c) v (rd (σ .so) (r2 0 (128 * j.val) 1 128 (by decide) (col8 j))) (rd (σ .bo) (r2 0 (128 * j.val) 1 128 (by decide) (col8 j)))))
    (rd_whole (σ .scol) (by decide) (by decide))

/-- The residual stream's first `j` tiles are done. -/
def HDone (j : Nat) (σ : St F) : Prop := On (fun i => (i 1).val < 128 * j) (σ .h) (fH ι)

theorem HDone.step {σ : St F} (n : Fin 4) (c : Fin 2) (j : Fin 8) (hn : half8 j = n) (hc : odd8 j = c) (h : HDone ι j.val σ) :
    HDone ι (j.val + 1) (Function.update σ .h (put (r2 0 (128 * j.val) 256 128 (by decide) (col8 j)) (fHT ι n c j) (σ .h))) := by
  unfold HDone; rw [Function.update_self]
  refine On.put h _ _ (fun k => ?_) fun i hi => ?_
  · subst hn hc
    exact (glue2_emb (p := 1) (q := 8) 256 128 rfl rfl (fun _ j => fHT ι (half8 j) (odd8 j) j) 0 j (by decide) (col8 j) k).symm
  · by_cases hlt : (i 1).val < 128 * j.val
    · exact .inl hlt
    · exact .inr (mem_r2 _ _ _ _ _ _ _ (Nat.zero_le _) (by have := (i 0).isLt; simpa using this) (by omega) (by omega))

/-- What holds after the first `j` tiles of the residual stream. -/
def POproj (j : Nat) (σ : St F) : Prop := Same inF σ ι ∧ σ .segcol = fSEG ι off hoff ∧ σ .scol = fSC ι ∧ HDone ι j σ

theorem exec_oproj (n : Fin 4) (σ : St F) (h : POproj ι off hoff (2 * n.val) σ) :
    POproj ι off hoff (2 * n.val + 2) ((oproj n).exec σ).2 := by
  obtain ⟨h1, h2, h3, h4⟩ := h
  have e : accO (rd (σ .oc) (r3 0 0 256 1152 (by decide) (by decide))) (rd (σ .wo) (r2 0 (256 * n.val) 1152 256 (by decide) (wide4 n))) = fAO ι n := by
    rw [h1 .oc (by decide), h1 .wo (by decide)]; rfl
  have ex : (oproj n).exec σ = ((oprojTile (fAO ι n) 1 (sub8 n 1)).exec ((oprojTile (fAO ι n) 0 (sub8 n 0)).exec σ).2) := by
    rw [← e]; rfl
  rw [ex, exec_oprojTile ι n 0 (sub8 n 0) σ h1 h3]
  have h1' := h1.update (n := .h) (by decide) (put (r2 0 (128 * (sub8 n 0).val) 256 128 (by decide) (col8 (sub8 n 0))) (fHT ι n 0 (sub8 n 0)) (σ .h))
  rw [exec_oprojTile ι n 1 (sub8 n 1) _ h1' h3]
  refine ⟨h1'.update (by decide) _, h2, h3, ?_⟩
  have s0 := HDone.step ι n 0 (sub8 n 0) (Fin.ext (by simp only [half8, sub8]; omega)) (Fin.ext (by simp only [odd8, sub8]; omega)) (σ := σ) h4
  exact HDone.step ι n 1 (sub8 n 1) (Fin.ext (by simp only [half8, sub8]; omega)) (Fin.ext (by simp only [odd8, sub8]; omega)) s0

/-- The region of the first `j` tiles of row block `r`, and the row blocks before. -/
def upTo (r : Fin 2) (j : Nat) (i : s256x1024.Idx) : Prop := 128 * r.val ≤ (i 0).val ∧ (i 0).val < 128 * r.val + 128 ∧ (i 1).val < 128 * j

theorem upTo_emb (r : Fin 2) (j : Fin 8) (k : s128x128.Idx) :
    upTo r (j.val + 1) ((r2 (A := 256) (B := 1024) (128 * r.val) (128 * j.val) 128 128 (half2 r) (col8 j)).emb k) := by
  have h0 : (k 0).val < 128 := (k 0).isLt
  have h1 : (k 1).val < 128 := (k 1).isLt
  refine ⟨?_, ?_, ?_⟩
  · show 128 * r.val ≤ 128 * r.val + 1 * (k 0).val; omega
  · show 128 * r.val + 1 * (k 0).val < _; omega
  · show 128 * j.val + 1 * (k 1).val < _; omega

theorem upTo_mono {r : Fin 2} {j j' : Nat} (h : j ≤ j') {i : s256x1024.Idx} (hi : upTo r j i) : upTo r j' i :=
  ⟨hi.1, hi.2.1, by have := hi.2.2; omega⟩

theorem upTo_or (r : Fin 2) (j : Fin 8) (i : s256x1024.Idx) (hi : upTo r (j.val + 1) i) :
    upTo r j.val i ∨ ∃ k, (r2 (A := 256) (B := 1024) (128 * r.val) (128 * j.val) 128 128 (half2 r) (col8 j)).emb k = i := by
  obtain ⟨a, b, c⟩ := hi
  by_cases hlt : (i 1).val < 128 * j.val
  · exact .inl ⟨a, b, hlt⟩
  · exact .inr (mem_r2 _ _ _ _ _ _ _ a b (by omega) (by omega))

/-- One more tile of a row block of the working buffer. -/
theorem tmp_step {α : Type} (r : Fin 2) (j : Fin 8) (T : Fin 2 → Fin 8 → s128x128.Idx → α) (v : s256x1024.Idx → α)
    (h : On (upTo r j.val) v (glue2 (p := 2) (q := 8) 128 128 rfl rfl T)) :
    On (upTo r (j.val + 1)) (put (r2 (128 * r.val) (128 * j.val) 128 128 (half2 r) (col8 j)) (T r j) v) (glue2 (p := 2) (q := 8) 128 128 rfl rfl T) :=
  On.put h _ _ (fun k => (glue2_emb (p := 2) (q := 8) 128 128 rfl rfl T r j (half2 r) (col8 j) k).symm) fun i hi => upTo_or r j i hi

theorem exec_loadT {T : Fin 2 → Fin 8 → FVec F s128x128 .f32} (r : Fin 2) (j : Fin 8) (σ : St F)
    (h : On (upTo r 8) (σ .tmp) (glue2 (p := 2) (q := 8) 128 128 rfl rfl T)) : (loadT r j).exec σ = (T r j, σ) := by
  refine congrArg (fun v => (v, σ)) (funext fun k => ?_)
  exact (h _ (upTo_mono (by omega) (upTo_emb r j k))).trans (glue2_emb (p := 2) (q := 8) 128 128 rfl rfl T r j (half2 r) (col8 j) k)

theorem exec_storeT (r : Fin 2) (j : Fin 8) (v : FVec F s128x128 .f32) (σ : St F) :
    (storeT r j v).exec σ = ((), Function.update σ .tmp (put (r2 (128 * r.val) (128 * j.val) 128 128 (half2 r) (col8 j)) v (σ .tmp))) := by
  refine congrArg (Prod.mk ()) (congrArg (fun w => Function.update σ .tmp (put _ w (σ .tmp))) ?_)
  exact shapeCast_self v cast_128x128

theorem exec_loadH (r : Fin 2) (j : Fin 8) (σ : St F) (h : σ .h = fH ι) : (loadH r j).exec σ = (fHB ι r j, σ) := by
  refine congrArg (fun v => (v, σ)) ?_
  unfold fHB; rw [← h]

/-- Everything but the working buffer as in `σ₀`. -/
def ButTmp (σ₀ σ : St F) : Prop := ∀ n, n ≠ Nm.tmp → σ n = σ₀ n

theorem exec_center (r : Fin 2) (σ : St F) (h : σ .h = fH ι) :
    ButTmp σ ((center r).exec σ).2 ∧ On (upTo r 8) (((center r).exec σ).2 .tmp) (fDM ι) := by
  obtain ⟨e, e'⟩ := K.exec_all8 (loadH r) (fHB ι r) (fun _ σ' => σ' = σ) (fun j σ' hσ' => by subst hσ'; rw [exec_loadH ι r j _ h]; exact ⟨rfl, rfl⟩) σ rfl
  have ex : ((center r).exec σ).2 = ((all8 fun j => storeT r j (subf (fHB ι r j) (spread (mean8 (fHB ι r))))).exec σ).2 := by
    unfold center
    simp only [Bind.bind, K.exec_bind, K.exec]
    rw [e, e']
  rw [ex]
  have := K.exec_all8 (fun j => storeT r j (subf (fHB ι r j) (spread (mean8 (fHB ι r))))) (fun _ => ())
    (fun j σ' => ButTmp σ σ' ∧ On (upTo r j) (σ' .tmp) (fDM ι)) (fun j σ' hσ' => ?_) σ ⟨fun _ _ => rfl, fun i hi => absurd hi.2.2 (by omega)⟩
  · exact this.2
  · rw [exec_storeT]
    refine ⟨rfl, fun n hn => ?_, ?_⟩ <;> dsimp only
    · rw [Function.update_of_ne hn]; exact hσ'.1 n hn
    · rw [Function.update_self]; exact tmp_step r j (fD ι) _ hσ'.2

theorem exec_normStep (r : Fin 2) (j : Fin 8) (σ : St F) (h : Same inF σ ι) :
    (normStep r (fD ι r) (rstd (fD ι r)) j).exec σ
      = (fU ι r j, Function.update σ .tmp (put (r2 (128 * r.val) (128 * j.val) 128 128 (half2 r) (col8 j)) (fU ι r j) (σ .tmp))) := by
  have e : normT (fD ι r j) (rstd (fD ι r)) (rd (σ .g2) (r2 0 (128 * j.val) 1 128 (by decide) (col8 j))) (rd (σ .b2) (r2 0 (128 * j.val) 1 128 (by decide) (col8 j))) = fU ι r j := by
    rw [h .g2 (by decide), h .b2 (by decide)]; rfl
  have ex : (normStep r (fD ι r) (rstd (fD ι r)) j).exec σ
    = (normT (fD ι r j) (rstd (fD ι r)) (rd (σ .g2) (r2 0 (128 * j.val) 1 128 (by decide) (col8 j))) (rd (σ .b2) (r2 0 (128 * j.val) 1 128 (by decide) (col8 j))),
      ((storeT r j (normT (fD ι r j) (rstd (fD ι r)) (rd (σ .g2) (r2 0 (128 * j.val) 1 128 (by decide) (col8 j))) (rd (σ .b2) (r2 0 (128 * j.val) 1 128 (by decide) (col8 j))))).exec σ).2) := rfl
  rw [ex, e, exec_storeT]

theorem exec_codeStep (r : Fin 2) (j : Fin 8) (σ : St F) (h : On (upTo r 8) (σ .tmp) (fUM ι)) :
    (codeStep r (spread (pow2inv (F := F) (fE ι r))) j).exec σ
      = ((), Function.update (Function.update σ .a2c (put (r3 (128 * r.val) (128 * j.val) 128 128 (half2 r) (col8 j)) (shapeCast s1x128x128 (fCode ι r j) cast_c) (σ .a2c)))
          .a2m (put (r2 (128 * r.val) (128 * j.val) 128 128 (half2 r) (col8 j)) (fCode ι r j) (σ .a2m))) := by
  unfold codeStep
  simp only [Bind.bind, K.exec_bind]
  rw [exec_loadT (T := fU ι) r j σ h]
  have : shapeCast s128x128 (fCode ι r j) cast_128x128 = fCode ι r j := shapeCast_self _ _
  refine congrArg (Prod.mk ()) (congrArg (fun w => Function.update (Function.update σ .a2c
    (put (r3 (128 * r.val) (128 * j.val) 128 128 (half2 r) (col8 j)) (shapeCast s1x128x128 (fCode ι r j) cast_c) (σ .a2c))) .a2m
      (put (r2 (128 * r.val) (128 * j.val) 128 128 (half2 r) (col8 j)) w (σ .a2m))) this)

/-- The row blocks before `r`, and the first `j` tiles of row block `r`. -/
def upToC (r : Nat) (j : Nat) (i : s256x1024.Idx) : Prop := (i 0).val < 128 * r ∨ ((i 0).val < 128 * r + 128 ∧ (i 1).val < 128 * j)
def upToC3 (r : Nat) (j : Nat) (i : s1x256x1024.Idx) : Prop := (i 1).val < 128 * r ∨ ((i 1).val < 128 * r + 128 ∧ (i 2).val < 128 * j)

/-- What holds once `r` row blocks are normalised and quantised. -/
structure PLast (r : Nat) (σ : St F) : Prop where
  same : Same inF σ ι
  seg : σ .segcol = fSEG ι off hoff
  h : σ .h = fH ι
  a2s : On (fun i => (i 2).val < 128 * r) (σ .a2s) (fA2S ι)
  scol : On (fun i => (i 0).val < 128 * r) (σ .scol) (fSCOL ι)
  a2c : On (upToC3 r 0) (σ .a2c) (fA2C ι)
  a2m : On (upToC r 0) (σ .a2m) (fA2M ι)

/-- The two scale stores of row block `r`. -/
def scaleStores (r : Fin 2) (σ : St F) : St F :=
  Function.update (Function.update σ .a2s (put (r3 0 (128 * r.val) 1 128 (by decide) (half2 r)) (scaleRow (pow2 (F := F) (fE ι r))) (σ .a2s)))
    .scol (put (r2 (128 * r.val) 0 128 128 (half2 r) (by decide)) (spread (pow2 (F := F) (fE ι r))) (σ .scol))

theorem exec_last_eq (r : Fin 2) (σ : St F) (h : Same inF σ ι) (ht : On (upTo r 8) (σ .tmp) (fDM ι)) :
    ∃ σ', ButTmp σ σ' ∧ On (upTo r 8) (σ' .tmp) (fUM ι)
      ∧ ((last r).exec σ).2 = ((all8 (codeStep r (spread (pow2inv (F := F) (fE ι r))))).exec (scaleStores ι r σ')).2 := by
  obtain ⟨e, e'⟩ := K.exec_all8 (loadT r) (fD ι r) (fun _ σ' => σ' = σ) (fun j σ' hσ' => by subst hσ'; rw [exec_loadT (T := fD ι) r j _ ht]; exact ⟨rfl, rfl⟩) σ rfl
  obtain ⟨e2, e3, e4⟩ := K.exec_all8 (normStep r (fD ι r) (rstd (fD ι r))) (fU ι r)
    (fun j σ' => ButTmp σ σ' ∧ On (upTo r j) (σ' .tmp) (fUM ι)) (fun j σ' hσ' => by
      rw [exec_normStep ι r j σ' fun n hn => (hσ'.1 n (by rintro rfl; exact absurd hn (by decide))).trans (h n hn)]
      refine ⟨rfl, fun n hn => ?_, ?_⟩ <;> dsimp only
      · rw [Function.update_of_ne hn]; exact hσ'.1 n hn
      · rw [Function.update_self]; exact tmp_step r j (fU ι) _ hσ'.2) σ ⟨fun _ _ => rfl, fun i hi => absurd hi.2.2 (by omega)⟩
  unfold last
  simp only [Bind.bind, K.exec_bind]
  rw [e, e', e2]
  generalize ((all8 (normStep r (fD ι r) (rstd (fD ι r)))).exec σ).2 = σ' at e3 e4 ⊢
  refine ⟨σ', e3, e4, ?_⟩
  have hs : shapeCast s128x128 (spread (pow2 (F := F) (fE ι r))) cast_128x128 = spread (pow2 (F := F) (fE ι r)) := shapeCast_self _ _
  unfold scaleStores
  rw [← congrArg (fun w => Function.update (Function.update σ' .a2s
      (put (r3 0 (128 * r.val) 1 128 (by decide) (half2 r)) (scaleRow (pow2 (F := F) (fE ι r))) (σ' .a2s)))
    .scol (put (r2 (128 * r.val) 0 128 128 (half2 r) (by decide)) w (σ' .scol))) hs]
  rfl

theorem exec_last (r : Fin 2) (σ : St F) (h : PLast ι off hoff r.val σ) (ht : On (upTo r 8) (σ .tmp) (fDM ι)) :
    PLast ι off hoff (r.val + 1) ((last r).exec σ).2 := by
  obtain ⟨σ', hb, hu, ex⟩ := exec_last_eq ι r σ h.same ht
  rw [ex]
  have hd : scaleStores ι r σ' .tmp = σ' .tmp := rfl
  have hsame : Same inF (scaleStores ι r σ') ι := by
    unfold scaleStores
    refine Same.update (Same.update (fun n hn => ?_) (by decide) _) (by decide) _
    exact (hb n (by rintro rfl; exact absurd hn (by decide))).trans (h.same n hn)
  have key := K.exec_all8 (codeStep r (spread (pow2inv (F := F) (fE ι r)))) (fun _ => ())
    (fun j σ'' => (∀ n, n ≠ Nm.a2c → n ≠ Nm.a2m → σ'' n = scaleStores ι r σ' n) ∧ On (upToC3 r.val j) (σ'' .a2c) (fA2C ι) ∧ On (upToC r.val j) (σ'' .a2m) (fA2M ι))
    (fun j σ'' hj => by
      obtain ⟨k1, k2, k3⟩ := hj
      rw [exec_codeStep ι r j σ'' (by rw [k1 .tmp (by decide) (by decide), hd]; exact hu)]
      refine ⟨rfl, fun n h1 h2 => ?_, ?_, ?_⟩ <;> dsimp only
      · rw [Function.update_of_ne h2, Function.update_of_ne h1]; exact k1 n h1 h2
      · rw [Function.update_of_ne (by decide), Function.update_self]
        refine On.put k2 _ _ (fun k => (glue3_emb (p := 2) (q := 8) 128 128 rfl rfl (fun r j => shapeCast s1x128x128 (fCode ι r j) cast_c) r j (half2 r) (col8 j) k).symm) fun i hi => ?_
        by_cases hlt : upToC3 r.val j.val i
        · exact .inl hlt
        · unfold upToC3 at hlt hi
          exact .inr (mem_r3 _ _ _ _ _ _ _ (by omega) (by omega) (by omega) (by omega))
      · rw [Function.update_self]
        refine On.put k3 _ _ (fun k => (glue2_emb (p := 2) (q := 8) 128 128 rfl rfl (fCode ι) r j (half2 r) (col8 j) k).symm) fun i hi => ?_
        by_cases hlt : upToC r.val j.val i
        · exact .inl hlt
        · unfold upToC at hlt hi
          exact .inr (mem_r2 _ _ _ _ _ _ _ (by omega) (by omega) (by omega) (by omega)))
    (scaleStores ι r σ') ⟨fun _ _ _ => rfl, by rw [show scaleStores ι r σ' .a2c = σ .a2c from hb .a2c (by decide)]; exact h.a2c,
      by rw [show scaleStores ι r σ' .a2m = σ .a2m from hb .a2m (by decide)]; exact h.a2m⟩
  obtain ⟨-, k1, k2, k3⟩ := key
  refine ⟨fun n hn => (k1 n (by rintro rfl; exact absurd hn (by decide)) (by rintro rfl; exact absurd hn (by decide))).trans (hsame n hn), ?_, ?_, ?_, ?_, ?_, ?_⟩
  · rw [k1 .segcol (by decide) (by decide), show scaleStores ι r σ' .segcol = σ .segcol from hb .segcol (by decide)]; exact h.seg
  · rw [k1 .h (by decide) (by decide), show scaleStores ι r σ' .h = σ .h from hb .h (by decide)]; exact h.h
  · rw [k1 .a2s (by decide) (by decide), show scaleStores ι r σ' .a2s = put (r3 0 (128 * r.val) 1 128 (by decide) (half2 r)) (scaleRow (pow2 (F := F) (fE ι r))) (σ' .a2s) from rfl,
      hb .a2s (by decide)]
    refine On.put h.a2s _ _ (fun k => (glue3_emb (p := 1) (q := 2) 1 128 rfl rfl (fun _ r => scaleRow (pow2 (F := F) (fE ι r))) 0 r (by decide) (half2 r) k).symm) fun i hi => ?_
    by_cases hlt : (i 2).val < 128 * r.val
    · exact .inl hlt
    · exact .inr (mem_r3 _ _ _ _ _ _ _ (Nat.zero_le _) (by have := (i 1).isLt; simpa using this) (by omega) (by omega))
  · rw [k1 .scol (by decide) (by decide), show scaleStores ι r σ' .scol = put (r2 (128 * r.val) 0 128 128 (half2 r) (by decide)) (spread (pow2 (F := F) (fE ι r))) (σ' .scol) from rfl,
      hb .scol (by decide)]
    refine On.put h.scol _ _ (fun k => (glue2_emb (p := 2) (q := 1) 128 128 rfl rfl (fun r _ => spread (pow2 (F := F) (fE ι r))) r 0 (half2 r) (by decide) k).symm) fun i hi => ?_
    by_cases hlt : (i 0).val < 128 * r.val
    · exact .inl hlt
    · exact .inr (mem_r2 _ _ _ _ _ _ _ (by omega) (by omega) (Nat.zero_le _) (by have := (i 1).isLt; simpa using this))
  · intro i hi; refine k2 i ?_
    unfold upToC3 at hi ⊢
    have : (i 2).val < 1024 := (i 2).isLt
    omega
  · intro i hi; refine k3 i ?_
    unfold upToC at hi ⊢
    have : (i 1).val < 1024 := (i 1).isLt
    omega

/-! ## The front as a whole -/

/-- What the front leaves. -/
structure FrontOut (σ : St F) : Prop where
  same : Same inF σ ι
  seg : σ .segcol = fSEG ι off hoff
  h : σ .h = fH ι
  a2s : σ .a2s = fA2S ι
  scol : σ .scol = fSCOL ι
  a2c : σ .a2c = fA2C ι
  a2m : σ .a2m = fA2M ι

/-- The front's first pieces. -/
def frontA : List Pc := [.masks, .oscale, .oproj 0]
/-- The front's other pieces. -/
def frontB : List Pc := [.oproj 1, .oproj 2, .oproj 3, .center 0, .last 0, .center 1, .last 1]

theorem exec_frontA (c0 : F .f32) (acc : Acc F) (σ : St F) (h : Same inF σ ι) :
    POproj ι off hoff 2 ((runAll c0 off hoff frontA acc).exec σ).2 := by
  unfold frontA
  simp only [runAll, Pc.run, K.exec_bind, K.exec]
  rw [exec_masks ι off hoff σ h]
  have s1 := h.update (n := .segcol) (by decide) (fSEG ι off hoff)
  rw [exec_oscale ι _ s1]
  have s2 := s1.update (n := .scol) (by decide) (fSC ι)
  have p0 : POproj ι off hoff (2 * (0 : Fin 4).val) (Function.update (Function.update σ .segcol (fSEG ι off hoff)) .scol (fSC ι)) :=
    ⟨s2, rfl, rfl, fun i hi => absurd hi (by simp)⟩
  exact exec_oproj ι off hoff 0 _ p0

theorem exec_frontB (c0 : F .f32) (acc : Acc F) (σ : St F) (p1 : POproj ι off hoff 2 σ) :
    FrontOut ι off hoff ((runAll c0 off hoff frontB acc).exec σ).2 := by
  unfold frontB
  simp only [runAll, Pc.run, K.exec_bind, K.exec]
  have p2 := exec_oproj ι off hoff 1 _ p1
  have p3 := exec_oproj ι off hoff 2 _ p2
  have p4 := exec_oproj ι off hoff 3 _ p3
  generalize ((oproj (F := F) 3).exec _).2 = σ4 at p4 ⊢
  obtain ⟨q1, q2, q3, q4⟩ := p4
  have hh : σ4 .h = fH ι := On.all q4 fun i => by have : (i 1).val < 1024 := (i 1).isLt; exact this
  obtain ⟨b1, t1⟩ := exec_center ι 0 σ4 hh
  have L0 : PLast ι off hoff (0 : Fin 2).val ((center 0).exec σ4).2 :=
    ⟨fun n hn => (b1 n (by rintro rfl; exact absurd hn (by decide))).trans (q1 n hn), (b1 _ (by decide)).trans q2, (b1 _ (by decide)).trans hh,
      fun i hi => absurd hi (by simp), fun i hi => absurd hi (by simp), fun i hi => absurd hi (by simp [upToC3]), fun i hi => absurd hi (by simp [upToC])⟩
  have L1 := exec_last ι off hoff 0 _ L0 t1
  generalize ((last (F := F) 0).exec _).2 = σ6 at L1 ⊢
  obtain ⟨b2, t2⟩ := exec_center ι 1 σ6 L1.h
  have L1' : PLast ι off hoff (1 : Fin 2).val ((center 1).exec σ6).2 :=
    ⟨fun n hn => (b2 n (by rintro rfl; exact absurd hn (by decide))).trans (L1.same n hn), (b2 _ (by decide)).trans L1.seg, (b2 _ (by decide)).trans L1.h,
      by rw [b2 _ (by decide)]; exact L1.a2s, by rw [b2 _ (by decide)]; exact L1.scol, by rw [b2 _ (by decide)]; exact L1.a2c, by rw [b2 _ (by decide)]; exact L1.a2m⟩
  have L2 := exec_last ι off hoff 1 _ L1' t2
  exact ⟨L2.same, L2.seg, L2.h, On.all L2.a2s fun i => (i 2).isLt, On.all L2.scol fun i => (i 0).isLt,
    On.all L2.a2c fun i => .inl (i 1).isLt, On.all L2.a2m fun i => .inl (i 0).isLt⟩

theorem exec_front (c0 : F .f32) (acc : Acc F) (σ : St F) (h : Same inF σ ι) :
    FrontOut ι off hoff ((runAll c0 off hoff frontL acc).exec σ).2 := by
  have e : frontL = frontA ++ frontB := by rfl
  rw [e, runAll_append]
  exact exec_frontB ι off hoff c0 _ _ (exec_frontA ι off hoff c0 acc σ h)

end runs

end Cert.Vit
-- ==== Proof.Back.lean ====
/-
  What the back pieces compute: the MLP of one batch, its activation's codes and scales and the
  layer's result, as functions of the buffers the pieces read; and that running the pieces leaves
  exactly those.
-/
module

public import proofs.«01_k».proof.Proof.Front

@[expose] public section

noncomputable section

namespace Cert.Vit

open Idealize.ShloMosaic Idealize.SL.Sem

variable {F : FTy → Type} [FloatOps F]

def half32 (j : Fin 32) : Fin 16 := ⟨j.val / 2, by omega⟩
def odd32 (j : Fin 32) : Fin 2 := ⟨j.val % 2, by omega⟩

/-! ## The values, as functions of the contents `ι` -/

section values
variable (ι : St F) (c0 : F .f32)

/-- A wide column tile of the first MLP product. -/
def bAG (n : Fin 16) : FVec F s256x256 .f32 := acc1 (ι .a2m) (rd (ι .w1) (r2 0 (256 * n.val) 1024 256 (by decide) (wide16 n)))

/-- A column tile of `t (1 + erf t)`. -/
def bG (n : Fin 16) (c : Fin 2) (j : Fin 32) : FVec F s256x128 .f32 :=
  gelu (affine (tile (bAG ι n) c) (ι .scolm) (mulf (rd (ι .s1) (r2 0 (128 * j.val) 1 128 (by decide) (col32 j))) (broadcast s1x128 c0))
    (mulf (rd (ι .c1) (r2 0 (128 * j.val) 1 128 (by decide) (col32 j))) (broadcast s1x128 c0)))

def bGT (j : Fin 32) : FVec F s256x128 .f32 := bG ι c0 (half32 j) (odd32 j) j

/-- All its column tiles. -/
def bGL : FVec F s256x4096 .f32 := glue2 (p := 1) (q := 32) 256 128 rfl rfl fun _ j => bGT ι c0 j

/-- The larger magnitude of two column tiles. -/
def bMag (n : Fin 16) : FVec F s256x128 .f32 := maximumf (absf (bG ι c0 n 0 (sub32 n 0))) (absf (bG ι c0 n 1 (sub32 n 1)))

/-- The running largest magnitude. -/
def bMX : Nat → FVec F s256x128 .f32
  | 0 => bMag ι c0 0
  | k + 1 => maximumf (bMX k) (bMag ι c0 (Fin.ofNat 16 (k + 1)))

/-- The exponents of the activation's scales. -/
def bE (r : Fin 2) : IVec s8x128 32 := expo (mulf (foldRows maximumf (rd (bMX ι c0 15) (r2 (128 * r.val) 0 128 128 (half2 r) (by decide)))) (broadcast s8x128 c0))

/-- The activation's scales. -/
def bGS : FVec F s1x1x256 .f32 := glue3 (p := 1) (q := 2) 1 128 rfl rfl fun _ r => scaleRow (pow2 (F := F) (bE ι c0 r))
/-- The scales spread over the rows. -/
def bSC : FVec F s256x128 .f32 := glue2 (p := 2) (q := 1) 128 128 rfl rfl fun r _ => spread (pow2 (F := F) (bE ι c0 r))
/-- The factors the codes are taken with. -/
def bINV : FVec F s256x128 .f32 := glue2 (p := 2) (q := 1) 128 128 rfl rfl fun r _ => mulf (spread (pow2inv (F := F) (bE ι c0 r))) (broadcast s128x128 c0)

/-- The activation's codes. -/
def bGC : FVec F s1x256x4096 .fp8e4m3 := glue3 (p := 1) (q := 32) 256 128 rfl rfl fun _ j => shapeCast s1x256x128 (codes (mulf (bGT ι c0 j) (bINV ι c0))) cast_y

/-- One chunk of the second MLP product. -/
def bDot (k : Fin 8) (n : Fin 4) : FVec F s256x256 .f32 :=
  acc2 (rd (bGC ι c0) (r3 0 (512 * k.val) 256 512 (by decide) (deep8 k))) (rd (ι .w2) (r2 (512 * k.val) (256 * n.val) 512 256 (deep8 k) (wide4 n)))

/-- The running sum of the chunks. -/
def bACC (n : Fin 4) : Nat → FVec F s256x256 .f32
  | 0 => bDot ι c0 0 n
  | k + 1 => addf (bACC n k) (bDot ι c0 (Fin.ofNat 8 (k + 1)) n)

/-- A column tile of the layer's result. -/
def bYT (n : Fin 4) (c : Fin 2) (j : Fin 8) : FVec F s1x256x128 .bf16 :=
  outTile (keep (ι .segcolm)) (rd (ι .hm) (r2 0 (128 * j.val) 256 128 (by decide) (col8 j)))
    (affine (tile (bACC ι c0 n 7) c) (bSC ι c0) (rd (ι .s2) (r2 0 (128 * j.val) 1 128 (by decide) (col8 j))) (rd (ι .c2) (r2 0 (128 * j.val) 1 128 (by decide) (col8 j))))

/-- The layer's result. -/
def bY : FVec F s1x256x1024 .bf16 := glue3 (p := 1) (q := 8) 256 128 rfl rfl fun _ j => bYT ι c0 (half8 j) (odd8 j) j

end values

/-! ## The runs -/

abbrev inB : Finset Nm := {.s1, .c1, .s2, .c2, .w1, .w2, .hm, .segcolm}
abbrev inB1 : Finset Nm := {.s1, .c1, .s2, .c2, .w1, .w2, .hm, .segcolm, .a2m, .scolm}

section runs
variable (ι : St F) (c0 : F .f32)

theorem exec_fc1Tile (n : Fin 16) (c : Fin 2) (j : Fin 32) (σ : St F) (h : Same inB1 σ ι) :
    (fc1Tile c0 (bAG ι n) c j).exec σ
      = (bG ι c0 n c j, Function.update σ .gl (put (r2 0 (128 * j.val) 256 128 (by decide) (col32 j)) (bG ι c0 n c j) (σ .gl))) := by
  have e : gelu (affine (tile (bAG ι n) c) (rd (σ .scolm) (r2 0 0 256 128 (by decide) (by decide))) (mulf (rd (σ .s1) (r2 0 (128 * j.val) 1 128 (by decide) (col32 j))) (broadcast s1x128 c0))
    (mulf (rd (σ .c1) (r2 0 (128 * j.val) 1 128 (by decide) (col32 j))) (broadcast s1x128 c0))) = bG ι c0 n c j := by
    rw [h .scolm (by decide), h .s1 (by decide), h .c1 (by decide), rd_whole (ι .scolm) (by decide) (by decide)]; rfl
  rw [← e]
  refine congrArg (Prod.mk _) (congrArg (fun w => Function.update σ .gl (put _ w (σ .gl))) ?_)
  exact shapeCast_self (gelu (affine (tile (bAG ι n) c) (rd (σ .scolm) (r2 0 0 256 128 (by decide) (by decide))) (mulf (rd (σ .s1) (r2 0 (128 * j.val) 1 128 (by decide) (col32 j))) (broadcast s1x128 c0))
    (mulf (rd (σ .c1) (r2 0 (128 * j.val) 1 128 (by decide) (col32 j))) (broadcast s1x128 c0)))) cast_256x128

/-- What holds after the first `n` pairs of column tiles. -/
structure PFc (n : Nat) (σ : St F) : Prop where
  same : Same inB1 σ ι
  gl : On (fun i => (i 1).val < 256 * n) (σ .gl) (bGL ι c0)
  mx : ∀ k, n = k + 1 → σ .gmax = bMX ι c0 k

theorem gl_step {v : FVec F s256x4096 .f32} (n : Fin 16) (c : Fin 2) (h : On (fun i => (i 1).val < 256 * n.val + 128 * c.val) v (bGL ι c0)) :
    On (fun i => (i 1).val < 256 * n.val + 128 * (c.val + 1)) (put (r2 0 (128 * (sub32 n c).val) 256 128 (by decide) (col32 (sub32 n c))) (bG ι c0 n c (sub32 n c)) v) (bGL ι c0) := by
  have hn : half32 (sub32 n c) = n := Fin.ext (by simp only [half32, sub32]; omega)
  have hc : odd32 (sub32 n c) = c := Fin.ext (by simp only [odd32, sub32]; omega)
  have hs : (sub32 n c).val = 2 * n.val + c.val := rfl
  refine On.put h _ _ (fun k => ?_) fun i hi => ?_
  · refine Eq.trans ?_ (glue2_emb (p := 1) (q := 32) 256 128 rfl rfl (fun _ j => bGT ι c0 j) 0 (sub32 n c) (by decide) (col32 _) k).symm
    unfold bGT; rw [hn, hc]
  · by_cases hlt : (i 1).val < 256 * n.val + 128 * c.val
    · exact .inl hlt
    · exact .inr (mem_r2 _ _ _ _ _ _ _ (Nat.zero_le _) (by have := (i 0).isLt; simpa using this) (by omega) (by omega))

/-- The states between the pieces of `fc1`. -/
def fc1St (n : Fin 16) (c : Fin 2) (σ : St F) : St F :=
  Function.update σ .gl (put (r2 0 (128 * (sub32 n c).val) 256 128 (by decide) (col32 (sub32 n c))) (bG ι c0 n c (sub32 n c)) (σ .gl))

theorem exec_fc1 (n : Fin 16) (σ : St F) (h : PFc ι c0 n.val σ) : PFc ι c0 (n.val + 1) ((fc1 c0 n).exec σ).2 := by
  have ea : acc1 (rd (σ .a2m) (r2 0 0 256 1024 (by decide) (by decide))) (rd (σ .w1) (r2 0 (256 * n.val) 1024 256 (by decide) (wide16 n))) = bAG ι n := by
    rw [h.same .a2m (by decide), h.same .w1 (by decide), rd_whole (ι .a2m) (by decide) (by decide)]; rfl
  have t0 := exec_fc1Tile ι c0 n 0 (sub32 n 0) σ h.same
  have s0 : Same inB1 (fc1St ι c0 n 0 σ) ι := h.same.update (by decide) _
  have t1 := exec_fc1Tile ι c0 n 1 (sub32 n 1) (fc1St ι c0 n 0 σ) s0
  have s1 : Same inB1 (fc1St ι c0 n 1 (fc1St ι c0 n 0 σ)) ι := s0.update (by decide) _
  have g0 := gl_step ι c0 n 0 (v := σ .gl) (by simpa using h.gl)
  have g1 := gl_step ι c0 n 1 (v := fc1St ι c0 n 0 σ .gl) (by simpa [fc1St] using g0)
  have g2 : On (fun i => (i 1).val < 256 * (n.val + 1)) (fc1St ι c0 n 1 (fc1St ι c0 n 0 σ) .gl) (bGL ι c0) := by
    unfold fc1St at g1 ⊢; rw [Function.update_self]
    intro i hi; exact g1 i (by have : (1 : Fin 2).val = 1 := rfl; omega)
  have key : ((fc1 c0 n).exec σ).2 = Function.update (fc1St ι c0 n 1 (fc1St ι c0 n 0 σ)) .gmax (bMX ι c0 n.val) := by
    unfold fc1
    simp only [Bind.bind, K.exec_bind]
    have l1 : ∀ σ : St F, (K.load (F := F) .a2m (r2 0 0 256 1024 (by decide) (by decide)) pos_256x1024).exec σ = (rd (σ .a2m) (r2 0 0 256 1024 (by decide) (by decide)), σ) := fun _ => rfl
    have l2 : ∀ σ : St F, (K.load (F := F) .w1 (r2 0 (256 * n.val) 1024 256 (by decide) (wide16 n)) pos_1024x256).exec σ = (rd (σ .w1) (r2 0 (256 * n.val) 1024 256 (by decide) (wide16 n)), σ) := fun _ => rfl
    rw [l1]; dsimp only; rw [l2]; dsimp only; rw [ea, t0]; dsimp only
    rw [show Function.update σ .gl (put (r2 0 (128 * (sub32 n 0).val) 256 128 (by decide) (col32 (sub32 n 0))) (bG ι c0 n 0 (sub32 n 0)) (σ .gl)) = fc1St ι c0 n 0 σ from rfl, t1]
    dsimp only
    rw [show Function.update (fc1St ι c0 n 0 σ) .gl (put (r2 0 (128 * (sub32 n 1).val) 256 128 (by decide) (col32 (sub32 n 1))) (bG ι c0 n 1 (sub32 n 1)) (fc1St ι c0 n 0 σ .gl)) = fc1St ι c0 n 1 (fc1St ι c0 n 0 σ) from rfl]
    have mx := h.mx
    have gm : (fc1St ι c0 n 1 (fc1St ι c0 n 0 σ)) .gmax = σ .gmax := rfl
    generalize fc1St ι c0 n 1 (fc1St ι c0 n 0 σ) = σ2 at gm ⊢
    have put1 : ∀ w : FVec F s256x128 .f32, put (α := F .f32) (r2 0 0 256 128 (by decide) (by decide)) (shapeCast s256x128 w cast_256x128) (σ2 .gmax) = w := fun w => by
      rw [shapeCast_self]; exact put_whole (α := F .f32) _ _ _ _
    rcases n with ⟨_ | k, hk⟩
    · exact congrArg (Function.update σ2 .gmax) (put1 _)
    · have m1 := mx k rfl
      have e2 : bMX ι c0 (k + 1) = maximumf (rd (σ2 .gmax) (r2 0 0 256 128 (by decide) (by decide))) (bMag ι c0 ⟨k + 1, hk⟩) := by
        rw [gm, m1, rd_whole (bMX ι c0 k) (by decide) (by decide)]
        have : Fin.ofNat 16 (k + 1) = (⟨k + 1, hk⟩ : Fin 16) := Fin.ext (Nat.mod_eq_of_lt hk)
        rw [← this]; rfl
      show _ = Function.update σ2 .gmax (bMX ι c0 (k + 1))
      rw [e2]
      exact congrArg (Function.update σ2 .gmax) (put1 _)
  rw [key]
  exact ⟨s1.update (by decide) _, by rw [Function.update_of_ne (by decide)]; exact g2, fun k hk => by
    obtain rfl : n.val = k := by omega
    rw [Function.update_self]⟩

/-- What holds once `r` row blocks have their scales. -/
structure PGs (r : Nat) (σ : St F) : Prop where
  same : Same inB σ ι
  gl : σ .gl = bGL ι c0
  gs : On (fun i => (i 2).val < 128 * r) (σ .gs) (bGS ι c0)
  sc : On (fun i => (i 0).val < 128 * r) (σ .scolm) (bSC ι c0)
  inv : On (fun i => (i 0).val < 128 * r) (σ .gmax) (bINV ι c0)
  mx : On (fun i => 128 * r ≤ (i 0).val) (σ .gmax) (bMX ι c0 15)

/-- The stores of `gscale`. -/
def gscaleSt (r : Fin 2) (e : IVec s8x128 32) (σ : St F) : St F :=
  Function.update (Function.update (Function.update σ .gs (put (r3 0 (128 * r.val) 1 128 (by decide) (half2 r)) (scaleRow (pow2 (F := F) e)) (σ .gs)))
      .scolm (put (r2 (128 * r.val) 0 128 128 (half2 r) (by decide)) (spread (pow2 (F := F) e)) (σ .scolm)))
      .gmax (put (r2 (128 * r.val) 0 128 128 (half2 r) (by decide)) (mulf (spread (pow2inv (F := F) e)) (broadcast s128x128 c0)) (σ .gmax))

/-- `gscale` as a function of the exponents. -/
def gscaleK (r : Fin 2) (e : IVec s8x128 32) : K F Unit := do
  K.store .gs (r3 0 (128 * r.val) 1 128 (by decide) (half2 r)) pos_1x1x128 (packed3 _ _ _ _ _ _ _ (one_dvd _) (one_dvd _)) (fun _ => rfl) (scaleRow (pow2 e))
  K.store .scolm (r2 (128 * r.val) 0 128 128 (half2 r) (by decide)) pos_128x128 (packed2 _ _ _ _ _ _ _ (one_dvd _) (one_dvd _)) (fun _ => rfl) (shapeCast s128x128 (spread (pow2 e)) cast_128x128)
  K.store .gmax (r2 (128 * r.val) 0 128 128 (half2 r) (by decide)) pos_128x128 (packed2 _ _ _ _ _ _ _ (one_dvd _) (one_dvd _)) (fun _ => rfl)
    (shapeCast s128x128 (mulf (spread (pow2inv e)) (broadcast s128x128 c0)) cast_128x128)

theorem exec_gscaleK (r : Fin 2) (e : IVec s8x128 32) (σ : St F) : ((gscaleK c0 r e).exec σ).2 = gscaleSt c0 r e σ := by
  unfold gscaleK
  rw [shapeCast_self (spread (pow2 (F := F) e)) cast_128x128, shapeCast_self (mulf (spread (pow2inv (F := F) e)) (broadcast s128x128 c0)) cast_128x128]
  rfl

theorem gscale_eq (r : Fin 2) (σ : St F) : ((gscale c0 r).exec σ).2
    = gscaleSt c0 r (expo (mulf (foldRows maximumf (rd (σ .gmax) (r2 (128 * r.val) 0 128 128 (half2 r) (by decide)))) (broadcast s8x128 c0))) σ := by
  rw [← exec_gscaleK]; rfl

theorem exec_gscale (r : Fin 2) (σ : St F) (h : PGs ι c0 r.val σ) : PGs ι c0 (r.val + 1) ((gscale c0 r).exec σ).2 := by
  have e : expo (mulf (foldRows maximumf (rd (σ .gmax) (r2 (128 * r.val) 0 128 128 (half2 r) (by decide)))) (broadcast s8x128 c0)) = bE ι c0 r := by
    unfold bE
    have := On.rd h.mx (r2 (128 * r.val) 0 128 128 (half2 r) (by decide)) fun k => by
      show 128 * r.val ≤ 128 * r.val + 1 * (k 0).val; omega
    rw [this]
  have key : ((gscale c0 r).exec σ).2 = gscaleSt c0 r (bE ι c0 r) σ := by
    rw [← e]; exact gscale_eq c0 r σ
  rw [key]
  have v1 : gscaleSt c0 r (bE ι c0 r) σ .gs = put (r3 0 (128 * r.val) 1 128 (by decide) (half2 r)) (scaleRow (pow2 (F := F) (bE ι c0 r))) (σ .gs) := by
    unfold gscaleSt; rw [Function.update_of_ne (by decide), Function.update_of_ne (by decide), Function.update_self]
  have v2 : gscaleSt c0 r (bE ι c0 r) σ .scolm = put (r2 (128 * r.val) 0 128 128 (half2 r) (by decide)) (spread (pow2 (F := F) (bE ι c0 r))) (σ .scolm) := by
    unfold gscaleSt; rw [Function.update_of_ne (by decide), Function.update_self]
  have v3 : gscaleSt c0 r (bE ι c0 r) σ .gmax
    = put (r2 (128 * r.val) 0 128 128 (half2 r) (by decide)) (mulf (spread (pow2inv (F := F) (bE ι c0 r))) (broadcast s128x128 c0)) (σ .gmax) := by
    unfold gscaleSt; rw [Function.update_self]
  have v4 : gscaleSt c0 r (bE ι c0 r) σ .gl = σ .gl := by
    unfold gscaleSt; rw [Function.update_of_ne (by decide), Function.update_of_ne (by decide), Function.update_of_ne (by decide)]
  have v0 : Same inB (gscaleSt c0 r (bE ι c0 r) σ) ι := ((h.same.update (by decide) _).update (by decide) _).update (by decide) _
  generalize gscaleSt c0 r (bE ι c0 r) σ = σ' at v0 v1 v2 v3 v4 ⊢
  refine ⟨v0, v4.trans h.gl, ?_, ?_, ?_, ?_⟩
  · rw [v1]
    refine On.put h.gs _ _ (fun k => (glue3_emb (p := 1) (q := 2) 1 128 rfl rfl (fun _ r => scaleRow (pow2 (F := F) (bE ι c0 r))) 0 r (by decide) (half2 r) k).symm) fun i hi => ?_
    by_cases hlt : (i 2).val < 128 * r.val
    · exact .inl hlt
    · exact .inr (mem_r3 _ _ _ _ _ _ _ (Nat.zero_le _) (by have := (i 1).isLt; simpa using this) (by omega) (by omega))
  · rw [v2]
    refine On.put h.sc _ _ (fun k => (glue2_emb (p := 2) (q := 1) 128 128 rfl rfl (fun r _ => spread (pow2 (F := F) (bE ι c0 r))) r 0 (half2 r) (by decide) k).symm) fun i hi => ?_
    by_cases hlt : (i 0).val < 128 * r.val
    · exact .inl hlt
    · exact .inr (mem_r2 _ _ _ _ _ _ _ (by omega) (by omega) (Nat.zero_le _) (by have := (i 1).isLt; simpa using this))
  · rw [v3]
    refine On.put h.inv _ _ (fun k => (glue2_emb (p := 2) (q := 1) 128 128 rfl rfl (fun r _ => mulf (spread (pow2inv (F := F) (bE ι c0 r))) (broadcast s128x128 c0)) r 0 (half2 r) (by decide) k).symm) fun i hi => ?_
    by_cases hlt : (i 0).val < 128 * r.val
    · exact .inl hlt
    · exact .inr (mem_r2 _ _ _ _ _ _ _ (by omega) (by omega) (Nat.zero_le _) (by have := (i 1).isLt; simpa using this))
  · intro i hi
    rw [v3]
    refine (put_of_not _ _ _ _ fun k hk => ?_).trans (h.mx i (by omega))
    have h0 : (k 0).val < 128 := (k 0).isLt
    have : 128 * r.val + 1 * (k 0).val = (i 0).val := congrArg (fun x => (x 0).val) hk
    omega

/-- What the codes and the second product leave alone. -/
structure PK (σ : St F) : Prop where
  same : Same inB σ ι
  gl : σ .gl = bGL ι c0
  gs : σ .gs = bGS ι c0
  sc : σ .scolm = bSC ι c0
  inv : σ .gmax = bINV ι c0

theorem PK.update {σ : St F} (h : PK ι c0 σ) {n : Nm} (hn : n ∉ ({.s1, .c1, .s2, .c2, .w1, .w2, .hm, .segcolm, .gl, .gs, .scolm, .gmax} : Finset Nm)) (w : Vec F (sh n) (el n)) :
    PK ι c0 (Function.update σ n w) := by
  have hne : ∀ m ∈ ({.s1, .c1, .s2, .c2, .w1, .w2, .hm, .segcolm, .gl, .gs, .scolm, .gmax} : Finset Nm), m ≠ n := fun m hm => by rintro rfl; exact hn hm
  refine ⟨fun m hm => ?_, ?_, ?_, ?_, ?_⟩
  · rw [Function.update_of_ne (hne m ((by decide : inB ⊆ _) hm))]; exact h.same m hm
  · rw [Function.update_of_ne (hne _ (by decide))]; exact h.gl
  · rw [Function.update_of_ne (hne _ (by decide))]; exact h.gs
  · rw [Function.update_of_ne (hne _ (by decide))]; exact h.sc
  · rw [Function.update_of_ne (hne _ (by decide))]; exact h.inv

/-- What holds after the first `j` column tiles of codes. -/
def PC (j : Nat) (σ : St F) : Prop := PK ι c0 σ ∧ On (fun i => (i 2).val < 128 * j) (σ .gc) (bGC ι c0)

theorem exec_gcodesTile (j : Fin 32) (σ : St F) (h : PC ι c0 j.val σ) : PC ι c0 (j.val + 1) ((gcodesTile j).exec σ).2 := by
  have key : ((gcodesTile j).exec σ).2 = Function.update σ .gc (put (r3 0 (128 * j.val) 256 128 (by decide) (col32 j))
      (shapeCast s1x256x128 (codes (mulf (rd (σ .gl) (r2 0 (128 * j.val) 256 128 (by decide) (col32 j))) (rd (σ .gmax) (r2 0 0 256 128 (by decide) (by decide))))) cast_y) (σ .gc)) := rfl
  have e : rd (σ .gl) (r2 0 (128 * j.val) 256 128 (by decide) (col32 j)) = bGT ι c0 j := by
    rw [h.1.gl]; exact funext fun k => glue2_emb (p := 1) (q := 32) 256 128 rfl rfl (fun _ j => bGT ι c0 j) 0 j (by decide) (col32 j) k
  rw [key, e, h.1.inv, rd_whole (bINV ι c0) (by decide) (by decide)]
  refine ⟨h.1.update ι c0 (by decide) _, ?_⟩
  rw [Function.update_self]
  refine On.put h.2 _ _ (fun k => (glue3_emb (p := 1) (q := 32) 256 128 rfl rfl (fun _ j => shapeCast s1x256x128 (codes (mulf (bGT ι c0 j) (bINV ι c0))) cast_y) 0 j (by decide) (col32 j) k).symm) fun i hi => ?_
  by_cases hlt : (i 2).val < 128 * j.val
  · exact .inl hlt
  · exact .inr (mem_r3 _ _ _ _ _ _ _ (Nat.zero_le _) (by have := (i 1).isLt; simpa using this) (by omega) (by omega))

theorem exec_gcodes (k : Fin 8) (σ : St F) (h : PC ι c0 (4 * k.val) σ) : PC ι c0 (4 * k.val + 4) ((gcodes k).exec σ).2 := by
  have h1 := exec_gcodesTile ι c0 (quad32 k 0) σ h
  have h2 := exec_gcodesTile ι c0 (quad32 k 1) _ h1
  have h3 := exec_gcodesTile ι c0 (quad32 k 2) _ h2
  have h4 := exec_gcodesTile ι c0 (quad32 k 3) _ h3
  unfold gcodes
  simp only [Bind.bind, K.exec_bind]
  exact h4

theorem exec_dot (k : Fin 8) (n : Fin 4) (acc : Acc F) (σ : St F) (h : PC ι c0 (4 * k.val + 4) σ) (ha : ∀ k', k.val = k' + 1 → acc n = bACC ι c0 n k') :
    (fc2dot k n acc).exec σ = (Function.update acc n (bACC ι c0 n k.val), σ) := by
  have e : acc2 (rd (σ .gc) (r3 0 (512 * k.val) 256 512 (by decide) (deep8 k))) (rd (σ .w2) (r2 (512 * k.val) (256 * n.val) 512 256 (deep8 k) (wide4 n))) = bDot ι c0 k n := by
    have := On.rd h.2 (r3 0 (512 * k.val) 256 512 (by decide) (deep8 k)) fun x => by
      have : (x 2).val < 512 := (x 2).isLt
      show 512 * k.val + 1 * (x 2).val < _; omega
    rw [this, h.1.same .w2 (by decide)]; rfl
  rcases k with ⟨_ | k, hk⟩
  · exact congrArg (fun w => (Function.update acc n w, σ)) e
  · have : bACC ι c0 n (k + 1) = addf (acc n) (bDot ι c0 ⟨k + 1, hk⟩ n) := by
      rw [ha k rfl]
      have : Fin.ofNat 8 (k + 1) = (⟨k + 1, hk⟩ : Fin 8) := Fin.ext (Nat.mod_eq_of_lt hk)
      rw [← this]; rfl
    show _ = (Function.update acc n (bACC ι c0 n (k + 1)), σ)
    rw [this, ← e]; rfl

/-- One column tile of the layer's result stored. -/
theorem exec_fc2Tile (n : Fin 4) (c : Fin 2) (σ : St F) (h : PC ι c0 32 σ ∧ On (fun i => (i 2).val < 256 * n.val + 128 * c.val) (σ .y) (bY ι c0)) :
    PC ι c0 32 ((fc2Tile (keep (ι .segcolm)) (bACC ι c0 n 7) c (sub8 n c)).exec σ).2
      ∧ On (fun i => (i 2).val < 256 * n.val + 128 * (c.val + 1)) (((fc2Tile (keep (ι .segcolm)) (bACC ι c0 n 7) c (sub8 n c)).exec σ).2 .y) (bY ι c0) := by
  have e : outTile (keep (ι .segcolm)) (rd (σ .hm) (r2 0 (128 * (sub8 n c).val) 256 128 (by decide) (col8 (sub8 n c))))
    (affine (tile (bACC ι c0 n 7) c) (rd (σ .scolm) (r2 0 0 256 128 (by decide) (by decide))) (rd (σ .s2) (r2 0 (128 * (sub8 n c).val) 1 128 (by decide) (col8 (sub8 n c)))) (rd (σ .c2) (r2 0 (128 * (sub8 n c).val) 1 128 (by decide) (col8 (sub8 n c)))))
      = bYT ι c0 n c (sub8 n c) := by
    rw [h.1.1.same .hm (by decide), h.1.1.same .s2 (by decide), h.1.1.same .c2 (by decide), h.1.1.sc, rd_whole (bSC ι c0) (by decide) (by decide)]; rfl
  have key : ((fc2Tile (keep (ι .segcolm)) (bACC ι c0 n 7) c (sub8 n c)).exec σ).2
      = Function.update σ .y (put (r3 0 (128 * (sub8 n c).val) 256 128 (by decide) (col8 (sub8 n c))) (bYT ι c0 n c (sub8 n c)) (σ .y)) := by
    rw [← e]; rfl
  rw [key]
  refine ⟨⟨h.1.1.update ι c0 (by decide) _, h.1.2⟩, ?_⟩
  rw [Function.update_self]
  have hn : half8 (sub8 n c) = n := Fin.ext (by simp only [half8, sub8]; omega)
  have hc : odd8 (sub8 n c) = c := Fin.ext (by simp only [odd8, sub8]; omega)
  have hs : (sub8 n c).val = 2 * n.val + c.val := rfl
  refine On.put h.2 _ _ (fun k => ?_) fun i hi => ?_
  · refine Eq.trans ?_ (glue3_emb (p := 1) (q := 8) 256 128 rfl rfl (fun _ j => bYT ι c0 (half8 j) (odd8 j) j) 0 (sub8 n c) (by decide) (col8 _) k).symm
    rw [hn, hc]
  · by_cases hlt : (i 2).val < 256 * n.val + 128 * c.val
    · exact .inl hlt
    · exact .inr (mem_r3 _ _ _ _ _ _ _ (Nat.zero_le _) (by have := (i 1).isLt; simpa using this) (by omega) (by omega))

/-- What holds after the first `n` pairs of column tiles of the result. -/
def PY (n : Nat) (σ : St F) : Prop := PC ι c0 32 σ ∧ On (fun i => (i 2).val < 256 * n) (σ .y) (bY ι c0)

theorem exec_fc2 (n : Fin 4) (acc : Acc F) (σ : St F) (ha : acc n = bACC ι c0 n 7) (h : PY ι c0 n.val σ) :
    PY ι c0 (n.val + 1) ((fc2 n acc).exec σ).2 := by
  have e : keep (rd (σ .segcolm) (r2 0 0 256 128 (by decide) (by decide))) = keep (ι .segcolm) := by
    rw [h.1.1.same .segcolm (by decide), rd_whole (ι .segcolm) (by decide) (by decide)]
  have key : ((fc2 n acc).exec σ).2 = ((fc2Tile (keep (ι .segcolm)) (bACC ι c0 n 7) 1 (sub8 n 1)).exec ((fc2Tile (keep (ι .segcolm)) (bACC ι c0 n 7) 0 (sub8 n 0)).exec σ).2).2 := by
    rw [← ha, ← e]; rfl
  rw [key]
  have h0 := exec_fc2Tile ι c0 n 0 σ ⟨h.1, by simpa using h.2⟩
  have h1 := exec_fc2Tile ι c0 n 1 _ ⟨h0.1, by simpa using h0.2⟩
  refine ⟨h1.1, fun i hi => h1.2 i ?_⟩
  have : (1 : Fin 2).val = 1 := rfl
  omega

/-! ## The back as a whole -/

/-- The first MLP product and what follows it. -/
def backA : List Pc :=
  [.fc1 0, .fc1 1, .fc1 2, .fc1 3, .fc1 4, .fc1 5, .fc1 6, .fc1 7, .fc1 8, .fc1 9, .fc1 10, .fc1 11, .fc1 12, .fc1 13, .fc1 14, .fc1 15]

/-- One group of codes and the products of that chunk. -/
def chunk (k : Fin 8) : List Pc := [.gcodes k, .dot k 0, .dot k 1, .dot k 2, .dot k 3]

/-- The rest of the back. -/
def backB : List Pc :=
  [.gscale 0, .gscale 1] ++ ((List.ofFn chunk).flatten ++ [.fc2 0, .fc2 1, .fc2 2, .fc2 3])

theorem backL_eq : backL = backA ++ backB := by rfl

variable (off : Fin 2 → Nat) (hoff : ∀ a, off a + s1x256.size a ≤ s6x256.size a)

theorem exec_backA (acc : Acc F) (σ : St F) (h : Same inB1 σ ι) :
    PFc ι c0 16 ((runAll c0 off hoff backA acc).exec σ).2 := by
  have e : backA = (List.ofFn fun n : Fin 16 => [Pc.fc1 n]).flatten := by rfl
  rw [e]
  refine exec_groups c0 off hoff (fun n : Fin 16 => [Pc.fc1 n]) (fun n _ σ => PFc ι c0 n σ) (fun n acc σ hp => ?_) acc σ
    ⟨h, fun i hi => absurd hi (by simp), fun k hk => absurd hk (by omega)⟩
  simp only [runAll, Pc.run, K.exec_bind, K.exec]
  exact exec_fc1 ι c0 n σ hp

/-- What the back leaves. -/
structure BackOut (σ : St F) : Prop where
  same : Same inB σ ι
  y : σ .y = bY ι c0
  gc : σ .gc = bGC ι c0
  gs : σ .gs = bGS ι c0

theorem exec_backB (acc : Acc F) (σ : St F) (h : Same inB σ ι) (hg : σ .gl = bGL ι c0) (hm : σ .gmax = bMX ι c0 15) :
    BackOut ι c0 ((runAll c0 off hoff backB acc).exec σ).2 := by
  unfold backB
  rw [runAll_append, runAll_append]
  have G : PGs ι c0 (0 : Fin 2).val σ := ⟨h, hg, fun i hi => absurd hi (by simp), fun i hi => absurd hi (by simp), fun i hi => absurd hi (by simp), fun i _ => by rw [hm]⟩
  have G1 := exec_gscale ι c0 0 σ G
  have G2 := exec_gscale ι c0 1 _ G1
  have e0 : ((runAll c0 off hoff [.gscale 0, .gscale 1] acc).exec σ).2 = ((gscale c0 1).exec ((gscale c0 0).exec σ).2).2 := by
    simp only [runAll, Pc.run, K.exec_bind, K.exec]
  rw [e0]
  generalize ((runAll c0 off hoff [.gscale 0, .gscale 1] acc).exec σ).1 = acc1
  generalize ((gscale c0 1).exec ((gscale c0 0).exec σ).2).2 = σ1 at G2 ⊢
  have P0 : PK ι c0 σ1 := ⟨G2.same, G2.gl, On.all G2.gs fun i => (i 2).isLt, On.all G2.sc fun i => (i 0).isLt, On.all G2.inv fun i => (i 0).isLt⟩
  have gr := exec_groups c0 off hoff chunk (fun k acc σ => PC ι c0 (4 * k) σ ∧ ∀ n k', k = k' + 1 → acc n = bACC ι c0 n k') (fun k acc σ hp => ?_) acc1 σ1
    ⟨⟨P0, fun i hi => absurd hi (by simp)⟩, fun n k' hk => absurd hk (by omega)⟩
  · generalize ((runAll c0 off hoff (List.ofFn chunk).flatten acc1).exec σ1).1 = acc2 at gr ⊢
    generalize ((runAll c0 off hoff (List.ofFn chunk).flatten acc1).exec σ1).2 = σ2 at gr ⊢
    have Y0 : PY ι c0 (0 : Fin 4).val σ2 := ⟨gr.1, fun i hi => absurd hi (by simp)⟩
    have Y1 := exec_fc2 ι c0 0 acc2 _ (gr.2 0 7 rfl) Y0
    have Y2 := exec_fc2 ι c0 1 acc2 _ (gr.2 1 7 rfl) Y1
    have Y3 := exec_fc2 ι c0 2 acc2 _ (gr.2 2 7 rfl) Y2
    have Y4 := exec_fc2 ι c0 3 acc2 _ (gr.2 3 7 rfl) Y3
    simp only [runAll, Pc.run, K.exec_bind, K.exec]
    exact ⟨Y4.1.1.same, On.all Y4.2 fun i => (i 2).isLt, On.all Y4.1.2 fun i => (i 2).isLt, Y4.1.1.gs⟩
  · unfold chunk
    simp only [runAll, Pc.run, K.exec_bind, K.exec]
    have C1 := exec_gcodes ι c0 k σ hp.1
    generalize ((gcodes k).exec σ).2 = σ' at C1 ⊢
    rw [exec_dot ι c0 k 0 acc σ' C1 (hp.2 0)]; dsimp only
    rw [exec_dot ι c0 k 1 _ σ' C1 fun k' hk => by rw [Function.update_of_ne (by decide)]; exact hp.2 1 k' hk]; dsimp only
    rw [exec_dot ι c0 k 2 _ σ' C1 fun k' hk => by rw [Function.update_of_ne (by decide), Function.update_of_ne (by decide)]; exact hp.2 2 k' hk]; dsimp only
    rw [exec_dot ι c0 k 3 _ σ' C1 fun k' hk => by
      rw [Function.update_of_ne (by decide), Function.update_of_ne (by decide), Function.update_of_ne (by decide)]; exact hp.2 3 k' hk]
    refine ⟨by rw [Nat.mul_add]; exact C1, fun n k' hk => ?_⟩
    obtain rfl : k.val = k' := by omega
    fin_cases n <;> simp [Function.update]

theorem exec_back (acc : Acc F) (σ : St F) (h : Same inB1 σ ι) :
    BackOut ι c0 ((runAll c0 off hoff backL acc).exec σ).2 := by
  rw [backL_eq, runAll_append]
  have A := exec_backA ι c0 off hoff acc σ h
  exact exec_backB ι c0 off hoff _ _ (fun n hn => A.same n ((by decide : inB ⊆ inB1) hn)) (On.all A.gl fun i => (i 1).isLt) (A.mx 15 rfl)

end runs

end Cert.Vit
-- ==== Proof.Merge.lean ====
/-
  The three kinds of step: the first runs a front, the last a back, the others a back of the batch
  before interleaved with a front. What each leaves in the buffers.
-/
module

public import proofs.«01_k».proof.Proof.Back

@[expose] public section

noncomputable section

namespace Cert.Vit

open Idealize.ShloMosaic Idealize.SL.Sem

variable {F : FTy → Type} [FloatOps F]

/-! ## Which buffers the pieces touch -/

abbrev fpA : Finset Nm := {.x, .seg, .oc, .os, .so, .bo, .g2, .b2, .wo, .tmp, .scol, .segcol, .h}
abbrev fpB : Finset Nm := {.x, .seg, .oc, .os, .so, .bo, .g2, .b2, .wo, .tmp, .scol, .segcol, .h, .a2m, .a2c, .a2s}
abbrev bpA : Finset Nm := {.s1, .c1, .s2, .c2, .w1, .w2, .hm, .scolm, .segcolm, .gl, .gmax, .gs, .gc, .y, .a2m}
abbrev bpB : Finset Nm := {.s1, .c1, .s2, .c2, .w1, .w2, .hm, .scolm, .segcolm, .gl, .gmax, .gs, .gc, .y}

/-- The buffers of the whole step. -/
abbrev allN : Finset Nm := fpB ∪ bpA

section ok
variable {S : Finset Nm} (off : Fin 2 → Nat) (hoff : ∀ a, off a + s1x256.size a ≤ s6x256.size a) (c0 : F .f32)

theorem ok_masks (h : ({.seg, .segcol} : Finset Nm) ⊆ S) : (masks (F := F) off hoff).Ok S := by
  refine K.ok_mono h _ ?_; unfold masks; simp only [Bind.bind]
  exact K.ok_bind (K.ok_load _ _ _ (by decide)) fun _ => K.ok_store _ _ _ _ _ _ (by decide)

theorem ok_oscale (h : ({.os, .scol} : Finset Nm) ⊆ S) : (oscale (F := F)).Ok S := by
  refine K.ok_mono h _ ?_; unfold oscale; simp only [Bind.bind]
  exact K.ok_bind (K.ok_load _ _ _ (by decide)) fun _ => K.ok_store _ _ _ _ _ _ (by decide)

theorem ok_oproj (n : Fin 4) (h : ({.x, .oc, .so, .bo, .wo, .scol, .h} : Finset Nm) ⊆ S) : (oproj (F := F) n).Ok S := by
  refine K.ok_mono h _ ?_; unfold oproj oprojTile; simp only [Bind.bind]
  repeat first
    | exact K.ok_load _ _ _ (by decide) | exact K.ok_store _ _ _ _ _ _ (by decide) | refine K.ok_bind ?_ fun _ => ?_

theorem ok_center (r : Fin 2) (h : ({.h, .tmp} : Finset Nm) ⊆ S) : (center (F := F) r).Ok S := by
  refine K.ok_mono h _ ?_; unfold center loadH storeT; simp only [Bind.bind]
  repeat first
    | exact trivial | exact K.ok_load _ _ _ (by decide) | exact K.ok_store _ _ _ _ _ _ (by decide) | refine K.ok_all8 _ fun _ => ?_ | refine K.ok_bind ?_ fun _ => ?_

theorem ok_last (r : Fin 2) (h : ({.tmp, .g2, .b2, .scol, .a2m, .a2c, .a2s} : Finset Nm) ⊆ S) : (last (F := F) r).Ok S := by
  refine K.ok_mono h _ ?_; unfold last normStep codeStep loadT storeT; simp only [Bind.bind]
  repeat first
    | exact trivial | exact K.ok_load _ _ _ (by decide) | exact K.ok_store _ _ _ _ _ _ (by decide) | refine K.ok_all8 _ fun _ => ?_ | refine K.ok_bind ?_ fun _ => ?_
    | exact ⟨by decide, trivial⟩ | refine ⟨by decide, ?_⟩

theorem ok_fc1 (n : Fin 16) (h : ({.a2m, .w1, .scolm, .s1, .c1, .gl, .gmax} : Finset Nm) ⊆ S) : (fc1 c0 n).Ok S := by
  refine K.ok_mono h _ ?_; unfold fc1 fc1Tile; simp only [Bind.bind]
  repeat first
    | exact trivial | exact K.ok_load _ _ _ (by decide) | exact K.ok_store _ _ _ _ _ _ (by decide) | refine K.ok_bind ?_ fun _ => ?_ | split

theorem ok_gscale (r : Fin 2) (h : ({.gs, .scolm, .gmax} : Finset Nm) ⊆ S) : (gscale c0 r).Ok S := by
  refine K.ok_mono h _ ?_; unfold gscale; simp only [Bind.bind]
  repeat first
    | exact trivial | exact K.ok_load _ _ _ (by decide) | exact K.ok_store _ _ _ _ _ _ (by decide) | refine K.ok_bind ?_ fun _ => ?_

theorem ok_gcodes (k : Fin 8) (h : ({.gl, .gmax, .gc} : Finset Nm) ⊆ S) : (gcodes (F := F) k).Ok S := by
  refine K.ok_mono h _ ?_; unfold gcodes gcodesTile; simp only [Bind.bind]
  repeat first
    | exact trivial | exact K.ok_load _ _ _ (by decide) | exact K.ok_store _ _ _ _ _ _ (by decide) | refine K.ok_bind ?_ fun _ => ?_

theorem ok_dot (k : Fin 8) (n : Fin 4) (acc : Acc F) (h : ({.gc, .w2} : Finset Nm) ⊆ S) : (fc2dot k n acc).Ok S := by
  refine K.ok_mono h _ ?_; unfold fc2dot; simp only [Bind.bind]
  repeat first
    | exact trivial | exact K.ok_load _ _ _ (by decide) | refine K.ok_bind ?_ fun _ => ?_

theorem ok_fc2 (n : Fin 4) (acc : Acc F) (h : ({.segcolm, .hm, .scolm, .s2, .c2, .y} : Finset Nm) ⊆ S) : (fc2 n acc).Ok S := by
  refine K.ok_mono h _ ?_; unfold fc2 fc2Tile; simp only [Bind.bind]
  repeat first
    | exact trivial | exact K.ok_load _ _ _ (by decide) | exact K.ok_store _ _ _ _ _ _ (by decide) | refine K.ok_bind ?_ fun _ => ?_

theorem ok_carry (h : ({.h, .scol, .segcol, .hm, .scolm, .segcolm} : Finset Nm) ⊆ S) : (carry (F := F)).Ok S := by
  refine K.ok_mono h _ ?_; unfold carry; simp only [Bind.bind]
  repeat first
    | exact trivial | exact K.ok_load _ _ _ (by decide) | exact K.ok_store _ _ _ _ _ _ (by decide) | refine K.ok_bind ?_ fun _ => ?_

/-- Whether a piece belongs to the front. -/
def Pc.isFront : Pc → Bool
  | .masks | .oscale | .oproj _ | .center _ | .last _ => true
  | _ => false
/-- Whether a piece is a step of the first MLP product. -/
def Pc.isFc1 : Pc → Bool
  | .fc1 _ => true
  | _ => false
/-- Whether a piece is one of the front's first. -/
def Pc.isEarly : Pc → Bool
  | .masks | .oscale | .oproj _ => true
  | _ => false

theorem ok_early (p : Pc) (h : p.isEarly = true) (acc : Acc F) : (p.run c0 off hoff acc).Ok fpA := by
  cases p <;> first | (simp [Pc.isEarly] at h; done) | skip
  · exact K.ok_bind (ok_masks off hoff (by decide)) fun _ => trivial
  · exact K.ok_bind (ok_oscale (by decide)) fun _ => trivial
  · exact K.ok_bind (ok_oproj _ (by decide)) fun _ => trivial

theorem ok_front (p : Pc) (h : p.isFront = true) (acc : Acc F) : (p.run c0 off hoff acc).Ok fpB := by
  cases p <;> first | (simp [Pc.isFront] at h; done) | skip
  · exact K.ok_bind (ok_masks off hoff (by decide)) fun _ => trivial
  · exact K.ok_bind (ok_oscale (by decide)) fun _ => trivial
  · exact K.ok_bind (ok_oproj _ (by decide)) fun _ => trivial
  · exact K.ok_bind (ok_center _ (by decide)) fun _ => trivial
  · exact K.ok_bind (ok_last _ (by decide)) fun _ => trivial

theorem ok_back (p : Pc) (h : p.isFront = false) (acc : Acc F) : (p.run c0 off hoff acc).Ok bpA := by
  cases p <;> first | (simp [Pc.isFront] at h; done) | skip
  · exact K.ok_bind (ok_fc1 c0 _ (by decide)) fun _ => trivial
  · exact K.ok_bind (ok_gscale c0 _ (by decide)) fun _ => trivial
  · exact K.ok_bind (ok_gcodes _ (by decide)) fun _ => trivial
  · exact ok_dot _ _ _ (by decide)
  · exact K.ok_bind (ok_fc2 _ _ (by decide)) fun _ => trivial

theorem ok_late (p : Pc) (h : p.isFront = false) (h' : p.isFc1 = false) (acc : Acc F) : (p.run c0 off hoff acc).Ok bpB := by
  cases p <;> first | (simp [Pc.isFront] at h; done) | (simp [Pc.isFc1] at h'; done) | skip
  · exact K.ok_bind (ok_gscale c0 _ (by decide)) fun _ => trivial
  · exact K.ok_bind (ok_gcodes _ (by decide)) fun _ => trivial
  · exact ok_dot _ _ _ (by decide)
  · exact K.ok_bind (ok_fc2 _ _ (by decide)) fun _ => trivial

theorem passes_front (p : Pc) (h : p.isFront = true) : Passes c0 off hoff p := by
  cases p <;> first | (simp [Pc.isFront] at h; done) | skip
  all_goals intro acc acc' σ; simp only [Pc.run, K.exec_bind, K.exec]; exact ⟨trivial, trivial⟩

theorem ok_runAll (l : List Pc) (h : ∀ p ∈ l, ∀ acc, (Pc.run c0 off hoff p acc).Ok S) (acc : Acc F) : (runAll c0 off hoff l acc).Ok S := by
  induction l generalizing acc with
  | nil => trivial
  | cons a l ih => exact K.ok_bind (h a List.mem_cons_self acc) fun _ => ih (fun p hp => h p (List.mem_cons_of_mem _ hp)) _

end ok

/-! ## The steps -/

/-- The merged order up to the end of the first MLP product. -/
def kA : List Pc := (interleave sched frontL backL).take 19
/-- The rest of it. -/
def kB : List Pc := (interleave sched frontL backL).drop 19

theorem shuffleA : Shuffle frontA backA kA := by
  show Shuffle frontA backA [.fc1 0, .fc1 1, .fc1 2, .masks, .fc1 3, .fc1 4, .fc1 5, .fc1 6, .fc1 7, .fc1 8, .oscale, .fc1 9, .fc1 10, .fc1 11, .fc1 12, .fc1 13, .fc1 14, .oproj 0, .fc1 15]
  unfold frontA backA
  repeat (first | exact .nil | apply Shuffle.left | apply Shuffle.right)

theorem interleave_shuffle (s : List Bool) (l m : List Pc) (h1 : s.count true = l.length) (h2 : s.count false = m.length) :
    Shuffle l m (interleave s l m) := by
  induction s generalizing l m with
  | nil =>
    obtain rfl : l = [] := List.length_eq_zero_iff.mp h1.symm
    obtain rfl : m = [] := List.length_eq_zero_iff.mp h2.symm
    exact .nil
  | cons b s ih =>
    cases b
    · cases m with
      | nil => simp at h2
      | cons a m => exact .right a (ih l m (by simpa using h1) (by simpa using h2))
    · cases l with
      | nil => simp at h1
      | cons a l => exact .left a (ih l m (by simpa using h1) (by simpa using h2))

theorem kB_eq : kB = interleave (sched.drop 19) frontB backB := by rfl

theorem shuffleB : Shuffle frontB backB kB := by
  rw [kB_eq]; exact interleave_shuffle _ _ _ (by decide) (by decide)

theorem merged_eq : interleave sched frontL backL = kA ++ kB := (List.take_append_drop 19 _).symm

theorem frontA_early : ∀ p ∈ frontA, p.isEarly = true := by simp [frontA, Pc.isEarly]
theorem frontA_front : ∀ p ∈ frontA, p.isFront = true := by simp [frontA, Pc.isFront]
theorem frontB_front : ∀ p ∈ frontB, p.isFront = true := by simp [frontB, Pc.isFront]
theorem frontL_front : ∀ p ∈ frontL, p.isFront = true := by simp [frontL, Pc.isFront]
theorem backA_back : ∀ p ∈ backA, p.isFront = false := by simp [backA, Pc.isFront]
theorem backB_back : ∀ p ∈ backB, p.isFront = false ∧ p.isFc1 = false := by
  simp [backB, chunk, List.ofFn, Fin.foldr, Fin.foldr.loop, Pc.isFront, Pc.isFc1]
theorem backL_back : ∀ p ∈ backL, p.isFront = false := by simp [backL, Pc.isFront]

/-- The buffers no step writes. -/
abbrev kept : Finset Nm := {.x, .seg, .oc, .os, .so, .bo, .g2, .b2, .wo, .s1, .c1, .s2, .c2, .w1, .w2}

/-- The buffers after the carry. -/
def carrySt (σ : St F) : St F :=
  Function.update (Function.update (Function.update σ .hm (σ .h)) .scolm (σ .scol)) .segcolm (σ .segcol)

theorem exec_carry (σ : St F) : (carry.exec σ).2 = carrySt σ := by
  have e1 : ∀ w : FVec F s256x1024 .f32, put (α := F .f32) (r2 0 0 256 1024 (by decide) (by decide)) (shapeCast s256x1024 (rd w (r2 0 0 256 1024 (by decide) (by decide))) cast_256x1024) (σ .hm) = w := fun w =>
    (congrArg (fun u => put (α := F .f32) _ u _) (shapeCast_self _ _)).trans ((put_whole (α := F .f32) _ _ _ _).trans (rd_whole w _ _))
  have e2 : ∀ w v : FVec F s256x128 .f32, put (α := F .f32) (r2 0 0 256 128 (by decide) (by decide)) (shapeCast s256x128 (rd w (r2 0 0 256 128 (by decide) (by decide))) cast_256x128) v = w := fun w v =>
    (congrArg (fun u => put (α := F .f32) _ u _) (shapeCast_self _ _)).trans ((put_whole (α := F .f32) _ _ _ _).trans (rd_whole w _ _))
  unfold carrySt
  conv_rhs => rw [← e1 (σ .h), ← e2 (σ .scol) (σ .scolm), ← e2 (σ .segcol) (σ .segcolm)]
  rfl

section steps
variable (ι κ : St F) (c0 : F .f32) (off : Fin 2 → Nat) (hoff : ∀ a, off a + s1x256.size a ≤ s6x256.size a)

/-- What a back starts from, at the start of its step. -/
structure BackIn (σ : St F) : Prop where
  same : Same {.s1, .c1, .s2, .c2, .w1, .w2, .a2m} σ κ
  h : σ .h = κ .hm
  scol : σ .scol = κ .scolm
  seg : σ .segcol = κ .segcolm

theorem BackIn.carry {σ : St F} (h : BackIn κ σ) : Same inB1 (carrySt σ) κ := by
  intro n hn
  fin_cases hn
  · exact h.same .s1 (by decide)
  · exact h.same .c1 (by decide)
  · exact h.same .s2 (by decide)
  · exact h.same .c2 (by decide)
  · exact h.same .w1 (by decide)
  · exact h.same .w2 (by decide)
  · exact h.h
  · exact h.seg
  · exact h.same .a2m (by decide)
  · exact h.scol

theorem carry_of_not (σ : St F) (n : Nm) (h1 : n ≠ .hm) (h2 : n ≠ .scolm) (h3 : n ≠ .segcolm) : carrySt σ n = σ n := by
  unfold carrySt
  rw [Function.update_of_ne h3, Function.update_of_ne h2, Function.update_of_ne h1]

theorem exec_first (σ : St F) (h : Same inF σ ι) :
    FrontOut ι off hoff ((first c0 off hoff).exec σ).2 ∧ ∀ n, n ∉ fpB → ((first c0 off hoff).exec σ).2 n = σ n := by
  unfold first
  refine ⟨exec_front ι off hoff c0 _ σ h, fun n hn => ?_⟩
  exact K.exec_frame _ (ok_runAll off hoff c0 frontL (fun p hp acc => ok_front off hoff c0 p (frontL_front p hp) acc) _) σ n hn

theorem exec_final (σ : St F) (h : BackIn κ σ) :
    BackOut κ c0 ((final c0 off hoff).exec σ).2 ∧ ∀ n, n ∉ bpA → ((final c0 off hoff).exec σ).2 n = σ n := by
  unfold final
  rw [K.exec_bind, exec_carry]
  refine ⟨exec_back κ c0 off hoff _ _ (h.carry κ), fun n hn => ?_⟩
  rw [K.exec_frame _ (ok_runAll off hoff c0 backL (fun p hp acc => ok_back off hoff c0 p (backL_back p hp) acc) _) _ n hn]
  exact carry_of_not σ n (by rintro rfl; exact hn (by decide)) (by rintro rfl; exact hn (by decide)) (by rintro rfl; exact hn (by decide))

/-- What holds between the two halves of a merged step. -/
structure Mid (σ : St F) : Prop where
  front : POproj ι off hoff 2 σ
  same : Same inB σ κ
  gl : σ .gl = bGL κ c0
  mx : σ .gmax = bMX κ c0 15

theorem exec_kA (acc : Acc F) (σ0 : St F) (hF' : Same inF σ0 ι) (hB' : Same inB1 σ0 κ) :
    Mid ι κ c0 off hoff ((runAll c0 off hoff kA acc).exec σ0).2 := by
  obtain ⟨-, a2, a3, -⟩ := exec_shuffle c0 off hoff (S := fpA) (T := bpA) (by decide) shuffleA
    (fun p hp acc => ok_early off hoff c0 p (frontA_early p hp) acc) (fun p hp => passes_front off hoff c0 p (frontA_front p hp))
    (fun p hp acc => ok_back off hoff c0 p (backA_back p hp) acc) acc acc σ0 σ0 σ0 (fun _ _ => rfl) (fun _ _ => rfl)
  have PA := exec_frontA ι off hoff c0 acc σ0 hF'
  have QA := exec_backA κ c0 off hoff acc σ0 hB'
  have PA1 : POproj ι off hoff 2 ((runAll c0 off hoff kA acc).exec σ0).2 :=
    ⟨fun n hn => (a2 n ((by decide : inF ⊆ fpA) hn)).trans (PA.1 n hn), (a2 .segcol (by decide)).trans PA.2.1, (a2 .scol (by decide)).trans PA.2.2.1,
      by unfold HDone; rw [a2 .h (by decide)]; exact PA.2.2.2⟩
  have QA1 : Same inB ((runAll c0 off hoff kA acc).exec σ0).2 κ := fun n hn => (a3 n ((by decide : inB ⊆ bpA) hn)).trans (QA.same n ((by decide : inB ⊆ inB1) hn))
  have QA2 := (a3 .gl (by decide)).trans (On.all QA.gl fun i => (i 1).isLt)
  have QA3 := (a3 .gmax (by decide)).trans (QA.mx 15 rfl)
  exact ⟨PA1, QA1, QA2, QA3⟩

theorem exec_kB (acc1 : Acc F) (σ1 : St F) (h : Mid ι κ c0 off hoff σ1) :
    FrontOut ι off hoff ((runAll c0 off hoff kB acc1).exec σ1).2 ∧ BackOut κ c0 ((runAll c0 off hoff kB acc1).exec σ1).2 := by
  obtain ⟨-, b2, b3, -⟩ := exec_shuffle c0 off hoff (S := fpB) (T := bpB) (by decide) shuffleB
    (fun p hp acc => ok_front off hoff c0 p (frontB_front p hp) acc) (fun p hp => passes_front off hoff c0 p (frontB_front p hp))
    (fun p hp acc => ok_late off hoff c0 p (backB_back p hp).1 (backB_back p hp).2 acc) acc1 acc1 σ1 σ1 σ1 (fun _ _ => rfl) (fun _ _ => rfl)
  have PB := exec_frontB ι off hoff c0 acc1 σ1 h.front
  have QB := exec_backB κ c0 off hoff acc1 σ1 h.same h.gl h.mx
  exact ⟨⟨fun n hn => (b2 n ((by decide : inF ⊆ fpB) hn)).trans (PB.same n hn), (b2 .segcol (by decide)).trans PB.seg, (b2 .h (by decide)).trans PB.h,
      (b2 .a2s (by decide)).trans PB.a2s, (b2 .scol (by decide)).trans PB.scol, (b2 .a2c (by decide)).trans PB.a2c, (b2 .a2m (by decide)).trans PB.a2m⟩,
    ⟨fun n hn => (b3 n ((by decide : inB ⊆ bpB) hn)).trans (QB.same n hn), (b3 .y (by decide)).trans QB.y, (b3 .gc (by decide)).trans QB.gc, (b3 .gs (by decide)).trans QB.gs⟩⟩

theorem exec_merged (acc : Acc F) (σ0 : St F) (hF' : Same inF σ0 ι) (hB' : Same inB1 σ0 κ) :
    FrontOut ι off hoff ((runAll c0 off hoff (interleave sched frontL backL) acc).exec σ0).2
      ∧ BackOut κ c0 ((runAll c0 off hoff (interleave sched frontL backL) acc).exec σ0).2 := by
  rw [merged_eq, runAll_append]
  exact exec_kB ι κ c0 off hoff _ _ (exec_kA ι κ c0 off hoff acc σ0 hF' hB')

theorem exec_middle (σ : St F) (hF : Same inF σ ι) (hB : BackIn κ σ) :
    FrontOut ι off hoff ((middle c0 off hoff).exec σ).2 ∧ BackOut κ c0 ((middle c0 off hoff).exec σ).2 := by
  have hF' : Same inF (carrySt σ) ι := fun n hn => (carry_of_not σ n (by rintro rfl; exact absurd hn (by decide)) (by rintro rfl; exact absurd hn (by decide))
    (by rintro rfl; exact absurd hn (by decide))).trans (hF n hn)
  unfold middle
  rw [K.exec_bind, exec_carry]
  exact exec_merged ι κ c0 off hoff _ _ hF' (hB.carry κ)

theorem ok_first (acc : Unit := ()) : (first (F := F) c0 off hoff).Ok fpB :=
  ok_runAll off hoff c0 frontL (fun p hp acc => ok_front off hoff c0 p (frontL_front p hp) acc) _

theorem ok_final : (final (F := F) c0 off hoff).Ok allN :=
  K.ok_bind (ok_carry (by decide)) fun _ =>
    ok_runAll off hoff c0 backL (fun p hp acc => K.ok_mono (by decide) _ (ok_back off hoff c0 p (backL_back p hp) acc)) _

theorem shuffle_mem {l m k : List Pc} (h : Shuffle l m k) (p : Pc) (hp : p ∈ k) : p ∈ l ∨ p ∈ m := by
  induction h with
  | nil => exact .inl hp
  | left a _ ih => rcases List.mem_cons.mp hp with rfl | hp
                   · exact .inl List.mem_cons_self
                   · exact (ih hp).imp (List.mem_cons_of_mem _) id
  | right a _ ih => rcases List.mem_cons.mp hp with rfl | hp
                    · exact .inr List.mem_cons_self
                    · exact (ih hp).imp id (List.mem_cons_of_mem _)

theorem ok_middle : (middle (F := F) c0 off hoff).Ok allN :=
  K.ok_bind (ok_carry (by decide)) fun _ =>
    ok_runAll off hoff c0 _ (fun p hp acc => by
      rcases hpf : p.isFront with _ | _
      · exact K.ok_mono (by decide) _ (ok_back off hoff c0 p hpf acc)
      · exact K.ok_mono (by decide) _ (ok_front off hoff c0 p hpf acc)) _

end steps

end Cert.Vit
-- ==== Proof.Dma.lean ====
/-
  Lists of local copies: issuing them one after the other, waiting for them one after the other, and
  what a core holds before, between and after.
-/
module

public import proofs.«01_k».proof.Proof.Mach
public import Idealize.ShloMosaic.Lib.Transfers

@[expose] public section

noncomputable section

namespace Cert.Vit

open Idealize.ShloMosaic Idealize.SL.Sem

variable {nD : Nat} {τ : Topo} {sig : RefSig} {Λ : Labels} {F : FTy → Type} [FloatOps F]

/-- One copy from HBM to VMEM on a DMA semaphore of its own. -/
structure Cp (sig : RefSig) where
  s : Shape
  e : EltTy
  src : Memref sig .tc .hbm s e
  dst : Memref sig .tc .vmem s e
  sem : DmaSem sig
  hsrc : src.view.WordExact
  hdst : dst.view.WordExact
  pos : 0 < s.numel

/-- Issue the copies in order, then go on. -/
def Cp.issue : List (Cp sig) → Prog (TpuEff nD τ sig (Elt F) Λ .tc) PUnit → Prog (TpuEff nD τ sig (Elt F) Λ .tc) PUnit
  | [], k => k
  | a :: l, k => .op (.enqueueDma a.src (.here a.dst) (.dma a.sem) a.hsrc a.hdst ⟨.inl rfl, trivial⟩) fun _ => issue l k

/-- Wait for the copies in order, then go on. -/
def Cp.waits : List (Cp sig) → Prog (TpuEff nD τ sig (Elt F) Λ .tc) PUnit → Prog (TpuEff nD τ sig (Elt F) Λ .tc) PUnit
  | [], k => k
  | a :: l, k => .op (.waitDma2 a.sem a.src a.dst a.hsrc a.hdst) fun _ => waits l k

open Idealize.SL Idealize.SL.RA Idealize.SL.BI
open scoped Idealize.SL.BI
open Idealize.SL.BI.BIBase Idealize.SL.BI.Laws Idealize.SL.ProofMode
open Idealize.ShloMosaic.TcCoe Idealize.ShloMosaic.Tactic

local notation "𝕄" => MT nD τ sig Unit (Elt F) ℕ (Pipeline.UD sig nD τ) ℕ

/-- The resources of a list, one after the other. -/
def sepL {α : Type} (f : α → sProp 𝕄) : List α → sProp 𝕄
  | [] => iprop(emp)
  | a :: l => iprop(f a ∗ sepL f l)

variable (V : (c : Dev nD) → (b : Ref sig .tc) → Buf (Elt F) ((c.tc : Thread nD τ).loc b)) (c : Dev nD)

/-- The source of a copy, at the launch's contents. -/
def Cp.srcPt (a : Cp sig) : sProp 𝕄 := (a.src.view.loc (c : Thread nD τ)) ↦{fullShare} V c a.src.view.ref
/-- A copy's semaphore at zero. -/
def Cp.cell (a : Cp sig) : sProp 𝕄 := semVal ((c : Thread nD τ), SemLoc.dma a.sem) 0
/-- The contents a copy leaves in its destination buffer over `fd`. -/
def Cp.after (a : Cp sig) (fd : Buf (Elt F) (a.dst.view.loc (c : Thread nD τ))) : Buf (Elt F) (a.dst.view.loc (c : Thread nD τ)) :=
  a.dst.view.write (Elt F) fd (a.src.view.read (Elt F) (V c a.src.view.ref)) Finset.univ
/-- What a copy needs: its source, its destination's buffer, its semaphore at zero. -/
def Cp.give (a : Cp sig) : sProp 𝕄 :=
  iprop(a.srcPt V c ∗ (∃ fd : Buf (Elt F) (a.dst.view.loc (c : Thread nD τ)), (a.dst.view.loc (c : Thread nD τ)) ↦{fullShare} fd) ∗ a.cell c)
/-- A copy in flight. -/
def Cp.fly (a : Cp sig) : sProp 𝕄 :=
  iprop(∃ fd : Buf (Elt F) (a.dst.view.loc (c : Thread nD τ)), Transfers.Flight (countersEmb (U := Pipeline.UD sig nD τ)) (c : Thread nD τ) (SemLoc.dma a.sem) ()
    a.dst.view.dmaCredit (iprop(((a.dst.view.loc (c : Thread nD τ)) ↦{fullShare} a.after V c fd) ∗ a.srcPt V c)))
/-- What a finished copy leaves. -/
def Cp.got (a : Cp sig) : sProp 𝕄 :=
  iprop(a.srcPt V c ∗ (∃ fd : Buf (Elt F) (a.dst.view.loc (c : Thread nD τ)), (a.dst.view.loc (c : Thread nD τ)) ↦{fullShare} a.after V c fd) ∗ a.cell c)

variable {defs : Defs nD τ sig (Elt F) Λ} (𝒱 : Variants)

/-- Issued, every copy of the list is in flight. -/
theorem Cp.issue_sound (l : List (Cp sig)) (hset : ∀ a ∈ l, a.src.view.set = Finset.univ)
    (k : Prog (TpuEff nD τ sig (Elt F) Λ .tc) PUnit) (Q : PUnit → sProp 𝕄) :
    (iprop(sepL (Cp.give V c) l ∗ (sepL (Cp.fly V c) l -∗ wp frame (wpE defs 𝒱 (c : Thread nD τ) none) Set.univ k Q)) : sProp 𝕄)
      ⊢ wp frame (wpE defs 𝒱 (c : Thread nD τ) none) Set.univ (Cp.issue l k) Q := by
  induction l with
  | nil => simp only [sepL, Cp.issue]; iintro ⟨H, HQ⟩; iapply HQ; iexact H
  | cons a l ih =>
    have hs := hset a List.mem_cons_self
    simp only [sepL, Cp.issue]
    unfold Cp.give
    iintro ⟨⟨⟨Hs, ⟨%fd, Hd⟩, Hv⟩, HL⟩, HQ⟩
    unfold Cp.srcPt Cp.cell
    iapply (Transfers.wp_dmaLocal (countersEmb (U := Pipeline.UD sig nD τ)) 𝒱 (c : Thread nD τ) none (src := a.src) (dst := a.dst)
      (via := .same) (q := fullShare) (fs := V c a.src.view.ref) (Sd := Finset.univ) (fd := fd) () a.dst.view.dmaCredit rfl (View.dmaCredit_pos _ a.pos)
      (Finset.subset_univ _)) $$ [Hs Hd Hv]
    · rw [hs]
      isplitl [Hs]; · iexact Hs
      isplitl [Hd]; · iexact Hd
      iexact Hv
    iintro HF
    iapply (ih fun b hb => hset b (List.mem_cons_of_mem _ hb))
    isplitl [HL]; · iexact HL
    iintro HL
    iapply HQ
    isplitl [HF]
    · unfold Cp.fly Cp.after Cp.srcPt
      iexists fd
      rw [hs]
      iexact HF
    · iexact HL

/-- Waited for, every copy of the list has landed. -/
theorem Cp.waits_sound (l : List (Cp sig)) (W : Waits sig Unit)
    (k : Prog (TpuEff nD τ sig (Elt F) Λ .tc) PUnit) (Q : PUnit → sProp 𝕄) :
    (iprop(sepL (Cp.fly V c) l ∗ owes (c : Thread nD τ) 0 W
      ∗ ((sepL (Cp.got V c) l ∗ (∃ W', owes (c : Thread nD τ) 0 W')) -∗ wp frame (wpE defs 𝒱 (c : Thread nD τ) none) Set.univ k Q)) : sProp 𝕄)
      ⊢ wp frame (wpE defs 𝒱 (c : Thread nD τ) none) Set.univ (Cp.waits l k) Q := by
  induction l generalizing W with
  | nil =>
    simp only [sepL, Cp.waits]; iintro ⟨H, HW, HQ⟩; iapply HQ
    isplitl [H]; · iexact H
    iexists W; iexact HW
  | cons a l ih =>
    simp only [sepL, Cp.waits]
    unfold Cp.fly
    iintro ⟨⟨⟨%fd, HF⟩, HL⟩, HW, HQ⟩
    iapply (Transfers.wp_waitLocal (countersEmb (U := Pipeline.UD sig nD τ)) 𝒱 (c : Thread nD τ) none (dstw := a.dst) () rfl (W := W)) $$ [HF HW]
    · isplitl [HF]; · iexact HF
      iexact HW
    iintro ⟨⟨Hd, Hs⟩, Hv, HW⟩
    iapply (ih (insert (SemLoc.dma a.sem, ()) W))
    isplitl [HL]; · iexact HL
    isplitl [HW]; · iexact HW
    iintro ⟨HL, HW⟩
    iapply HQ
    isplitr [HW]
    · isplitl [Hs Hd Hv]
      · unfold Cp.got
        isplitl [Hs]; · iexact Hs
        isplitl [Hd]; · iexists fd; iexact Hd
        unfold Cp.cell; iexact Hv
      · iexact HL
    · iexact HW

/-- The row buffer `m` seen as a vector. -/
abbrev rowMem {N : Nat} (m : Memref sig .tc .vmem (⟨2, ![1, N]⟩ : Shape) .f32)
    (inb : ∀ a, (![0, 0] : Fin 2 → Nat) a + (⟨2, ![1, N]⟩ : Shape).size a ≤ (⟨2, ![1, N]⟩ : Shape).size a)
    (hq : (⟨2, ![1, N]⟩ : Shape).Squeezes (⟨1, ![N]⟩ : Shape)) : Memref sig .tc .vmem (⟨1, ![N]⟩ : Shape) .f32 :=
  (m.slice (Rect.unit (s := (⟨2, ![1, N]⟩ : Shape)) ![0, 0] (⟨2, ![1, N]⟩ : Shape).size inb) (fun _ => rfl)).squeeze (⟨1, ![N]⟩ : Shape) hq

/-- A vector copied into a row buffer is the vector as a row. -/
theorem rowMem_write {N : Nat} (m : Memref sig .tc .vmem (⟨2, ![1, N]⟩ : Shape) .f32)
    (inb : ∀ a, (![0, 0] : Fin 2 → Nat) a + (⟨2, ![1, N]⟩ : Shape).size a ≤ (⟨2, ![1, N]⟩ : Shape).size a)
    (hq : (⟨2, ![1, N]⟩ : Shape).Squeezes (⟨1, ![N]⟩ : Shape)) (hc : (⟨1, ![N]⟩ : Shape).ShapeCasts (⟨2, ![1, N]⟩ : Shape))
    (fd : m.view.ty.Contents (Elt F)) (w : (⟨1, ![N]⟩ : Shape).Idx → Elt F .f32) :
    m.view.read (Elt F) ((rowMem m inb hq).view.write (Elt F) fd w Finset.univ) = shapeCast (⟨2, ![1, N]⟩ : Shape) w hc := by
  funext i
  have hemb : (Rect.unit (s := (⟨2, ![1, N]⟩ : Shape)) ![0, 0] (⟨2, ![1, N]⟩ : Shape).size inb).emb i = i := by
    funext a; apply Fin.ext
    revert a; intro a
    fin_cases a <;> simp [Rect.emb, Rect.unit]
  have h := View.write_reshape_univ (Val := Elt F) (v := m.view.slice (Rect.unit (s := (⟨2, ![1, N]⟩ : Shape)) ![0, 0] (⟨2, ![1, N]⟩ : Shape).size inb)) hq.numel_eq fd w
  have h2 := View.read_slice_write_emb (Val := Elt F) (v := m.view) (Rect.unit (s := (⟨2, ![1, N]⟩ : Shape)) ![0, 0] (⟨2, ![1, N]⟩ : Shape).size inb) fd
    (fun x => w ((Shape.reshapeEquiv hq.numel_eq).symm x)) (Finset.mem_univ i)
  rw [hemb] at h2
  refine Eq.trans (congrArg (fun f => m.view.read (Elt F) f i) h) (h2.trans ?_)
  rw [Shape.reshapeEquiv_symm]; rfl

end Cert.Vit
-- ==== Proof.Steps.lean ====
/-
  What the buffers hold between grid points: the inputs of a batch, what a front leaves for the back of
  the next point, and the buffers of the vector code one by one.
-/
module

public import proofs.«01_k».proof.Proof.Merge
public import proofs.«01_k».proof.Proof.Dma

@[expose] public section

noncomputable section

namespace Cert.Vit

open Idealize.ShloMosaic Idealize.SL.Sem

variable {F : FTy → Type} [FloatOps F]

/-- A number for the buffers that no statement reads. -/
def z32 : F .f32 := Scalar.ofBits .f32 0#32
/-- The same, as a code. -/
def z8 : F .fp8e4m3 := Scalar.ofBits .fp8e4m3 0#8

/-- The inputs of a batch: its blocks of the windows and the copied weights. -/
def mkIn (x : Vec F s1x256x1024 .bf16) (seg : Vec F s6x256 .i32) (oc : Vec F s1x256x1152 .fp8e4m3) (os : Vec F s1x1x256 .f32)
    (so bo g2 b2 : Vec F s1x1024 .f32) (s1 c1 : Vec F s1x4096 .f32) (s2 c2 : Vec F s1x1024 .f32)
    (wo : Vec F s1152x1024 .fp8e4m3) (w1 : Vec F s1024x4096 .fp8e4m3) (w2 : Vec F s4096x1024 .fp8e4m3) : St F
  | .x => x | .seg => seg | .oc => oc | .os => os
  | .so => so | .bo => bo | .g2 => g2 | .b2 => b2
  | .s1 => s1 | .c1 => c1 | .s2 => s2 | .c2 => c2
  | .wo => wo | .w1 => w1 | .w2 => w2
  | .y => x | .a2s => os | .gs => os
  | .a2c => fun _ => z8 | .gc => fun _ => z8 | .a2m => fun _ => z8
  | .tmp => fun _ => z32 | .scol => fun _ => z32 | .segcol => fun _ => z32 | .h => fun _ => z32 | .hm => fun _ => z32
  | .scolm => fun _ => z32 | .segcolm => fun _ => z32 | .gl => fun _ => z32 | .gmax => fun _ => z32

/-- The weights among the inputs do not depend on the batch. -/
theorem mkIn_wts (x x' : Vec F s1x256x1024 .bf16) (seg seg' : Vec F s6x256 .i32) (oc oc' : Vec F s1x256x1152 .fp8e4m3) (os os' : Vec F s1x1x256 .f32)
    (so bo g2 b2 : Vec F s1x1024 .f32) (s1 c1 : Vec F s1x4096 .f32) (s2 c2 : Vec F s1x1024 .f32)
    (wo : Vec F s1152x1024 .fp8e4m3) (w1 : Vec F s1024x4096 .fp8e4m3) (w2 : Vec F s4096x1024 .fp8e4m3) :
    Same {.so, .bo, .g2, .b2, .s1, .c1, .s2, .c2, .wo, .w1, .w2} (mkIn x seg oc os so bo g2 b2 s1 c1 s2 c2 wo w1 w2)
      (mkIn x' seg' oc' os' so bo g2 b2 s1 c1 s2 c2 wo w1 w2) := by
  intro n hn
  fin_cases hn <;> rfl

/-- What a back reads: the front's results of its batch and the weights. -/
def mkBack (ι : St F) (off : Fin 2 → Nat) (hoff : ∀ a, off a + s1x256.size a ≤ s6x256.size a) : St F
  | .hm => fH ι | .segcolm => fSEG ι off hoff | .a2m => fA2M ι | .scolm => fSCOL ι
  | n => ι n

/-- The buffers at a grid point: the windows beside the persistent contents `σ`. -/
def withWin (ι σ : St F) (y : Vec F s1x256x1024 .bf16) (a2c : Vec F s1x256x1024 .fp8e4m3) (a2s : Vec F s1x1x256 .f32)
    (gc : Vec F s1x256x4096 .fp8e4m3) (gs : Vec F s1x1x256 .f32) : St F
  | .x => ι .x | .seg => ι .seg | .oc => ι .oc | .os => ι .os
  | .y => y | .a2c => a2c | .a2s => a2s | .gc => gc | .gs => gs
  | n => σ n

/-- The buffers with the working scratch at given contents. -/
def withScr (σ : St F) (tmp : Vec F s256x1024 .f32) (scol segcol : Vec F s256x128 .f32) (h : Vec F s256x1024 .f32) (a2m : Vec F s256x1024 .fp8e4m3)
    (hm : Vec F s256x1024 .f32) (scolm segcolm : Vec F s256x128 .f32) (gl : Vec F s256x4096 .f32) (gmax : Vec F s256x128 .f32) : St F
  | .tmp => tmp | .scol => scol | .segcol => segcol | .h => h | .a2m => a2m
  | .hm => hm | .scolm => scolm | .segcolm => segcolm | .gl => gl | .gmax => gmax
  | n => σ n

/-- The copied weights and vectors. -/
abbrev wts : Finset Nm := {.so, .bo, .g2, .b2, .s1, .c1, .s2, .c2, .wo, .w1, .w2}
/-- Those that have arrived by the end of the first grid point. -/
abbrev wts0 : Finset Nm := {.so, .bo, .g2, .b2, .s1, .c1, .s2, .c2, .wo}
/-- The working scratch. -/
abbrev scr : Finset Nm := {.tmp, .scol, .segcol, .h, .a2m, .hm, .scolm, .segcolm, .gl, .gmax}
/-- The windows. -/
abbrev winN : Finset Nm := {.x, .seg, .oc, .os, .y, .a2c, .a2s, .gc, .gs}

/-- What is carried from one grid point to the next: the weights and the front's results. -/
structure Inv (ι : St F) (off : Fin 2 → Nat) (hoff : ∀ a, off a + s1x256.size a ≤ s6x256.size a) (σ : St F) : Prop where
  same : Same wts σ ι
  h : σ .h = fH ι
  scol : σ .scol = fSCOL ι
  seg : σ .segcol = fSEG ι off hoff
  a2m : σ .a2m = fA2M ι

variable (ι κ σ : St F) (off off' : Fin 2 → Nat) (hoff : ∀ a, off a + s1x256.size a ≤ s6x256.size a)
  (hoff' : ∀ a, off' a + s1x256.size a ≤ s6x256.size a)
  (y : Vec F s1x256x1024 .bf16) (a2c : Vec F s1x256x1024 .fp8e4m3) (a2s : Vec F s1x1x256 .f32)
    (gc : Vec F s1x256x4096 .fp8e4m3) (gs : Vec F s1x1x256 .f32)

theorem same_withScr (tmp : Vec F s256x1024 .f32) (scol segcol : Vec F s256x128 .f32) (h : Vec F s256x1024 .f32) (a2m : Vec F s256x1024 .fp8e4m3)
    (hm : Vec F s256x1024 .f32) (scolm segcolm : Vec F s256x128 .f32) (gl : Vec F s256x4096 .f32) (gmax : Vec F s256x128 .f32) :
    Same wts (withScr σ tmp scol segcol h a2m hm scolm segcolm gl gmax) σ := by
  intro n hn
  fin_cases hn <;> rfl

theorem Same.mono {S T : Finset Nm} {σ ι : St F} (h : Same S σ ι) (hT : T ⊆ S) : Same T σ ι := fun n hn => h n (hT hn)
theorem Same.trans {S : Finset Nm} {σ ι ι' : St F} (h : Same S σ ι) (h' : Same S ι ι') : Same S σ ι' := fun n hn => (h n hn).trans (h' n hn)

theorem FrontOut.inv {ι σ : St F} {off : Fin 2 → Nat} {hoff : ∀ a, off a + s1x256.size a ≤ s6x256.size a} (h : FrontOut ι off hoff σ)
    (h2 : Same {.s1, .c1, .s2, .c2, .w1, .w2} σ ι) : Inv ι off hoff σ := by
  refine ⟨?_, h.h, h.scol, h.seg, h.a2m⟩
  intro n hn
  fin_cases hn <;> first | exact h.same _ (by decide) | exact h2 _ (by decide)

theorem same_withWin {ι σ : St F} (h : Same wts σ ι) : Same inF (withWin ι σ y a2c a2s gc gs) ι := by
  intro n hn
  fin_cases hn <;> first | rfl | exact h _ (by decide)

theorem backIn_withWin {ι ι' σ : St F} {off : Fin 2 → Nat} {hoff : ∀ a, off a + s1x256.size a ≤ s6x256.size a} (h : Inv ι off hoff σ) :
    BackIn (mkBack ι off hoff) (withWin ι' σ y a2c a2s gc gs) := by
  refine ⟨?_, h.h, h.scol, h.seg⟩
  intro n hn
  fin_cases hn <;> first | exact h.a2m | exact h.same _ (by decide)

theorem BackOut.wts {ι σ : St F} {off : Fin 2 → Nat} {hoff : ∀ a, off a + s1x256.size a ≤ s6x256.size a} {c0 : F .f32}
    (h : BackOut (mkBack ι off hoff) c0 σ) : Same {.s1, .c1, .s2, .c2, .w1, .w2} σ ι := by
  intro n hn
  fin_cases hn <;> exact h.same _ (by decide)

/-! ## The buffers one by one -/

open Idealize.SL Idealize.SL.RA Idealize.SL.BI
open scoped Idealize.SL.BI
open Idealize.SL.BI.BIBase Idealize.SL.BI.Laws Idealize.SL.ProofMode
open Idealize.ShloMosaic.TcCoe Idealize.ShloMosaic.Tactic

variable {nD : Nat} {τ : Topo} {sig : RefSig}
local notation "𝕄" => MT nD τ sig Unit (Elt F) ℕ (Pipeline.UD sig nD τ) ℕ

variable (M : Mems sig) (c : Dev nD)

/-- Buffer `n` at contents `X`. -/
abbrev own1 (n : Nm) (X : Vec F (sh n) (el n)) : sProp 𝕄 := owns (c : Thread nD τ) (M.mem n) fullShare X

theorem own_insert (n : Nm) (S : Finset Nm) (h : n ∉ S) (σ : St F) :
    (Own M c (insert n S) σ : sProp 𝕄) = iprop(own1 M c n (σ n) ∗ Own M c S σ) := by
  unfold Own; exact bigSep_insert h
theorem own_single (n : Nm) (σ : St F) :
    (Own M c {n} σ : sProp 𝕄) = own1 M c n (σ n) := by
  unfold Own; exact bigSep_singleton
theorem own_union (S T : Finset Nm) (h : Disjoint S T) (σ : St F) :
    (Own M c (S ∪ T) σ : sProp 𝕄) = iprop(Own M c S σ ∗ Own M c T σ) := by
  unfold Own; exact bigSep_union h

theorem own_winN (σ : St F) : (Own M c winN σ : sProp 𝕄) = iprop(own1 M c .x (σ .x) ∗ own1 M c .seg (σ .seg) ∗ own1 M c .oc (σ .oc)
    ∗ own1 M c .os (σ .os) ∗ own1 M c .y (σ .y) ∗ own1 M c .a2c (σ .a2c) ∗ own1 M c .a2s (σ .a2s) ∗ own1 M c .gc (σ .gc) ∗ own1 M c .gs (σ .gs)) := by
  rw [own_insert _ _ _ _ (by decide), own_insert _ _ _ _ (by decide), own_insert _ _ _ _ (by decide), own_insert _ _ _ _ (by decide),
    own_insert _ _ _ _ (by decide), own_insert _ _ _ _ (by decide), own_insert _ _ _ _ (by decide), own_insert _ _ _ _ (by decide), own_single]
theorem own_wts0 (σ : St F) : (Own M c wts0 σ : sProp 𝕄) = iprop(own1 M c .so (σ .so) ∗ own1 M c .bo (σ .bo) ∗ own1 M c .g2 (σ .g2)
    ∗ own1 M c .b2 (σ .b2) ∗ own1 M c .s1 (σ .s1) ∗ own1 M c .c1 (σ .c1) ∗ own1 M c .s2 (σ .s2) ∗ own1 M c .c2 (σ .c2) ∗ own1 M c .wo (σ .wo)) := by
  rw [own_insert _ _ _ _ (by decide), own_insert _ _ _ _ (by decide), own_insert _ _ _ _ (by decide), own_insert _ _ _ _ (by decide),
    own_insert _ _ _ _ (by decide), own_insert _ _ _ _ (by decide), own_insert _ _ _ _ (by decide), own_insert _ _ _ _ (by decide), own_single]
theorem own_scr (σ : St F) : (Own M c scr σ : sProp 𝕄) = iprop(own1 M c .tmp (σ .tmp) ∗ own1 M c .scol (σ .scol) ∗ own1 M c .segcol (σ .segcol)
    ∗ own1 M c .h (σ .h) ∗ own1 M c .a2m (σ .a2m) ∗ own1 M c .hm (σ .hm) ∗ own1 M c .scolm (σ .scolm) ∗ own1 M c .segcolm (σ .segcolm)
    ∗ own1 M c .gl (σ .gl) ∗ own1 M c .gmax (σ .gmax)) := by
  rw [own_insert _ _ _ _ (by decide), own_insert _ _ _ _ (by decide), own_insert _ _ _ _ (by decide), own_insert _ _ _ _ (by decide),
    own_insert _ _ _ _ (by decide), own_insert _ _ _ _ (by decide), own_insert _ _ _ _ (by decide), own_insert _ _ _ _ (by decide),
    own_insert _ _ _ _ (by decide), own_single]
theorem own_big (σ : St F) : (Own M c {.w1, .w2} σ : sProp 𝕄) = iprop(own1 M c .w1 (σ .w1) ∗ own1 M c .w2 (σ .w2)) := by
  rw [own_insert _ _ _ _ (by decide), own_single]

/-- The buffers in use at the first grid point, after the windows' own. -/
abbrev rest0 : Finset Nm := wts0 ∪ scr
/-- The buffers kept between grid points once the last two weights are there. -/
abbrev restN : Finset Nm := ({.w1, .w2} : Finset Nm) ∪ rest0

theorem own_rest0 (σ : St F) : (Own M c rest0 σ : sProp 𝕄) = iprop(Own M c wts0 σ ∗ Own M c scr σ) := own_union M c _ _ (by decide) σ
theorem own_restN (σ : St F) : (Own M c restN σ : sProp 𝕄) = iprop(Own M c {.w1, .w2} σ ∗ Own M c rest0 σ) := own_union M c _ _ (by decide) σ

theorem allN_eq : allN = winN ∪ restN := by decide
theorem firstN_sub : fpB ⊆ winN ∪ rest0 := by decide

theorem own_all (σ : St F) : (Own M c allN σ : sProp 𝕄) = iprop(Own M c winN σ ∗ Own M c restN σ) := by
  rw [allN_eq]; exact own_union M c _ _ (by decide) σ
theorem own_first (σ : St F) : (Own M c (winN ∪ rest0) σ : sProp 𝕄) = iprop(Own M c winN σ ∗ Own M c rest0 σ) := own_union M c _ _ (by decide) σ

/-- The persistent buffers do not see the windows. -/
theorem own_withWin (S : Finset Nm) (hS : Disjoint S winN) (ι' σ : St F) :
    (Own M c S (withWin ι' σ y a2c a2s gc gs) : sProp 𝕄) = Own M c S σ := by
  refine Own_congr M c S fun n hn => ?_
  have h := Finset.disjoint_left.mp hS hn
  cases n <;> first | rfl | exact (h (by decide)).elim

variable (V : (c : Dev nD) → (b : Ref sig .tc) → Buf (Elt F) ((c.tc : Thread nD τ).loc b))

/-- What is left of a finished copy when its destination is set aside. -/
def Cp.held (a : Cp sig) : sProp 𝕄 := iprop(a.srcPt V c ∗ a.cell c)

theorem sepL_append {α : Type} (f : α → sProp 𝕄) (l l' : List α) : (sepL f (l ++ l') : sProp 𝕄) ⊣⊢ iprop(sepL f l ∗ sepL f l') := by
  induction l with
  | nil => simp only [List.nil_append, sepL]; exact emp_sep.symm
  | cons a l ih => simp only [List.cons_append, sepL]; exact (sep_congr .rfl ih).trans sep_assoc.symm

/-- A finished copy of a vector: the row holds it. -/
theorem got_row {N : Nat} (a : Memref sig .tc .hbm (⟨1, ![N]⟩ : Shape) .f32) (ha : a.view.WordExact) (m : Memref sig .tc .vmem (⟨2, ![1, N]⟩ : Shape) .f32)
    (hm : m.IsWhole) (inb : ∀ a, (![0, 0] : Fin 2 → Nat) a + (⟨2, ![1, N]⟩ : Shape).size a ≤ (⟨2, ![1, N]⟩ : Shape).size a)
    (hq : (⟨2, ![1, N]⟩ : Shape).Squeezes (⟨1, ![N]⟩ : Shape)) (hw) (hp : 0 < (⟨1, ![N]⟩ : Shape).numel) (s : DmaSem sig)
    (hc : (⟨1, ![N]⟩ : Shape).ShapeCasts (⟨2, ![1, N]⟩ : Shape)) :
    (Cp.got V c ⟨_, _, a, rowMem m inb hq, s, ha, hw, hp⟩ : sProp 𝕄)
      ⊢ iprop(Cp.held c V ⟨_, _, a, rowMem m inb hq, s, ha, hw, hp⟩
        ∗ owns (c : Thread nD τ) m fullShare (shapeCast (⟨2, ![1, N]⟩ : Shape) (a.view.read (Elt F) (V c a.view.ref)) hc)) := by
  unfold Cp.got Cp.held Cp.after
  iintro ⟨Hs, ⟨%fd, Hd⟩, Hc⟩
  isplitl [Hs Hc]
  · isplitl [Hs]; · iexact Hs
    iexact Hc
  unfold owns
  iexists _
  isplitr
  swap
  · rw [hm.set_eq_univ]; iexact Hd
  ipureintro
  exact rowMem_write m inb hq hc fd _

/-- A finished copy of a matrix. -/
theorem got_mat {s : Shape} {e : EltTy} (a : Memref sig .tc .hbm s e) (ha) (m : Memref sig .tc .vmem s e) (hm : m.IsWhole) (hw)
    (hp : 0 < s.numel) (sm : DmaSem sig) :
    (Cp.got V c ⟨_, _, a, m, sm, ha, hw, hp⟩ : sProp 𝕄)
      ⊢ iprop(Cp.held c V ⟨_, _, a, m, sm, ha, hw, hp⟩
        ∗ owns (c : Thread nD τ) m fullShare (a.view.read (Elt F) (V c a.view.ref))) := by
  unfold Cp.got Cp.held Cp.after
  iintro ⟨Hs, ⟨%fd, Hd⟩, Hc⟩
  isplitl [Hs Hc]
  · isplitl [Hs]; · iexact Hs
    iexact Hc
  unfold owns
  iexists _
  isplitr
  swap
  · rw [hm.set_eq_univ]; iexact Hd
  ipureintro
  exact View.read_write_univ _ _

/-- A finished copy whose destination nobody reads. -/
theorem got_any (a : Cp sig) : (Cp.got V c a : sProp 𝕄)
      ⊢ iprop(Cp.held c V a ∗ ∃ f : Buf (Elt F) (a.dst.view.loc (c : Thread nD τ)), (a.dst.view.loc (c : Thread nD τ)) ↦{fullShare} f) := by
  unfold Cp.got Cp.held
  iintro ⟨Hs, ⟨%fd, Hd⟩, Hc⟩
  isplitl [Hs Hc]
  · isplitl [Hs]; · iexact Hs
    iexact Hc
  iexists _; iexact Hd

end Cert.Vit
-- ==== Proof.Kernel.Body.lean ====
/-
  The kernel's body at each of its seven grid points, as programs of the small machine after the
  copies it issues and waits for itself.
-/
module

public import proofs.«01_k».proof.Proof.Pieces
public import proofs.«01_k».proof.Proof.Dma
public import proofs.«01_k».proof.Proof.Gen.Kernel.Points
public import proofs.«01_k».proof.Proof.Gen.Kernel.Launch

@[expose] public section

noncomputable section

namespace Cert.Kernel.Gen

open Idealize.ShloMosaic Idealize.ShloMosaic.TcCoe Idealize.SL Idealize.SL.Sem Cert.Vit

variable {F : FTy → Type} [FloatOps F]

/-- The buffers the body's vector code uses at grid point `t`. -/
def mems (t : Fin cfg0.N) : Mems sig where
  mem
    | .x => win0_0.stage (cfg0.slots t 0)
    | .seg => win0_1.stage (cfg0.slots t 1)
    | .oc => win0_2.stage (cfg0.slots t 2)
    | .os => win0_3.stage (cfg0.slots t 3)
    | .y => win0_4.stage (cfg0.slots t 4)
    | .a2c => win0_5.stage (cfg0.slots t 5)
    | .a2s => win0_6.stage (cfg0.slots t 6)
    | .gc => win0_7.stage (cfg0.slots t 7)
    | .gs => win0_8.stage (cfg0.slots t 8)
    | .so => Memref.whole cc0_scratch4
    | .bo => Memref.whole cc0_scratch5
    | .g2 => Memref.whole cc0_scratch6
    | .b2 => Memref.whole cc0_scratch7
    | .s1 => Memref.whole cc0_scratch8
    | .c1 => Memref.whole cc0_scratch9
    | .s2 => Memref.whole cc0_scratch10
    | .c2 => Memref.whole cc0_scratch11
    | .wo => Memref.whole cc0_scratch13
    | .w1 => Memref.whole cc0_scratch14
    | .w2 => Memref.whole cc0_scratch15
    | .tmp => Memref.whole cc0_scratch16
    | .scol => Memref.whole cc0_scratch17
    | .segcol => Memref.whole cc0_scratch20
    | .h => Memref.whole cc0_scratch21
    | .a2m => Memref.whole cc0_scratch22
    | .hm => Memref.whole cc0_scratch23
    | .scolm => Memref.whole cc0_scratch24
    | .segcolm => Memref.whole cc0_scratch25
    | .gl => Memref.whole cc0_scratch26
    | .gmax => Memref.whole cc0_scratch27
  whole
    | .x => hstage0_0 ((cfg0.slots t 0).cast nbuf0_0)
    | .seg => hstage0_1 ((cfg0.slots t 1).cast nbuf0_1)
    | .oc => hstage0_2 ((cfg0.slots t 2).cast nbuf0_2)
    | .os => hstage0_3 ((cfg0.slots t 3).cast nbuf0_3)
    | .y => hstage0_4 ((cfg0.slots t 4).cast nbuf0_4)
    | .a2c => hstage0_5 ((cfg0.slots t 5).cast nbuf0_5)
    | .a2s => hstage0_6 ((cfg0.slots t 6).cast nbuf0_6)
    | .gc => hstage0_7 ((cfg0.slots t 7).cast nbuf0_7)
    | .gs => hstage0_8 ((cfg0.slots t 8).cast nbuf0_8)
    | .so => Memref.isWhole_whole _
    | .bo => Memref.isWhole_whole _
    | .g2 => Memref.isWhole_whole _
    | .b2 => Memref.isWhole_whole _
    | .s1 => Memref.isWhole_whole _
    | .c1 => Memref.isWhole_whole _
    | .s2 => Memref.isWhole_whole _
    | .c2 => Memref.isWhole_whole _
    | .wo => Memref.isWhole_whole _
    | .w1 => Memref.isWhole_whole _
    | .w2 => Memref.isWhole_whole _
    | .tmp => Memref.isWhole_whole _
    | .scol => Memref.isWhole_whole _
    | .segcol => Memref.isWhole_whole _
    | .h => Memref.isWhole_whole _
    | .a2m => Memref.isWhole_whole _
    | .hm => Memref.isWhole_whole _
    | .scolm => Memref.isWhole_whole _
    | .segcolm => Memref.isWhole_whole _
    | .gl => Memref.isWhole_whole _
    | .gmax => Memref.isWhole_whole _

/-- The constant `1/√2` the kernel uses. -/
def c0 : F .f32 := Scalar.ofBits .f32 0x3F3504F3#32

/-- The semaphore of the `j`-th copy. -/
abbrev cell (j : Nat) (h : ∀ a, (![j] : Fin 1 → Nat) a + S1.size a ≤ S16.size a) : DmaSem sig :=
  ((cc0_scratch32.slice (Rect.unit (s := S16) ![j] S1.size h)).squeeze S_ squeezes_S1_S_).sem

theorem inb_row (N : Nat) : ∀ a, (![0, 0] : Fin 2 → Nat) a + (⟨2, ![1, N]⟩ : Shape).size a ≤ (⟨2, ![1, N]⟩ : Shape).size a :=
  forall2 (le_of_eq (Nat.zero_add _)) (le_of_eq (Nat.zero_add _))

/-- The copy of a vector into a row buffer. -/
abbrev rowCp {N : Nat} (a : Memref sig .tc .hbm (⟨1, ![N]⟩ : Shape) .f32) (ha : a.IsWhole) (m : Memref sig .tc .vmem (⟨2, ![1, N]⟩ : Shape) .f32)
    (hq : (⟨2, ![1, N]⟩ : Shape).Squeezes (⟨1, ![N]⟩ : Shape)) (hp : 0 < (⟨1, ![N]⟩ : Shape).numel) (s : DmaSem sig) : Cp sig :=
  ⟨_, _, a, rowMem m (inb_row N) hq, s, ha.wordExact, (View.wordExact_bits rfl).reshape _ _, hp⟩

/-- The copy of a weight matrix. -/
abbrev matCp {s : Shape} {e : EltTy} (a : Memref sig .tc .hbm s e) (ha : a.IsWhole) (m : Memref sig .tc .vmem s e) (hm : m.IsWhole)
    (hp : 0 < s.numel) (sm : DmaSem sig) : Cp sig :=
  ⟨_, _, a, m, sm, ha.wordExact, hm.wordExact, hp⟩

theorem pos_1024 : 0 < (⟨1, ![1024]⟩ : Shape).numel := by decide
theorem pos_1920 : 0 < (⟨1, ![1920]⟩ : Shape).numel := by decide
theorem pos_4096 : 0 < (⟨1, ![4096]⟩ : Shape).numel := by decide
theorem pos_wqkv : 0 < (⟨2, ![1024, 1920]⟩ : Shape).numel := by decide
theorem pos_wo : 0 < (⟨2, ![1152, 1024]⟩ : Shape).numel := by decide
theorem pos_w1 : 0 < (⟨2, ![1024, 4096]⟩ : Shape).numel := by decide
theorem pos_w2 : 0 < (⟨2, ![4096, 1024]⟩ : Shape).numel := by decide

/-- The copies awaited at the first grid point. -/
def cps0 : List (Cp sig) :=
  [rowCp (Memref.whole main_arg4) (Memref.isWhole_whole _) (Memref.whole cc0_scratch0) squeezes_S1x1024_S1024 pos_1024 (cell 0 inb_S16_S1_0),
   rowCp (Memref.whole main_arg5) (Memref.isWhole_whole _) (Memref.whole cc0_scratch1) squeezes_S1x1024_S1024 pos_1024 (cell 1 inb_S16_S1_1),
   rowCp (Memref.whole main_arg7) (Memref.isWhole_whole _) (Memref.whole cc0_scratch2) squeezes_S1x1920_S1920 pos_1920 (cell 2 inb_S16_S1_2),
   rowCp (Memref.whole main_arg8) (Memref.isWhole_whole _) (Memref.whole cc0_scratch3) squeezes_S1x1920_S1920 pos_1920 (cell 3 inb_S16_S1_3),
   rowCp (Memref.whole main_arg10) (Memref.isWhole_whole _) (Memref.whole cc0_scratch4) squeezes_S1x1024_S1024 pos_1024 (cell 4 inb_S16_S1_4),
   rowCp (Memref.whole main_arg11) (Memref.isWhole_whole _) (Memref.whole cc0_scratch5) squeezes_S1x1024_S1024 pos_1024 (cell 5 inb_S16_S1_5),
   rowCp (Memref.whole main_arg12) (Memref.isWhole_whole _) (Memref.whole cc0_scratch6) squeezes_S1x1024_S1024 pos_1024 (cell 6 inb_S16_S1_6),
   rowCp (Memref.whole main_arg13) (Memref.isWhole_whole _) (Memref.whole cc0_scratch7) squeezes_S1x1024_S1024 pos_1024 (cell 7 inb_S16_S1_7),
   rowCp (Memref.whole main_arg15) (Memref.isWhole_whole _) (Memref.whole cc0_scratch8) squeezes_S1x4096_S4096 pos_4096 (cell 8 inb_S16_S1_8),
   rowCp (Memref.whole main_arg16) (Memref.isWhole_whole _) (Memref.whole cc0_scratch9) squeezes_S1x4096_S4096 pos_4096 (cell 9 inb_S16_S1_9),
   rowCp (Memref.whole main_arg18) (Memref.isWhole_whole _) (Memref.whole cc0_scratch10) squeezes_S1x1024_S1024 pos_1024 (cell 10 inb_S16_S1_10),
   rowCp (Memref.whole main_arg19) (Memref.isWhole_whole _) (Memref.whole cc0_scratch11) squeezes_S1x1024_S1024 pos_1024 (cell 11 inb_S16_S1_11),
   matCp (Memref.whole main_arg6) (Memref.isWhole_whole _) (Memref.whole cc0_scratch12) (Memref.isWhole_whole _) pos_wqkv (cell 12 inb_S16_S1_12),
   matCp (Memref.whole main_arg9) (Memref.isWhole_whole _) (Memref.whole cc0_scratch13) (Memref.isWhole_whole _) pos_wo (cell 13 inb_S16_S1_13)]

/-- The copies awaited at the second grid point. -/
def cps1 : List (Cp sig) :=
  [matCp (Memref.whole main_arg14) (Memref.isWhole_whole _) (Memref.whole cc0_scratch14) (Memref.isWhole_whole _) pos_w1 (cell 14 inb_S16_S1_14),
   matCp (Memref.whole main_arg17) (Memref.isWhole_whole _) (Memref.whole cc0_scratch15) (Memref.isWhole_whole _) pos_w2 (cell 15 inb_S16_S1_15)]

theorem offOk (i : Nat) (h : i < 6) : ∀ a, (![i, 0] : Fin 2 → Nat) a + s1x256.size a ≤ s6x256.size a :=
  forall2 h (le_refl 256)

/-- The vector code of a grid point. -/
abbrev run (t : Fin cfg0.N) (p : K F (Acc F)) : Prog (TpuEff nD τ sig (Elt F) Λ₀ .tc) PUnit :=
  (K.bind p fun _ => .ret ⟨⟩).toProg (mems t)

theorem body0 : bodyAt0 (F := F) t0_0 = Cp.issue (cps0 ++ cps1) (Cp.waits cps0 (run t0_0 (first c0 ![0, 0] (offOk 0 (by decide))))) := by
  sl_kernel_rfl
theorem body1 : bodyAt0 (F := F) t0_1 = Cp.waits cps1 (run t0_1 (middle c0 ![1, 0] (offOk 1 (by decide)))) := by
  sl_kernel_rfl
theorem body2 : bodyAt0 (F := F) t0_2 = run t0_2 (middle c0 ![2, 0] (offOk 2 (by decide))) := by
  sl_kernel_rfl
theorem body3 : bodyAt0 (F := F) t0_3 = run t0_3 (middle c0 ![3, 0] (offOk 3 (by decide))) := by
  sl_kernel_rfl
theorem body4 : bodyAt0 (F := F) t0_4 = run t0_4 (middle c0 ![4, 0] (offOk 4 (by decide))) := by
  sl_kernel_rfl
theorem body5 : bodyAt0 (F := F) t0_5 = run t0_5 (middle c0 ![5, 0] (offOk 5 (by decide))) := by
  sl_kernel_rfl
theorem body6 : bodyAt0 (F := F) t0_6 = run t0_6 (final c0 ![0, 0] (offOk 0 (by decide))) := by
  sl_kernel_rfl

end Cert.Kernel.Gen
-- ==== Proof.Kernel.Parts.lean ====
/-
  What the program's run establishes: it ends, nothing faults, its arguments end unchanged, every
  semaphore counter is zero again, and every result block is what the closed forms say.
-/
module

public import proofs.«01_k».proof.Proof.Steps
public import proofs.«01_k».proof.Proof.Kernel.Body
public import proofs.«01_k».proof.Proof.Gen.Kernel.Frame
public import Idealize.ShloMosaic.Lib.Pipeline.FrameBody

@[expose] public section

set_option maxRecDepth 16384

noncomputable section

namespace Cert.Kernel.Hand

open Cert.Kernel Cert.Kernel.Gen Cert.Vit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the kernel call -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end as they began. -/
def ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)

set_option maxHeartbeats 1200000 in
theorem frame_of (dats : (p : Fin 1) → (c : Dev nD) → Dat τ (Elt F) Unit ℕ (Pipeline.UD sig nD τ) ℕ (cfgs p) c)
    (hA : ∀ c w, (dats 0 c).A w = V m c (Pipeline.arrRef spec0 w)) (r : PUnit × MemSt nD τ sig (Elt F))
    (h : Pipeline.FramePost cfgs dats 0 (V m) r ∧ r.2.sem = fun _ => 0) : ArgsKept m r :=
  fun c => ⟨((h.1 c).1 0).trans (((dats 0 c).arrAt_in 0 rfl _).trans ((hA c 0).trans (V_main_arg0 m c))),
      ((h.1 c).1 1).trans (((dats 0 c).arrAt_in 1 rfl _).trans ((hA c 1).trans (V_main_arg1 m c))),
      ((h.1 c).1 2).trans (((dats 0 c).arrAt_in 2 rfl _).trans ((hA c 2).trans (V_main_arg2 m c))),
      ((h.1 c).1 3).trans (((dats 0 c).arrAt_in 3 rfl _).trans ((hA c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c)⟩

/-! ## The semaphores and the operands of the body's own copies -/

/-- The semaphores of the sixteen copies. -/
abbrev osem0 : Fin 16 → SemLoc sig := fun j => (![SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem0 [0, 1, 2, 3, 4, 5, 6, 7, 8, 9, 10, 11, 12, 13, 14, 15] (by decide) (by decide)]; rfl
/-- The operands the body copies from. -/
def H0 : Finset (Ref sig .tc) := {main_arg4, main_arg5, main_arg6, main_arg7, main_arg8, main_arg9, main_arg10, main_arg11, main_arg12, main_arg13, main_arg14, main_arg15, main_arg16, main_arg17, main_arg18, main_arg19}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_arg11) ↦{fullShare} V m c main_arg11) ∗ (((c : Thread nD τ).loc main_arg12) ↦{fullShare} V m c main_arg12) ∗ (((c : Thread nD τ).loc main_arg13) ↦{fullShare} V m c main_arg13) ∗ (((c : Thread nD τ).loc main_arg14) ↦{fullShare} V m c main_arg14) ∗ (((c : Thread nD τ).loc main_arg15) ↦{fullShare} V m c main_arg15) ∗ (((c : Thread nD τ).loc main_arg16) ↦{fullShare} V m c main_arg16) ∗ (((c : Thread nD τ).loc main_arg17) ↦{fullShare} V m c main_arg17) ∗ (((c : Thread nD τ).loc main_arg18) ↦{fullShare} V m c main_arg18) ∗ (((c : Thread nD τ).loc main_arg19) ↦{fullShare} V m c main_arg19)) := by
  rw [BI.bigSep_eq_bigSepL_of_eq [main_arg4, main_arg5, main_arg6, main_arg7, main_arg8, main_arg9, main_arg10, main_arg11, main_arg12, main_arg13, main_arg14, main_arg15, main_arg16, main_arg17, main_arg18, main_arg19] (by decide) (by decide)]; rfl

/-- What the region holds beside the windows, before and after. -/
abbrev PhiD (c : Dev nD) : sProp 𝕄 := Pipeline.ΦD osem0 spec0 H0 (V m) c

/-! ## The batches -/

/-- The grid point at which batch `b` enters. -/
abbrev pt (b : Fin 6) : Fin cfg0.N := ⟨b.val, lt_of_lt_of_eq (Nat.lt_of_lt_of_le b.isLt (by decide)) N_0.symm⟩

theorem row_1024 : (⟨1, ![1024]⟩ : Shape).ShapeCasts s1x1024 := by decide
theorem row_4096 : (⟨1, ![4096]⟩ : Shape).ShapeCasts s1x4096 := by decide

/-- The inputs of a front at a grid point. -/
def inpT (c : Dev nD) (t : Fin cfg0.N) : St F :=
  mkIn (iblk m c 0 t) (iblk m c 1 t) (iblk m c 2 t) (iblk m c 3 t)
    (shapeCast s1x1024 (V m c main_arg10) row_1024) (shapeCast s1x1024 (V m c main_arg11) row_1024)
    (shapeCast s1x1024 (V m c main_arg12) row_1024) (shapeCast s1x1024 (V m c main_arg13) row_1024)
    (shapeCast s1x4096 (V m c main_arg15) row_4096) (shapeCast s1x4096 (V m c main_arg16) row_4096)
    (shapeCast s1x1024 (V m c main_arg18) row_1024) (shapeCast s1x1024 (V m c main_arg19) row_1024)
    (V m c main_arg9) (V m c main_arg14) (V m c main_arg17)

/-- The inputs of batch `b`. -/
abbrev inp (c : Dev nD) (b : Fin 6) : St F := inpT m c (pt b)

/-- What the back of batch `b` reads. -/
def bck (c : Dev nD) (b : Fin 6) : St F := mkBack (inp m c b) ![b.val, 0] (offOk b.val b.isLt)

/-- The batch in the front windows at a grid point. -/
def fb (t : Fin cfg0.N) : Fin 6 := ⟨min t.val 5, Nat.lt_of_le_of_lt (Nat.min_le_right _ _) (by decide)⟩
/-- The batch in the back windows at a grid point. -/
def bb (t : Fin cfg0.N) : Fin 6 := ⟨t.val - 1, by have h := t.isLt; have h2 := N_0; have h3 : t.val < 7 := lt_of_lt_of_eq h h2; omega⟩

/-- What is carried when batch `b`'s front has run. -/
abbrev InvB (c : Dev nD) (b : Fin 6) (σ : St F) : Prop := Inv (inp m c b) ![b.val, 0] (offOk b.val b.isLt) σ

/-- The scratch buffers nothing touches. -/
def spare (c : Dev nD) : sProp 𝕄 := iprop((∃ f : Buf (Elt F) ((c : Thread nD τ).loc cc0_scratch18), ((c : Thread nD τ).loc cc0_scratch18) ↦{fullShare} f) ∗ (∃ f : Buf (Elt F) ((c : Thread nD τ).loc cc0_scratch19), ((c : Thread nD τ).loc cc0_scratch19) ↦{fullShare} f) ∗ (∃ f : Buf (Elt F) ((c : Thread nD τ).loc cc0_scratch28), ((c : Thread nD τ).loc cc0_scratch28) ↦{fullShare} f) ∗ (∃ f : Buf (Elt F) ((c : Thread nD τ).loc cc0_scratch29), ((c : Thread nD τ).loc cc0_scratch29) ↦{fullShare} f) ∗ (∃ f : Buf (Elt F) ((c : Thread nD τ).loc cc0_scratch30), ((c : Thread nD τ).loc cc0_scratch30) ↦{fullShare} f) ∗ (∃ f : Buf (Elt F) ((c : Thread nD τ).loc cc0_scratch31), ((c : Thread nD τ).loc cc0_scratch31) ↦{fullShare} f))
/-- The destinations of the copies nothing reads. -/
def unread (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch12), ((c : Thread nD τ).loc cc0_scratch12) ↦{fullShare} f))
/-- The working scratch at anything. -/
def work (c : Dev nD) : sProp 𝕄 := iprop((∃ f : Buf (Elt F) ((c : Thread nD τ).loc cc0_scratch16), ((c : Thread nD τ).loc cc0_scratch16) ↦{fullShare} f) ∗ (∃ f : Buf (Elt F) ((c : Thread nD τ).loc cc0_scratch17), ((c : Thread nD τ).loc cc0_scratch17) ↦{fullShare} f) ∗ (∃ f : Buf (Elt F) ((c : Thread nD τ).loc cc0_scratch20), ((c : Thread nD τ).loc cc0_scratch20) ↦{fullShare} f) ∗ (∃ f : Buf (Elt F) ((c : Thread nD τ).loc cc0_scratch21), ((c : Thread nD τ).loc cc0_scratch21) ↦{fullShare} f) ∗ (∃ f : Buf (Elt F) ((c : Thread nD τ).loc cc0_scratch22), ((c : Thread nD τ).loc cc0_scratch22) ↦{fullShare} f) ∗ (∃ f : Buf (Elt F) ((c : Thread nD τ).loc cc0_scratch23), ((c : Thread nD τ).loc cc0_scratch23) ↦{fullShare} f) ∗ (∃ f : Buf (Elt F) ((c : Thread nD τ).loc cc0_scratch24), ((c : Thread nD τ).loc cc0_scratch24) ↦{fullShare} f) ∗ (∃ f : Buf (Elt F) ((c : Thread nD τ).loc cc0_scratch25), ((c : Thread nD τ).loc cc0_scratch25) ↦{fullShare} f) ∗ (∃ f : Buf (Elt F) ((c : Thread nD τ).loc cc0_scratch26), ((c : Thread nD τ).loc cc0_scratch26) ↦{fullShare} f) ∗ (∃ f : Buf (Elt F) ((c : Thread nD τ).loc cc0_scratch27), ((c : Thread nD τ).loc cc0_scratch27) ↦{fullShare} f))
/-- The rest that stays the same from the first grid point on. -/
def kept0 (c : Dev nD) : sProp 𝕄 := iprop(spare c ∗ unread c ∗ (∃ r, prngReg c r) ∗ sepL (Cp.held c (V m)) cps0)

/-- Between the first and the second grid point. -/
def phi1 (c : Dev nD) : sProp 𝕄 :=
  iprop((∃ σ : St F, ⌜InvB m c 0 σ⌝ ∗ Own (mems t0_0) c rest0 σ) ∗ kept0 m c ∗ sepL (Cp.fly (V m) c) cps1)
/-- Between later grid points. -/
def phiM (c : Dev nD) (b : Fin 6) : sProp 𝕄 :=
  iprop((∃ σ : St F, ⌜InvB m c b σ⌝ ∗ Own (mems t0_0) c restN σ) ∗ kept0 m c ∗ sepL (Cp.held c (V m)) cps1)

/-- What is held beside the windows before grid point `n`. -/
def phi (c : Dev nD) : ℕ → sProp 𝕄
  | 0 => PhiD m c
  | 1 => phi1 m c
  | 2 => phiM m c 1
  | 3 => phiM m c 2
  | 4 => phiM m c 3
  | 5 => phiM m c 4
  | 6 => phiM m c 5
  | _ => PhiD m c

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bY (bck m c (bb t)) c0
    | ⟨5, _⟩ => fA2C (inp m c (fb t))
    | ⟨6, _⟩ => fA2S (inp m c (fb t))
    | ⟨7, _⟩ => bGC (bck m c (bb t)) c0
    | ⟨8, _⟩ => bGS (bck m c (bb t)) c0
  Φ t := phi m c t.val
  q _ := fullShare
  owed _ := 0

theorem A_eq (c : Dev nD) (w : Fin cfg0.W) : (dats m 0 c).A w = V m c (Pipeline.arrRef spec0 w) := by
  dsimp only [dats]

/-! ## Taking the region's holdings apart and putting them together again -/

theorem PhiD_eq (c : Dev nD) : (PhiD m c : sProp 𝕄) = iprop(Pipeline.scopedRest (Ix := Unit) (Name := ℕ) (U := Pipeline.UD sig nD τ) (Lvl := ℕ) (Val := Elt F) spec0 c
    ∗ (∃ r, prngReg c r)
    ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)
    ∗ iprop((((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_arg11) ↦{fullShare} V m c main_arg11) ∗ (((c : Thread nD τ).loc main_arg12) ↦{fullShare} V m c main_arg12) ∗ (((c : Thread nD τ).loc main_arg13) ↦{fullShare} V m c main_arg13) ∗ (((c : Thread nD τ).loc main_arg14) ↦{fullShare} V m c main_arg14) ∗ (((c : Thread nD τ).loc main_arg15) ↦{fullShare} V m c main_arg15) ∗ (((c : Thread nD τ).loc main_arg16) ↦{fullShare} V m c main_arg16) ∗ (((c : Thread nD τ).loc main_arg17) ↦{fullShare} V m c main_arg17) ∗ (((c : Thread nD τ).loc main_arg18) ↦{fullShare} V m c main_arg18) ∗ (((c : Thread nD τ).loc main_arg19) ↦{fullShare} V m c main_arg19))) := by
  unfold PhiD; rw [Pipeline.ΦD_eq, ownSems00_eq, hbmPts0_eq]

theorem give_eq (c : Dev nD) : (sepL (Cp.give (V m) c) (cps0 ++ cps1) : sProp 𝕄) = iprop(iprop((((c : Thread nD τ).loc main_arg4) ↦{fullShare} V m c main_arg4) ∗ (∃ f : Buf (Elt F) ((c : Thread nD τ).loc cc0_scratch0), ((c : Thread nD τ).loc cc0_scratch0) ↦{fullShare} f) ∗ semVal ((c : Thread nD τ), SemLoc.dma 17) 0)
    ∗ iprop((((c : Thread nD τ).loc main_arg5) ↦{fullShare} V m c main_arg5) ∗ (∃ f : Buf (Elt F) ((c : Thread nD τ).loc cc0_scratch1), ((c : Thread nD τ).loc cc0_scratch1) ↦{fullShare} f) ∗ semVal ((c : Thread nD τ), SemLoc.dma 18) 0)
    ∗ iprop((((c : Thread nD τ).loc main_arg7) ↦{fullShare} V m c main_arg7) ∗ (∃ f : Buf (Elt F) ((c : Thread nD τ).loc cc0_scratch2), ((c : Thread nD τ).loc cc0_scratch2) ↦{fullShare} f) ∗ semVal ((c : Thread nD τ), SemLoc.dma 19) 0)
    ∗ iprop((((c : Thread nD τ).loc main_arg8) ↦{fullShare} V m c main_arg8) ∗ (∃ f : Buf (Elt F) ((c : Thread nD τ).loc cc0_scratch3), ((c : Thread nD τ).loc cc0_scratch3) ↦{fullShare} f) ∗ semVal ((c : Thread nD τ), SemLoc.dma 20) 0)
    ∗ iprop((((c : Thread nD τ).loc main_arg10) ↦{fullShare} V m c main_arg10) ∗ (∃ f : Buf (Elt F) ((c : Thread nD τ).loc cc0_scratch4), ((c : Thread nD τ).loc cc0_scratch4) ↦{fullShare} f) ∗ semVal ((c : Thread nD τ), SemLoc.dma 21) 0)
    ∗ iprop((((c : Thread nD τ).loc main_arg11) ↦{fullShare} V m c main_arg11) ∗ (∃ f : Buf (Elt F) ((c : Thread nD τ).loc cc0_scratch5), ((c : Thread nD τ).loc cc0_scratch5) ↦{fullShare} f) ∗ semVal ((c : Thread nD τ), SemLoc.dma 22) 0)
    ∗ iprop((((c : Thread nD τ).loc main_arg12) ↦{fullShare} V m c main_arg12) ∗ (∃ f : Buf (Elt F) ((c : Thread nD τ).loc cc0_scratch6), ((c : Thread nD τ).loc cc0_scratch6) ↦{fullShare} f) ∗ semVal ((c : Thread nD τ), SemLoc.dma 23) 0)
    ∗ iprop((((c : Thread nD τ).loc main_arg13) ↦{fullShare} V m c main_arg13) ∗ (∃ f : Buf (Elt F) ((c : Thread nD τ).loc cc0_scratch7), ((c : Thread nD τ).loc cc0_scratch7) ↦{fullShare} f) ∗ semVal ((c : Thread nD τ), SemLoc.dma 24) 0)
    ∗ iprop((((c : Thread nD τ).loc main_arg15) ↦{fullShare} V m c main_arg15) ∗ (∃ f : Buf (Elt F) ((c : Thread nD τ).loc cc0_scratch8), ((c : Thread nD τ).loc cc0_scratch8) ↦{fullShare} f) ∗ semVal ((c : Thread nD τ), SemLoc.dma 25) 0)
    ∗ iprop((((c : Thread nD τ).loc main_arg16) ↦{fullShare} V m c main_arg16) ∗ (∃ f : Buf (Elt F) ((c : Thread nD τ).loc cc0_scratch9), ((c : Thread nD τ).loc cc0_scratch9) ↦{fullShare} f) ∗ semVal ((c : Thread nD τ), SemLoc.dma 26) 0)
    ∗ iprop((((c : Thread nD τ).loc main_arg18) ↦{fullShare} V m c main_arg18) ∗ (∃ f : Buf (Elt F) ((c : Thread nD τ).loc cc0_scratch10), ((c : Thread nD τ).loc cc0_scratch10) ↦{fullShare} f) ∗ semVal ((c : Thread nD τ), SemLoc.dma 27) 0)
    ∗ iprop((((c : Thread nD τ).loc main_arg19) ↦{fullShare} V m c main_arg19) ∗ (∃ f : Buf (Elt F) ((c : Thread nD τ).loc cc0_scratch11), ((c : Thread nD τ).loc cc0_scratch11) ↦{fullShare} f) ∗ semVal ((c : Thread nD τ), SemLoc.dma 28) 0)
    ∗ iprop((((c : Thread nD τ).loc main_arg6) ↦{fullShare} V m c main_arg6) ∗ (∃ f : Buf (Elt F) ((c : Thread nD τ).loc cc0_scratch12), ((c : Thread nD τ).loc cc0_scratch12) ↦{fullShare} f) ∗ semVal ((c : Thread nD τ), SemLoc.dma 29) 0)
    ∗ iprop((((c : Thread nD τ).loc main_arg9) ↦{fullShare} V m c main_arg9) ∗ (∃ f : Buf (Elt F) ((c : Thread nD τ).loc cc0_scratch13), ((c : Thread nD τ).loc cc0_scratch13) ↦{fullShare} f) ∗ semVal ((c : Thread nD τ), SemLoc.dma 30) 0)
    ∗ iprop((((c : Thread nD τ).loc main_arg14) ↦{fullShare} V m c main_arg14) ∗ (∃ f : Buf (Elt F) ((c : Thread nD τ).loc cc0_scratch14), ((c : Thread nD τ).loc cc0_scratch14) ↦{fullShare} f) ∗ semVal ((c : Thread nD τ), SemLoc.dma 31) 0)
    ∗ iprop((((c : Thread nD τ).loc main_arg17) ↦{fullShare} V m c main_arg17) ∗ (∃ f : Buf (Elt F) ((c : Thread nD τ).loc cc0_scratch15), ((c : Thread nD τ).loc cc0_scratch15) ↦{fullShare} f) ∗ semVal ((c : Thread nD τ), SemLoc.dma 32) 0)
    ∗ emp) := rfl

theorem held0_eq (c : Dev nD) : (sepL (Cp.held c (V m)) cps0 : sProp 𝕄) = iprop(iprop((((c : Thread nD τ).loc main_arg4) ↦{fullShare} V m c main_arg4) ∗ semVal ((c : Thread nD τ), SemLoc.dma 17) 0)
    ∗ iprop((((c : Thread nD τ).loc main_arg5) ↦{fullShare} V m c main_arg5) ∗ semVal ((c : Thread nD τ), SemLoc.dma 18) 0)
    ∗ iprop((((c : Thread nD τ).loc main_arg7) ↦{fullShare} V m c main_arg7) ∗ semVal ((c : Thread nD τ), SemLoc.dma 19) 0)
    ∗ iprop((((c : Thread nD τ).loc main_arg8) ↦{fullShare} V m c main_arg8) ∗ semVal ((c : Thread nD τ), SemLoc.dma 20) 0)
    ∗ iprop((((c : Thread nD τ).loc main_arg10) ↦{fullShare} V m c main_arg10) ∗ semVal ((c : Thread nD τ), SemLoc.dma 21) 0)
    ∗ iprop((((c : Thread nD τ).loc main_arg11) ↦{fullShare} V m c main_arg11) ∗ semVal ((c : Thread nD τ), SemLoc.dma 22) 0)
    ∗ iprop((((c : Thread nD τ).loc main_arg12) ↦{fullShare} V m c main_arg12) ∗ semVal ((c : Thread nD τ), SemLoc.dma 23) 0)
    ∗ iprop((((c : Thread nD τ).loc main_arg13) ↦{fullShare} V m c main_arg13) ∗ semVal ((c : Thread nD τ), SemLoc.dma 24) 0)
    ∗ iprop((((c : Thread nD τ).loc main_arg15) ↦{fullShare} V m c main_arg15) ∗ semVal ((c : Thread nD τ), SemLoc.dma 25) 0)
    ∗ iprop((((c : Thread nD τ).loc main_arg16) ↦{fullShare} V m c main_arg16) ∗ semVal ((c : Thread nD τ), SemLoc.dma 26) 0)
    ∗ iprop((((c : Thread nD τ).loc main_arg18) ↦{fullShare} V m c main_arg18) ∗ semVal ((c : Thread nD τ), SemLoc.dma 27) 0)
    ∗ iprop((((c : Thread nD τ).loc main_arg19) ↦{fullShare} V m c main_arg19) ∗ semVal ((c : Thread nD τ), SemLoc.dma 28) 0)
    ∗ iprop((((c : Thread nD τ).loc main_arg6) ↦{fullShare} V m c main_arg6) ∗ semVal ((c : Thread nD τ), SemLoc.dma 29) 0)
    ∗ iprop((((c : Thread nD τ).loc main_arg9) ↦{fullShare} V m c main_arg9) ∗ semVal ((c : Thread nD τ), SemLoc.dma 30) 0)
    ∗ emp) := rfl

theorem held1_eq (c : Dev nD) : (sepL (Cp.held c (V m)) cps1 : sProp 𝕄) = iprop(iprop((((c : Thread nD τ).loc main_arg14) ↦{fullShare} V m c main_arg14) ∗ semVal ((c : Thread nD τ), SemLoc.dma 31) 0)
    ∗ iprop((((c : Thread nD τ).loc main_arg17) ↦{fullShare} V m c main_arg17) ∗ semVal ((c : Thread nD τ), SemLoc.dma 32) 0)
    ∗ emp) := rfl

theorem PhiD_split (c : Dev nD) : (PhiD m c : sProp 𝕄) ⊢ iprop(sepL (Cp.give (V m) c) (cps0 ++ cps1) ∗ spare c ∗ work c ∗ (∃ r, prngReg c r)) := by
  rw [PhiD_eq, scopedRest0_eq, give_eq]
  unfold spare work
  iintro ⟨⟨S0, S1, S2, S3, S4, S5, S6, S7, S8, S9, S10, S11, S12, S13, S14, S15, S16, S17, S18, S19, S20, S21, S22, S23, S24, S25, S26, S27, S28, S29, S30, S31⟩, Hg, ⟨C0, C1, C2, C3, C4, C5, C6, C7, C8, C9, C10, C11, C12, C13, C14, C15⟩, ⟨A4, A5, A6, A7, A8, A9, A10, A11, A12, A13, A14, A15, A16, A17, A18, A19⟩⟩
  isplitl [S0 C0 A4 S1 C1 A5 S2 C2 A7 S3 C3 A8 S4 C4 A10 S5 C5 A11 S6 C6 A12 S7 C7 A13 S8 C8 A15 S9 C9 A16 S10 C10 A18 S11 C11 A19 S12 C12 A6 S13 C13 A9 S14 C14 A14 S15 C15 A17]
  · isplitl [S0 C0 A4]
    · isplitl [A4]; · iexact A4
      isplitl [S0]; · iexact S0
      iexact C0
    isplitl [S1 C1 A5]
    · isplitl [A5]; · iexact A5
      isplitl [S1]; · iexact S1
      iexact C1
    isplitl [S2 C2 A7]
    · isplitl [A7]; · iexact A7
      isplitl [S2]; · iexact S2
      iexact C2
    isplitl [S3 C3 A8]
    · isplitl [A8]; · iexact A8
      isplitl [S3]; · iexact S3
      iexact C3
    isplitl [S4 C4 A10]
    · isplitl [A10]; · iexact A10
      isplitl [S4]; · iexact S4
      iexact C4
    isplitl [S5 C5 A11]
    · isplitl [A11]; · iexact A11
      isplitl [S5]; · iexact S5
      iexact C5
    isplitl [S6 C6 A12]
    · isplitl [A12]; · iexact A12
      isplitl [S6]; · iexact S6
      iexact C6
    isplitl [S7 C7 A13]
    · isplitl [A13]; · iexact A13
      isplitl [S7]; · iexact S7
      iexact C7
    isplitl [S8 C8 A15]
    · isplitl [A15]; · iexact A15
      isplitl [S8]; · iexact S8
      iexact C8
    isplitl [S9 C9 A16]
    · isplitl [A16]; · iexact A16
      isplitl [S9]; · iexact S9
      iexact C9
    isplitl [S10 C10 A18]
    · isplitl [A18]; · iexact A18
      isplitl [S10]; · iexact S10
      iexact C10
    isplitl [S11 C11 A19]
    · isplitl [A19]; · iexact A19
      isplitl [S11]; · iexact S11
      iexact C11
    isplitl [S12 C12 A6]
    · isplitl [A6]; · iexact A6
      isplitl [S12]; · iexact S12
      iexact C12
    isplitl [S13 C13 A9]
    · isplitl [A9]; · iexact A9
      isplitl [S13]; · iexact S13
      iexact C13
    isplitl [S14 C14 A14]
    · isplitl [A14]; · iexact A14
      isplitl [S14]; · iexact S14
      iexact C14
    isplitl [S15 C15 A17]
    · isplitl [A17]; · iexact A17
      isplitl [S15]; · iexact S15
      iexact C15
    iempintro
  isplitl [S18 S19 S28 S29 S30 S31]
  · isplitl [S18]; · iexact S18
    isplitl [S19]; · iexact S19
    isplitl [S28]; · iexact S28
    isplitl [S29]; · iexact S29
    isplitl [S30]; · iexact S30
    iexact S31
  isplitl [S16 S17 S20 S21 S22 S23 S24 S25 S26 S27]
  · isplitl [S16]; · iexact S16
    isplitl [S17]; · iexact S17
    isplitl [S20]; · iexact S20
    isplitl [S21]; · iexact S21
    isplitl [S22]; · iexact S22
    isplitl [S23]; · iexact S23
    isplitl [S24]; · iexact S24
    isplitl [S25]; · iexact S25
    isplitl [S26]; · iexact S26
    iexact S27
  iexact Hg

theorem PhiD_join (c : Dev nD) (σ : St F) : iprop(Own (mems t0_0) c restN σ ∗ kept0 m c ∗ sepL (Cp.held c (V m)) cps1) ⊢ (PhiD m c : sProp 𝕄) := by
  rw [PhiD_eq, scopedRest0_eq, own_restN, own_rest0, own_big, own_wts0, own_scr, held1_eq]
  unfold kept0 spare unread
  rw [held0_eq]
  simp only [own1, mems, owns_whole]
  iintro ⟨⟨⟨S14, S15⟩, ⟨S4, S5, S6, S7, S8, S9, S10, S11, S13⟩, ⟨S16, S17, S20, S21, S22, S23, S24, S25, S26, S27⟩⟩, ⟨⟨S18, S19, S28, S29, S30, S31⟩, ⟨S0, S1, S2, S3, S12⟩, Hg, ⟨⟨A4, C0⟩, ⟨A5, C1⟩, ⟨A7, C2⟩, ⟨A8, C3⟩, ⟨A10, C4⟩, ⟨A11, C5⟩, ⟨A12, C6⟩, ⟨A13, C7⟩, ⟨A15, C8⟩, ⟨A16, C9⟩, ⟨A18, C10⟩, ⟨A19, C11⟩, ⟨A6, C12⟩, ⟨A9, C13⟩, -⟩⟩, ⟨⟨A14, C14⟩, ⟨A17, C15⟩, -⟩⟩
  isplitl [S0 S1 S2 S3 S4 S5 S6 S7 S8 S9 S10 S11 S12 S13 S14 S15 S16 S17 S18 S19 S20 S21 S22 S23 S24 S25 S26 S27 S28 S29 S30 S31]
  · isplitl [S0]; · iexact S0
    isplitl [S1]; · iexact S1
    isplitl [S2]; · iexact S2
    isplitl [S3]; · iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexact S18
    isplitl [S19]; · iexact S19
    isplitl [S20]; · iexists _; iexact S20
    isplitl [S21]; · iexists _; iexact S21
    isplitl [S22]; · iexists _; iexact S22
    isplitl [S23]; · iexists _; iexact S23
    isplitl [S24]; · iexists _; iexact S24
    isplitl [S25]; · iexists _; iexact S25
    isplitl [S26]; · iexists _; iexact S26
    isplitl [S27]; · iexists _; iexact S27
    isplitl [S28]; · iexact S28
    isplitl [S29]; · iexact S29
    isplitl [S30]; · iexact S30
    iexact S31
  isplitl [Hg]; · iexact Hg
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  iexact A19

end Cert.Kernel.Hand

end
-- ==== Proof.Kernel.Frame.lean ====
/-
  The grid points one by one, and the program's run.
-/
module

public import proofs.«01_k».proof.Proof.Kernel.Parts
public import proofs.«01_k».proof.Proof.Kernel.Body
public import proofs.«01_k».proof.Proof.Gen.Kernel.Frame
public import Idealize.ShloMosaic.Lib.Pipeline.FrameBody

@[expose] public section

set_option maxRecDepth 16384

noncomputable section

namespace Cert.Kernel.Hand

open Cert.Kernel Cert.Kernel.Gen Cert.Vit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the finished copies leave -/

theorem got_rowCp (c : Dev nD) {N : Nat} (a : Memref sig .tc .hbm (⟨1, ![N]⟩ : Shape) .f32) (ha : a.IsWhole) (d : Memref sig .tc .vmem (⟨2, ![1, N]⟩ : Shape) .f32)
    (hd : d.IsWhole) (hq : (⟨2, ![1, N]⟩ : Shape).Squeezes (⟨1, ![N]⟩ : Shape)) (hp : 0 < (⟨1, ![N]⟩ : Shape).numel) (s : DmaSem sig)
    (hc : (⟨1, ![N]⟩ : Shape).ShapeCasts (⟨2, ![1, N]⟩ : Shape)) :
    (Cp.got (V m) c (rowCp a ha d hq hp s) : sProp 𝕄)
      ⊢ iprop(Cp.held c (V m) (rowCp a ha d hq hp s)
        ∗ owns (c : Thread nD τ) d fullShare (shapeCast (⟨2, ![1, N]⟩ : Shape) (a.view.read (Elt F) (V m c a.view.ref)) hc)) :=
  got_row c (V m) a _ d hd _ hq _ hp s hc
theorem got_matCp (c : Dev nD) {s : Shape} {e : EltTy} (a : Memref sig .tc .hbm s e) (ha : a.IsWhole) (d : Memref sig .tc .vmem s e) (hd : d.IsWhole)
    (hp : 0 < s.numel) (sm : DmaSem sig) :
    (Cp.got (V m) c (matCp a ha d hd hp sm) : sProp 𝕄)
      ⊢ iprop(Cp.held c (V m) (matCp a ha d hd hp sm) ∗ owns (c : Thread nD τ) d fullShare (a.view.read (Elt F) (V m c a.view.ref))) :=
  got_mat c (V m) a _ d hd _ hp sm

set_option maxHeartbeats 1000000 in
theorem got0 (c : Dev nD) (t : Fin cfg0.N) : (sepL (Cp.got (V m) c) cps0 : sProp 𝕄) ⊢ iprop(sepL (Cp.held c (V m)) cps0 ∗ unread c ∗ Own (mems t0_0) c wts0 (inpT m c t)) := by
  rw [own_wts0]
  unfold cps0 unread
  simp only [sepL]
  refine (BIClass.sep_mono (got_any c (V m) _)
    (BIClass.sep_mono (got_any c (V m) _)
    (BIClass.sep_mono (got_any c (V m) _)
    (BIClass.sep_mono (got_any c (V m) _)
    (BIClass.sep_mono (got_rowCp m c _ _ _ (Memref.isWhole_whole _) _ _ _ row_1024)
    (BIClass.sep_mono (got_rowCp m c _ _ _ (Memref.isWhole_whole _) _ _ _ row_1024)
    (BIClass.sep_mono (got_rowCp m c _ _ _ (Memref.isWhole_whole _) _ _ _ row_1024)
    (BIClass.sep_mono (got_rowCp m c _ _ _ (Memref.isWhole_whole _) _ _ _ row_1024)
    (BIClass.sep_mono (got_rowCp m c _ _ _ (Memref.isWhole_whole _) _ _ _ row_4096)
    (BIClass.sep_mono (got_rowCp m c _ _ _ (Memref.isWhole_whole _) _ _ _ row_4096)
    (BIClass.sep_mono (got_rowCp m c _ _ _ (Memref.isWhole_whole _) _ _ _ row_1024)
    (BIClass.sep_mono (got_rowCp m c _ _ _ (Memref.isWhole_whole _) _ _ _ row_1024)
    (BIClass.sep_mono (got_any c (V m) _)
    (BIClass.sep_mono (got_matCp m c _ _ _ _ _ _)
    .rfl)))))))))))))).trans ?_
  simp only [own1, mems]
  iintro ⟨⟨X0, Y0⟩, ⟨X1, Y1⟩, ⟨X2, Y2⟩, ⟨X3, Y3⟩, ⟨X4, Y4⟩, ⟨X5, Y5⟩, ⟨X6, Y6⟩, ⟨X7, Y7⟩, ⟨X8, Y8⟩, ⟨X9, Y9⟩, ⟨X10, Y10⟩, ⟨X11, Y11⟩, ⟨X12, Y12⟩, ⟨X13, Y13⟩, -⟩
  isplitl [X0 X1 X2 X3 X4 X5 X6 X7 X8 X9 X10 X11 X12 X13]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    iempintro
  isplitl [Y0 Y1 Y2 Y3 Y12]
  · isplitl [Y0]; · iexact Y0
    isplitl [Y1]; · iexact Y1
    isplitl [Y2]; · iexact Y2
    isplitl [Y3]; · iexact Y3
    iexact Y12
  isplitl [Y4]; · iexact Y4
  isplitl [Y5]; · iexact Y5
  isplitl [Y6]; · iexact Y6
  isplitl [Y7]; · iexact Y7
  isplitl [Y8]; · iexact Y8
  isplitl [Y9]; · iexact Y9
  isplitl [Y10]; · iexact Y10
  isplitl [Y11]; · iexact Y11
  iexact Y13

theorem got1 (c : Dev nD) (t : Fin cfg0.N) : (sepL (Cp.got (V m) c) cps1 : sProp 𝕄) ⊢ iprop(sepL (Cp.held c (V m)) cps1 ∗ Own (mems t0_0) c {.w1, .w2} (inpT m c t)) := by
  rw [own_big]
  unfold cps1
  simp only [sepL]
  refine (BIClass.sep_mono (got_matCp m c _ _ _ _ _ _) (BIClass.sep_mono (got_matCp m c _ _ _ _ _ _) .rfl)).trans ?_
  simp only [own1, mems]
  iintro ⟨⟨X14, Y14⟩, ⟨X15, Y15⟩, -⟩
  isplitl [X14 X15]
  · isplitl [X14]; · iexact X14
    isplitl [X15]; · iexact X15
    iempintro
  isplitl [Y14]; · iexact Y14
  iexact Y15

theorem work_own (c : Dev nD) (t : Fin cfg0.N) : (work c : sProp 𝕄) ⊢ iprop(∃ σ : St F, ⌜Same wts σ (inpT m c t)⌝ ∗ Own (mems t0_0) c scr σ) := by
  unfold work
  iintro ⟨⟨%f16, S16⟩, ⟨%f17, S17⟩, ⟨%f20, S20⟩, ⟨%f21, S21⟩, ⟨%f22, S22⟩, ⟨%f23, S23⟩, ⟨%f24, S24⟩, ⟨%f25, S25⟩, ⟨%f26, S26⟩, ⟨%f27, S27⟩⟩
  iexists (withScr (inpT m c t) f16 f17 f20 f21 f22 f23 f24 f25 f26 f27)
  isplitr
  · ipureintro
    exact same_withScr _ _ _ _ _ _ _ _ _ _ _
  rw [own_scr]
  simp only [own1, mems, owns_whole]
  isplitl [S16]; · iexact S16
  isplitl [S17]; · iexact S17
  isplitl [S20]; · iexact S20
  isplitl [S21]; · iexact S21
  isplitl [S22]; · iexact S22
  isplitl [S23]; · iexact S23
  isplitl [S24]; · iexact S24
  isplitl [S25]; · iexact S25
  isplitl [S26]; · iexact S26
  iexact S27

/-! ## The grid points -/

theorem own_mems (c : Dev nD) (t : Fin cfg0.N) (S : Finset Nm) (hS : Disjoint S winN) (σ : St F) :
    (Own (mems t) c S σ : sProp 𝕄) = Own (mems t0_0) c S σ := by
  unfold Own
  refine bigSep_congr fun n hn => ?_
  have h := Finset.disjoint_left.mp hS hn
  cases n <;> first | rfl | exact (h (by decide)).elim

theorem run_sound (c : Dev nD) (t : Fin cfg0.N) (S : Finset Nm) (p : K F (Acc F)) (σ : St F) (hok : p.Ok S) (Q : sProp 𝕄) :
    iprop(Own (mems t) c S σ ∗ (Own (mems t) c S (p.exec σ).2 -∗ Q))
      ⊢ wp frame (wpE (defs₀ (F := F)) Variants.none c none) Set.univ (run t p) (fun _ => Q) := by
  unfold run
  refine .trans ?_ (K.sound Variants.none (mems t) c S (K.bind p fun _ => (.ret PUnit.unit : K F PUnit)) σ (K.ok_bind hok fun _ => trivial) _)
  rw [K.exec_bind]; exact .rfl

theorem inv_wts {c : Dev nD} {b : Fin 6} {σ : St F} (h : InvB m c b σ) (t : Fin cfg0.N) : Same wts σ (inpT m c t) := by
  exact h.same.trans (mkIn_wts _ _ _ _ _ _ _ _ _ _ _ _ _ _ _ _ _ _ _)

/-- Before the body: each window's buffer at what the pipeline brought there. -/
def winPre (c : Dev nD) (t : Fin cfg0.N) : sProp 𝕄 :=
  iprop((∃ d, own1 (mems t) c .x ((dats m 0 c).before 0 t d)) ∗ (∃ d, own1 (mems t) c .seg ((dats m 0 c).before 1 t d)) ∗ (∃ d, own1 (mems t) c .oc ((dats m 0 c).before 2 t d)) ∗ (∃ d, own1 (mems t) c .os ((dats m 0 c).before 3 t d)) ∗ (∃ d, own1 (mems t) c .y ((dats m 0 c).before 4 t d)) ∗ (∃ d, own1 (mems t) c .a2c ((dats m 0 c).before 5 t d)) ∗ (∃ d, own1 (mems t) c .a2s ((dats m 0 c).before 6 t d)) ∗ (∃ d, own1 (mems t) c .gc ((dats m 0 c).before 7 t d)) ∗ (∃ d, own1 (mems t) c .gs ((dats m 0 c).before 8 t d)))
/-- After the body, at a point where every window is in use. -/
def winPost (c : Dev nD) (t : Fin cfg0.N) : sProp 𝕄 :=
  iprop(own1 (mems t) c .x ((dats m 0 c).after 0 t) ∗ own1 (mems t) c .seg ((dats m 0 c).after 1 t) ∗ own1 (mems t) c .oc ((dats m 0 c).after 2 t) ∗ own1 (mems t) c .os ((dats m 0 c).after 3 t) ∗ own1 (mems t) c .y ((dats m 0 c).after 4 t) ∗ own1 (mems t) c .a2c ((dats m 0 c).after 5 t) ∗ own1 (mems t) c .a2s ((dats m 0 c).after 6 t) ∗ own1 (mems t) c .gc ((dats m 0 c).after 7 t) ∗ own1 (mems t) c .gs ((dats m 0 c).after 8 t))
/-- After the body of the first point, where the back's windows are not in use. -/
def winPost0 (c : Dev nD) (t : Fin cfg0.N) : sProp 𝕄 :=
  iprop(own1 (mems t) c .x ((dats m 0 c).after 0 t) ∗ own1 (mems t) c .seg ((dats m 0 c).after 1 t) ∗ own1 (mems t) c .oc ((dats m 0 c).after 2 t) ∗ own1 (mems t) c .os ((dats m 0 c).after 3 t) ∗ (∃ d, own1 (mems t) c .y ((dats m 0 c).before 4 t d)) ∗ own1 (mems t) c .a2c ((dats m 0 c).after 5 t) ∗ own1 (mems t) c .a2s ((dats m 0 c).after 6 t) ∗ (∃ d, own1 (mems t) c .gc ((dats m 0 c).before 7 t d)) ∗ (∃ d, own1 (mems t) c .gs ((dats m 0 c).before 8 t d)))

theorem bef_0 (c : Dev nD) (t : Fin cfg0.N) (d) : (dats m 0 c).before 0 t d = inpT m c t .x :=
  before_0 m (dats m 0 c) (A_eq m c 0) (fun _ => rfl) t d
theorem bef_1 (c : Dev nD) (t : Fin cfg0.N) (d) : (dats m 0 c).before 1 t d = inpT m c t .seg :=
  before_1 m (dats m 0 c) (A_eq m c 1) (fun _ => rfl) t d
theorem bef_2 (c : Dev nD) (t : Fin cfg0.N) (d) : (dats m 0 c).before 2 t d = inpT m c t .oc :=
  before_2 m (dats m 0 c) (A_eq m c 2) (fun _ => rfl) t d
theorem bef_3 (c : Dev nD) (t : Fin cfg0.N) (d) : (dats m 0 c).before 3 t d = inpT m c t .os :=
  before_3 m (dats m 0 c) (A_eq m c 3) (fun _ => rfl) t d

/-- The windows before the body, as part of the buffers' contents. -/
theorem winPre_own (c : Dev nD) (t : Fin cfg0.N) (σ : St F) : (winPre m c t : sProp 𝕄)
    ⊢ iprop(∃ d4 d5 d6 d7 d8, Own (mems t) c winN (withWin (inpT m c t) σ ((dats m 0 c).before 4 t d4) ((dats m 0 c).before 5 t d5) ((dats m 0 c).before 6 t d6) ((dats m 0 c).before 7 t d7) ((dats m 0 c).before 8 t d8))) := by
  unfold winPre
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iexists d4, d5, d6, d7, d8
  rw [own_winN, bef_0 m c t d0, bef_1 m c t d1, bef_2 m c t d2, bef_3 m c t d3]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem inv_off (c : Dev nD) (b : Fin 6) (off : Fin 2 → Nat) (hoff : ∀ a, off a + s1x256.size a ≤ s6x256.size a) (ho : ![b.val, 0] = off)
    (σ : St F) (h : Inv (inp m c b) off hoff σ) : InvB m c b σ := by
  subst ho; exact h

set_option maxHeartbeats 1000000 in
/-- A point between the first and the last: the back of batch `b'` beside the front of batch `b`. -/
theorem mid_sound (c : Dev nD) (t : Fin cfg0.N) (b b' : Fin 6) (off : Fin 2 → Nat) (hoff : ∀ a, off a + s1x256.size a ≤ s6x256.size a)
    (ho : ![b.val, 0] = off) (ht : inpT m c t = inp m c b) (hf : fb t = b) (hb : bb t = b') (Q : sProp 𝕄) :
    iprop((∃ σ : St F, ⌜InvB m c b' σ⌝ ∗ Own (mems t0_0) c restN σ) ∗ winPre m c t
      ∗ (iprop((∃ σ : St F, ⌜InvB m c b σ⌝ ∗ Own (mems t0_0) c restN σ) ∗ winPost m c t) -∗ Q))
      ⊢ wp frame (wpE (defs₀ (F := F)) Variants.none c none) Set.univ (run t (middle c0 off hoff)) (fun _ => Q) := by
  iintro ⟨⟨%σ, %hI, HR⟩, HW, HQ⟩
  ihave HW := winPre_own m c t σ $$ HW
  icases HW with ⟨%d4, %d5, %d6, %d7, %d8, HW⟩
  iapply (run_sound c t allN _ (withWin (inpT m c t) σ ((dats m 0 c).before 4 t d4) ((dats m 0 c).before 5 t d5) ((dats m 0 c).before 6 t d6) ((dats m 0 c).before 7 t d7) ((dats m 0 c).before 8 t d8)) (ok_middle c0 _ _) Q)
  isplitl [HR HW]
  · rw [own_all, own_withWin _ _ _ _ _ _ _ restN (by decide), own_mems c t restN (by decide)]
    isplitl [HW]; · iexact HW
    iexact HR
  have hE := exec_middle (inpT m c t) (bck m c b') c0 off hoff _
    (same_withWin ((dats m 0 c).before 4 t d4) ((dats m 0 c).before 5 t d5) ((dats m 0 c).before 6 t d6) ((dats m 0 c).before 7 t d7)
      ((dats m 0 c).before 8 t d8) (inv_wts m hI t))
    (backIn_withWin _ _ _ _ _ hI)
  revert hE
  generalize ((middle (c0 (F := F)) off hoff).exec _).2 = σ'
  rintro ⟨hF, hB⟩
  have hw : Same {.s1, .c1, .s2, .c2, .w1, .w2} σ' (inpT m c t) := by
    exact hB.wts.trans ((mkIn_wts _ _ _ _ _ _ _ _ _ _ _ _ _ _ _ _ _ _ _).mono (by decide))
  rw [own_all, own_winN, own_mems c t restN (by decide)]
  iintro ⟨⟨H0, H1, H2, H3, H4, H5, H6, H7, H8⟩, HR⟩
  iapply HQ
  isplitl [HR]
  · iexists σ'
    isplitr
    · ipureintro; exact inv_off m c b off hoff ho σ' (ht ▸ hF.inv hw)
    iexact HR
  unfold winPost

  rw [show (dats m 0 c).after 0 t = σ' .x from (hF.same .x (by decide)).symm,
    show (dats m 0 c).after 1 t = σ' .seg from (hF.same .seg (by decide)).symm,
    show (dats m 0 c).after 2 t = σ' .oc from (hF.same .oc (by decide)).symm,
    show (dats m 0 c).after 3 t = σ' .os from (hF.same .os (by decide)).symm,
    show (dats m 0 c).after 4 t = σ' .y from (congrArg (fun b => bY (bck m c b) c0) hb).trans hB.y.symm,
    show (dats m 0 c).after 5 t = σ' .a2c from (congrArg (fun b => fA2C (inp m c b)) hf).trans ((congrArg fA2C ht).symm.trans hF.a2c.symm),
    show (dats m 0 c).after 6 t = σ' .a2s from (congrArg (fun b => fA2S (inp m c b)) hf).trans ((congrArg fA2S ht).symm.trans hF.a2s.symm),
    show (dats m 0 c).after 7 t = σ' .gc from (congrArg (fun b => bGC (bck m c b) c0) hb).trans hB.gc.symm,
    show (dats m 0 c).after 8 t = σ' .gs from (congrArg (fun b => bGS (bck m c b) c0) hb).trans hB.gs.symm]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The core's own record of what it waited for. -/
abbrev owesC (c : Dev nD) (t : Fin (cfg0.N + 1)) : sProp 𝕄 := (dats m 0 c).owesAt () t

theorem owes_out (c : Dev nD) (t : Fin (cfg0.N + 1)) : (owesC m c t : sProp 𝕄) ⊢ iprop(∃ W, owes (c : Thread nD τ) 0 W) := by
  unfold owesC Dat.owesAt Pipeline.owesWithin
  iintro ⟨%W, -, HW⟩
  iexists W; iexact HW
theorem owes_in (c : Dev nD) (t : Fin (cfg0.N + 1)) : (iprop(∃ W, owes (c : Thread nD τ) 0 W) : sProp 𝕄) ⊢ owesC m c t := by
  unfold owesC Dat.owesAt Pipeline.owesWithin
  iintro ⟨%W, HW⟩
  iexists W
  isplitr
  · ipureintro; exact fun _ _ => Or.inl trivial
  iexact HW

/-- A point between the second and the last. -/
theorem sound_mid (c : Dev nD) (t : Fin cfg0.N) (b b' : Fin 6) (off : Fin 2 → Nat) (hoff : ∀ a, off a + s1x256.size a ≤ s6x256.size a)
    (ho : ![b.val, 0] = off) (ht : inpT m c t = inp m c b) (hf : fb t = b) (hb : bb t = b') :
    iprop(phiM m c b' ∗ owesC m c t.castSucc ∗ winPre m c t)
      ⊢ wp frame (wpE (defs₀ (F := F)) Variants.none c none) Set.univ (run t (middle c0 off hoff))
        (fun _ => iprop(phiM m c b ∗ owesC m c t.succ ∗ winPost m c t)) := by
  unfold phiM
  iintro ⟨⟨HI, HK, HL⟩, HO, HW⟩
  iapply (mid_sound m c t b b' off hoff ho ht hf hb _)
  isplitl [HI]; · iexact HI
  isplitl [HW]; · iexact HW
  iintro ⟨HI, HW⟩
  isplitl [HI HK HL]
  · isplitl [HI]; · iexact HI
    isplitl [HK]; · iexact HK
    iexact HL
  isplitl [HO]
  · iapply (owes_in m c t.succ)
    iapply (owes_out m c t.castSucc)
    iexact HO
  iexact HW

/-- The second point, where the last two weights arrive. -/
theorem sound_1 (c : Dev nD) (t : Fin cfg0.N) (b : Fin 6) (off : Fin 2 → Nat) (hoff : ∀ a, off a + s1x256.size a ≤ s6x256.size a)
    (ho : ![b.val, 0] = off) (ht : inpT m c t = inp m c b) (hf : fb t = b) (hb : bb t = 0) :
    iprop(phi1 m c ∗ owesC m c t.castSucc ∗ winPre m c t)
      ⊢ wp frame (wpE (defs₀ (F := F)) Variants.none c none) Set.univ (Cp.waits cps1 (run t (middle c0 off hoff)))
        (fun _ => iprop(phiM m c b ∗ owesC m c t.succ ∗ winPost m c t)) := by
  unfold phi1
  iintro ⟨⟨⟨%σ, %hI, HR⟩, HK, HL⟩, HO, HW⟩
  ihave HO := owes_out m c t.castSucc $$ HO
  icases HO with ⟨%W, HO⟩
  iapply (Cp.waits_sound (V m) c Variants.none cps1 W _ _)
  isplitl [HL]; · iexact HL
  isplitl [HO]; · iexact HO
  iintro ⟨HL, HO⟩
  ihave HL := got1 m c (pt 0) $$ HL
  icases HL with ⟨HL, HB⟩
  iapply (mid_sound m c t b 0 off hoff ho ht hf hb _)
  isplitl [HR HB]
  · iexists σ
    isplitr
    · ipureintro; exact hI
    rw [own_restN]
    isplitl [HB]
    · rw [Own_congr (mems t0_0) c {.w1, .w2} (σ := σ) (σ' := inpT m c (pt 0)) (fun n hn => hI.same n (Finset.mem_of_subset (by decide) hn))]; iexact HB
    iexact HR
  isplitl [HW]; · iexact HW
  iintro ⟨HI, HW⟩
  isplitl [HI HK HL]
  · unfold phiM
    isplitl [HI]; · iexact HI
    isplitl [HK]; · iexact HK
    iexact HL
  isplitl [HO]
  · iapply (owes_in m c t.succ)
    iexact HO
  iexact HW

theorem cps_set : ∀ a ∈ (cps0 ++ cps1 : List (Cp sig)), a.src.view.set = Finset.univ := by
  intro a ha
  unfold cps0 cps1 at ha
  simp only [List.cons_append, List.nil_append, List.mem_cons, List.not_mem_nil, or_false] at ha
  rcases ha with rfl | rfl | rfl | rfl | rfl | rfl | rfl | rfl | rfl | rfl | rfl | rfl | rfl | rfl | rfl | rfl <;> exact View.set_whole _

set_option maxHeartbeats 1000000 in
/-- The first point once the copies it waits for have landed. -/
theorem sound_0b (c : Dev nD) (t : Fin cfg0.N) (off : Fin 2 → Nat) (hoff : ∀ a, off a + s1x256.size a ≤ s6x256.size a)
    (ho : ![(0 : Fin 6).val, 0] = off) (ht : inpT m c t = inp m c 0) (hf : fb t = 0) (Q : sProp 𝕄) :
    iprop(sepL (Cp.got (V m) c) cps0 ∗ work c ∗ winPre m c t
      ∗ (iprop((∃ σ : St F, ⌜InvB m c 0 σ⌝ ∗ Own (mems t0_0) c rest0 σ) ∗ unread c ∗ sepL (Cp.held c (V m)) cps0 ∗ winPost0 m c t) -∗ Q))
      ⊢ wp frame (wpE (defs₀ (F := F)) Variants.none c none) Set.univ (run t (first c0 off hoff)) (fun _ => Q) := by
  iintro ⟨HL, HK, HW, HQ⟩
  ihave HL := got0 m c t $$ HL
  icases HL with ⟨HL, HU, HA⟩
  ihave HK := work_own m c t $$ HK
  icases HK with ⟨%σ, %hσ, HK⟩
  ihave HW := winPre_own m c t σ $$ HW
  icases HW with ⟨%d4, %d5, %d6, %d7, %d8, HW⟩
  iapply (run_sound c t (winN ∪ rest0) _ (withWin (inpT m c t) σ ((dats m 0 c).before 4 t d4) ((dats m 0 c).before 5 t d5) ((dats m 0 c).before 6 t d6) ((dats m 0 c).before 7 t d7) ((dats m 0 c).before 8 t d8)) (K.ok_mono firstN_sub _ (ok_first c0 _ _)) Q)
  isplitl [HA HK HW]
  · rw [own_first, own_withWin _ _ _ _ _ _ _ rest0 (by decide), own_mems c t rest0 (by decide), own_rest0]
    isplitl [HW]; · iexact HW
    isplitl [HA]
    · rw [Own_congr (mems t0_0) c wts0 (σ := σ) (σ' := inpT m c t) (fun n hn => hσ n (Finset.mem_of_subset (by decide) hn))]; iexact HA
    iexact HK
  have hE := exec_first (inpT m c t) c0 off hoff _
    (same_withWin ((dats m 0 c).before 4 t d4) ((dats m 0 c).before 5 t d5) ((dats m 0 c).before 6 t d6) ((dats m 0 c).before 7 t d7) ((dats m 0 c).before 8 t d8) hσ)
  revert hE
  generalize ((first (c0 (F := F)) off hoff).exec _).2 = σ'
  rintro ⟨hF, hN⟩
  have hw : Same {.s1, .c1, .s2, .c2, .w1, .w2} σ' (inpT m c t) := by
    intro n hn
    fin_cases hn <;> exact (hN _ (by decide)).trans (hσ _ (by decide))
  rw [own_first, own_winN, own_mems c t rest0 (by decide)]
  iintro ⟨⟨H0, H1, H2, H3, H4, H5, H6, H7, H8⟩, HR⟩
  iapply HQ
  isplitl [HR]
  · iexists σ'
    isplitr
    · ipureintro; exact inv_off m c 0 off hoff ho σ' (ht ▸ hF.inv hw)
    iexact HR
  isplitl [HU]; · iexact HU
  isplitl [HL]; · iexact HL
  unfold winPost0

  rw [show (dats m 0 c).after 0 t = σ' .x from (hF.same .x (by decide)).symm,
    show (dats m 0 c).after 1 t = σ' .seg from (hF.same .seg (by decide)).symm,
    show (dats m 0 c).after 2 t = σ' .oc from (hF.same .oc (by decide)).symm,
    show (dats m 0 c).after 3 t = σ' .os from (hF.same .os (by decide)).symm,
    show (dats m 0 c).after 5 t = σ' .a2c from (congrArg (fun b => fA2C (inp m c b)) hf).trans ((congrArg fA2C ht).symm.trans hF.a2c.symm),
    show (dats m 0 c).after 6 t = σ' .a2s from (congrArg (fun b => fA2S (inp m c b)) hf).trans ((congrArg fA2S ht).symm.trans hF.a2s.symm),
    show σ' .y = (dats m 0 c).before 4 t d4 from hN _ (by decide), show σ' .gc = (dats m 0 c).before 7 t d7 from hN _ (by decide), show σ' .gs = (dats m 0 c).before 8 t d8 from hN _ (by decide)]
  isplitl [H0]; · iexact H0
  isplitl [H1]; · iexact H1
  isplitl [H2]; · iexact H2
  isplitl [H3]; · iexact H3
  isplitl [H4]; · iexists d4; iexact H4
  isplitl [H5]; · iexact H5
  isplitl [H6]; · iexact H6
  isplitl [H7]; · iexists d7; iexact H7
  iexists d8; iexact H8

set_option maxHeartbeats 1000000 in
/-- The first point. -/
theorem sound_0 (c : Dev nD) :
    iprop(PhiD m c ∗ owesC m c t0_0.castSucc ∗ winPre m c t0_0)
      ⊢ wp frame (wpE (defs₀ (F := F)) Variants.none c none) Set.univ (bodyAt0 t0_0)
        (fun _ => iprop(phi1 m c ∗ owesC m c t0_0.succ ∗ winPost0 m c t0_0)) := by
  rw [body0]
  iintro ⟨HP, HO, HW⟩
  ihave HO := owes_out m c t0_0.castSucc $$ HO
  icases HO with ⟨%W, HO⟩
  ihave HP := PhiD_split m c $$ HP
  icases HP with ⟨HG, HS, HK, Hg⟩
  iapply (Cp.issue_sound (V m) c Variants.none (cps0 ++ cps1) cps_set _ _)
  isplitl [HG]; · iexact HG
  iintro HF
  ihave HF := (sepL_append (Cp.fly (V m) c) cps0 cps1).1 $$ HF
  icases HF with ⟨HF, HF1⟩
  iapply (Cp.waits_sound (V m) c Variants.none cps0 W _ _)
  isplitl [HF]; · iexact HF
  isplitl [HO]; · iexact HO
  iintro ⟨HL, HO⟩
  iapply (sound_0b m c t0_0 ![0, 0] (offOk 0 (by decide)) rfl rfl rfl _)
  isplitl [HL]; · iexact HL
  isplitl [HK]; · iexact HK
  isplitl [HW]; · iexact HW
  iintro ⟨HR, HU, HL, HW⟩
  isplitl [HR HS HU Hg HL HF1]
  · unfold phi1 kept0
    isplitl [HR]; · iexact HR
    isplitl [HS HU Hg HL]
    · isplitl [HS]; · iexact HS
      isplitl [HU]; · iexact HU
      isplitl [Hg]; · iexact Hg
      iexact HL
    iexact HF1
  isplitl [HO]
  · iapply (owes_in m c t0_0.succ)
    iexact HO
  iexact HW

theorem bef6_5 (c : Dev nD) (d) : (dats m 0 c).before 5 t0_6 d = (dats m 0 c).after 5 t0_6 := by
  rw [Dat.before_of_pos _ 5 t0_6 (by decide) (by decide) d, if_neg (by decide)]; rfl
theorem bef6_6 (c : Dev nD) (d) : (dats m 0 c).before 6 t0_6 d = (dats m 0 c).after 6 t0_6 := by
  rw [Dat.before_of_pos _ 6 t0_6 (by decide) (by decide) d, if_neg (by decide)]; rfl

set_option maxHeartbeats 1000000 in
/-- The last point. -/
theorem sound_6 (c : Dev nD) :
    iprop(phiM m c 5 ∗ owesC m c t0_6.castSucc ∗ winPre m c t0_6)
      ⊢ wp frame (wpE (defs₀ (F := F)) Variants.none c none) Set.univ (bodyAt0 t0_6)
        (fun _ => iprop(PhiD m c ∗ owesC m c t0_6.succ ∗ winPost m c t0_6)) := by
  rw [body6]
  unfold phiM
  iintro ⟨⟨⟨%σ, %hI, HR⟩, HK, HL⟩, HO, HW⟩
  ihave HW := winPre_own m c t0_6 σ $$ HW
  icases HW with ⟨%d4, %d5, %d6, %d7, %d8, HW⟩
  iapply (run_sound c t0_6 allN _ (withWin (inpT m c t0_6) σ ((dats m 0 c).before 4 t0_6 d4) ((dats m 0 c).before 5 t0_6 d5) ((dats m 0 c).before 6 t0_6 d6) ((dats m 0 c).before 7 t0_6 d7) ((dats m 0 c).before 8 t0_6 d8)) (ok_final c0 _ _) _)
  isplitl [HR HW]
  · rw [own_all, own_withWin _ _ _ _ _ _ _ restN (by decide), own_mems c t0_6 restN (by decide)]
    isplitl [HW]; · iexact HW
    iexact HR
  have hE := exec_final (bck m c 5) c0 ![0, 0] (offOk 0 (by decide)) _
    (backIn_withWin (ι' := inpT m c t0_6) ((dats m 0 c).before 4 t0_6 d4) ((dats m 0 c).before 5 t0_6 d5) ((dats m 0 c).before 6 t0_6 d6) ((dats m 0 c).before 7 t0_6 d7) ((dats m 0 c).before 8 t0_6 d8) hI)
  revert hE
  generalize ((final (c0 (F := F)) ![0, 0] (offOk 0 (by decide))).exec _).2 = σ'
  rintro ⟨hB, hN⟩
  rw [own_all, own_winN, own_mems c t0_6 restN (by decide)]
  iintro ⟨⟨H0, H1, H2, H3, H4, H5, H6, H7, H8⟩, HR⟩
  isplitl [HR HK HL]
  · iapply (PhiD_join m c σ')
    isplitl [HR]; · iexact HR
    isplitl [HK]; · iexact HK
    iexact HL
  isplitl [HO]
  · iapply (owes_in m c t0_6.succ)
    iapply (owes_out m c t0_6.castSucc)
    iexact HO
  unfold winPost

  rw [show (dats m 0 c).after 0 t0_6 = σ' .x from (hN .x (by decide)).symm,
    show (dats m 0 c).after 1 t0_6 = σ' .seg from (hN .seg (by decide)).symm,
    show (dats m 0 c).after 2 t0_6 = σ' .oc from (hN .oc (by decide)).symm,
    show (dats m 0 c).after 3 t0_6 = σ' .os from (hN .os (by decide)).symm,
    show (dats m 0 c).after 4 t0_6 = σ' .y from hB.y.symm,
    show (dats m 0 c).after 5 t0_6 = σ' .a2c from (bef6_5 m c d5).symm.trans (hN .a2c (by decide)).symm,
    show (dats m 0 c).after 6 t0_6 = σ' .a2s from (bef6_6 m c d6).symm.trans (hN .a2s (by decide)).symm,
    show (dats m 0 c).after 7 t0_6 = σ' .gc from hB.gc.symm,
    show (dats m 0 c).after 8 t0_6 = σ' .gs from hB.gs.symm]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run -/

theorem defs₀_row (t : Fin cfg0.N) :
    defs₀ (F := F) .tc cfg0.body (cfg0.bodyArgs t (cfg0.slots t)) = bodyAt0 t := by
  unfold defs₀; rw [Defs.onTc_tc]

theorem off_1 : ![(1 : Fin 6).val, 0] = ![1, 0] := rfl

theorem inpT_1 (c : Dev nD) : inpT m c t0_1 = inp m c 1 := congrArg (inpT m c) (rfl : t0_1 = pt 1)

theorem fb_1 : fb t0_1 = 1 := rfl

theorem bb_1 : bb t0_1 = 0 := rfl

theorem sound_run1 (c : Dev nD) :
    iprop(phi1 m c ∗ owesC m c t0_1.castSucc ∗ winPre m c t0_1)
      ⊢ wp frame (wpE (defs₀ (F := F)) Variants.none c none) Set.univ (Cp.waits cps1 (run t0_1 (middle c0 ![1, 0] (offOk 1 (by decide)))))
        (fun _ => iprop(phiM m c 1 ∗ owesC m c t0_1.succ ∗ winPost m c t0_1)) :=
  sound_1 m c t0_1 1 ![1, 0] (offOk 1 (by decide)) off_1 (inpT_1 m c) fb_1 bb_1

theorem sound_of1 (c : Dev nD) (p) (hp : p = Cp.waits cps1 (run t0_1 (middle c0 ![1, 0] (offOk 1 (by decide))))) :
    iprop(phi1 m c ∗ owesC m c t0_1.castSucc ∗ winPre m c t0_1)
      ⊢ wp frame (wpE (defs₀ (F := F)) Variants.none c none) Set.univ p
        (fun _ => iprop(phiM m c 1 ∗ owesC m c t0_1.succ ∗ winPost m c t0_1)) := by
  rewrite [hp]
  exact sound_run1 m c

theorem sound_at1 (c : Dev nD) :
    iprop(phi1 m c ∗ owesC m c t0_1.castSucc ∗ winPre m c t0_1)
      ⊢ wp frame (wpE (defs₀ (F := F)) Variants.none c none) Set.univ (bodyAt0 t0_1)
        (fun _ => iprop(phiM m c 1 ∗ owesC m c t0_1.succ ∗ winPost m c t0_1)) := sound_of1 m c _ body1

theorem off_2 : ![(2 : Fin 6).val, 0] = ![2, 0] := rfl

theorem inpT_2 (c : Dev nD) : inpT m c t0_2 = inp m c 2 := congrArg (inpT m c) (rfl : t0_2 = pt 2)

theorem fb_2 : fb t0_2 = 2 := rfl

theorem bb_2 : bb t0_2 = 1 := rfl

theorem sound_run2 (c : Dev nD) :
    iprop(phiM m c 1 ∗ owesC m c t0_2.castSucc ∗ winPre m c t0_2)
      ⊢ wp frame (wpE (defs₀ (F := F)) Variants.none c none) Set.univ (run t0_2 (middle c0 ![2, 0] (offOk 2 (by decide))))
        (fun _ => iprop(phiM m c 2 ∗ owesC m c t0_2.succ ∗ winPost m c t0_2)) :=
  sound_mid m c t0_2 2 1 ![2, 0] (offOk 2 (by decide)) off_2 (inpT_2 m c) fb_2 bb_2

theorem sound_of2 (c : Dev nD) (p) (hp : p = run t0_2 (middle c0 ![2, 0] (offOk 2 (by decide)))) :
    iprop(phiM m c 1 ∗ owesC m c t0_2.castSucc ∗ winPre m c t0_2)
      ⊢ wp frame (wpE (defs₀ (F := F)) Variants.none c none) Set.univ p
        (fun _ => iprop(phiM m c 2 ∗ owesC m c t0_2.succ ∗ winPost m c t0_2)) := by
  rewrite [hp]
  exact sound_run2 m c

theorem sound_at2 (c : Dev nD) :
    iprop(phiM m c 1 ∗ owesC m c t0_2.castSucc ∗ winPre m c t0_2)
      ⊢ wp frame (wpE (defs₀ (F := F)) Variants.none c none) Set.univ (bodyAt0 t0_2)
        (fun _ => iprop(phiM m c 2 ∗ owesC m c t0_2.succ ∗ winPost m c t0_2)) := sound_of2 m c _ body2

theorem off_3 : ![(3 : Fin 6).val, 0] = ![3, 0] := rfl

theorem inpT_3 (c : Dev nD) : inpT m c t0_3 = inp m c 3 := congrArg (inpT m c) (rfl : t0_3 = pt 3)

theorem fb_3 : fb t0_3 = 3 := rfl

theorem bb_3 : bb t0_3 = 2 := rfl

theorem sound_run3 (c : Dev nD) :
    iprop(phiM m c 2 ∗ owesC m c t0_3.castSucc ∗ winPre m c t0_3)
      ⊢ wp frame (wpE (defs₀ (F := F)) Variants.none c none) Set.univ (run t0_3 (middle c0 ![3, 0] (offOk 3 (by decide))))
        (fun _ => iprop(phiM m c 3 ∗ owesC m c t0_3.succ ∗ winPost m c t0_3)) :=
  sound_mid m c t0_3 3 2 ![3, 0] (offOk 3 (by decide)) off_3 (inpT_3 m c) fb_3 bb_3

theorem sound_of3 (c : Dev nD) (p) (hp : p = run t0_3 (middle c0 ![3, 0] (offOk 3 (by decide)))) :
    iprop(phiM m c 2 ∗ owesC m c t0_3.castSucc ∗ winPre m c t0_3)
      ⊢ wp frame (wpE (defs₀ (F := F)) Variants.none c none) Set.univ p
        (fun _ => iprop(phiM m c 3 ∗ owesC m c t0_3.succ ∗ winPost m c t0_3)) := by
  rewrite [hp]
  exact sound_run3 m c

theorem sound_at3 (c : Dev nD) :
    iprop(phiM m c 2 ∗ owesC m c t0_3.castSucc ∗ winPre m c t0_3)
      ⊢ wp frame (wpE (defs₀ (F := F)) Variants.none c none) Set.univ (bodyAt0 t0_3)
        (fun _ => iprop(phiM m c 3 ∗ owesC m c t0_3.succ ∗ winPost m c t0_3)) := sound_of3 m c _ body3

theorem off_4 : ![(4 : Fin 6).val, 0] = ![4, 0] := rfl

theorem inpT_4 (c : Dev nD) : inpT m c t0_4 = inp m c 4 := congrArg (inpT m c) (rfl : t0_4 = pt 4)

theorem fb_4 : fb t0_4 = 4 := rfl

theorem bb_4 : bb t0_4 = 3 := rfl

theorem sound_run4 (c : Dev nD) :
    iprop(phiM m c 3 ∗ owesC m c t0_4.castSucc ∗ winPre m c t0_4)
      ⊢ wp frame (wpE (defs₀ (F := F)) Variants.none c none) Set.univ (run t0_4 (middle c0 ![4, 0] (offOk 4 (by decide))))
        (fun _ => iprop(phiM m c 4 ∗ owesC m c t0_4.succ ∗ winPost m c t0_4)) :=
  sound_mid m c t0_4 4 3 ![4, 0] (offOk 4 (by decide)) off_4 (inpT_4 m c) fb_4 bb_4

theorem sound_of4 (c : Dev nD) (p) (hp : p = run t0_4 (middle c0 ![4, 0] (offOk 4 (by decide)))) :
    iprop(phiM m c 3 ∗ owesC m c t0_4.castSucc ∗ winPre m c t0_4)
      ⊢ wp frame (wpE (defs₀ (F := F)) Variants.none c none) Set.univ p
        (fun _ => iprop(phiM m c 4 ∗ owesC m c t0_4.succ ∗ winPost m c t0_4)) := by
  rewrite [hp]
  exact sound_run4 m c

theorem sound_at4 (c : Dev nD) :
    iprop(phiM m c 3 ∗ owesC m c t0_4.castSucc ∗ winPre m c t0_4)
      ⊢ wp frame (wpE (defs₀ (F := F)) Variants.none c none) Set.univ (bodyAt0 t0_4)
        (fun _ => iprop(phiM m c 4 ∗ owesC m c t0_4.succ ∗ winPost m c t0_4)) := sound_of4 m c _ body4

theorem off_5 : ![(5 : Fin 6).val, 0] = ![5, 0] := rfl

theorem inpT_5 (c : Dev nD) : inpT m c t0_5 = inp m c 5 := congrArg (inpT m c) (rfl : t0_5 = pt 5)

theorem fb_5 : fb t0_5 = 5 := rfl

theorem bb_5 : bb t0_5 = 4 := rfl

theorem sound_run5 (c : Dev nD) :
    iprop(phiM m c 4 ∗ owesC m c t0_5.castSucc ∗ winPre m c t0_5)
      ⊢ wp frame (wpE (defs₀ (F := F)) Variants.none c none) Set.univ (run t0_5 (middle c0 ![5, 0] (offOk 5 (by decide))))
        (fun _ => iprop(phiM m c 5 ∗ owesC m c t0_5.succ ∗ winPost m c t0_5)) :=
  sound_mid m c t0_5 5 4 ![5, 0] (offOk 5 (by decide)) off_5 (inpT_5 m c) fb_5 bb_5

theorem sound_of5 (c : Dev nD) (p) (hp : p = run t0_5 (middle c0 ![5, 0] (offOk 5 (by decide)))) :
    iprop(phiM m c 4 ∗ owesC m c t0_5.castSucc ∗ winPre m c t0_5)
      ⊢ wp frame (wpE (defs₀ (F := F)) Variants.none c none) Set.univ p
        (fun _ => iprop(phiM m c 5 ∗ owesC m c t0_5.succ ∗ winPost m c t0_5)) := by
  rewrite [hp]
  exact sound_run5 m c

theorem sound_at5 (c : Dev nD) :
    iprop(phiM m c 4 ∗ owesC m c t0_5.castSucc ∗ winPre m c t0_5)
      ⊢ wp frame (wpE (defs₀ (F := F)) Variants.none c none) Set.univ (bodyAt0 t0_5)
        (fun _ => iprop(phiM m c 5 ∗ owesC m c t0_5.succ ∗ winPost m c t0_5)) := sound_of5 m c _ body5

set_option maxHeartbeats 2000000 in
theorem body_obligation (c : Dev nD) : BodyObligation (dats (F := F) m 0 c) (defs₀ (F := F)) Variants.none () Set.univ := fun t => by
  rw [bigSep_W0, bigSep_W0, defs₀_row]
  rcases fin_N0 t with rfl | rfl | rfl | rfl | rfl | rfl | rfl
  · exact triple_restated (sound_0 m c) rfl .rfl fun _ => .rfl
  · exact triple_restated (sound_at1 m c) rfl .rfl fun _ => .rfl
  · exact triple_restated (sound_at2 m c) rfl .rfl fun _ => .rfl
  · exact triple_restated (sound_at3 m c) rfl .rfl fun _ => .rfl
  · exact triple_restated (sound_at4 m c) rfl .rfl fun _ => .rfl
  · exact triple_restated (sound_at5 m c) rfl .rfl fun _ => .rfl
  · exact triple_restated (sound_6 m c) rfl .rfl fun _ => .rfl

set_option backward.isDefEq.respectTransparency.types false in
/-- The program ends with every window's array as the pipeline's write-backs leave it. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The program ends, its arguments as they began, every semaphore counter at zero. -/
theorem frame : θ_run defs (onTc (τ := τ) (main (F := F))) ⟨m, fun _ => 0, ρ⟩ (fun r => ArgsKept m r ∧ r.2.sem = fun _ => 0) :=
  (θ_run defs _ _).mono (fun r h => ⟨frame_of m (dats m) (A_eq m) r h, h.2⟩) (run_main m ρ)

end Cert.Kernel.Hand

end
-- ==== Proof.KernelIdeal.Body.lean ====
/-
  The kernel's body at each of its seven grid points, as programs of the small machine after the
  copies it issues and waits for itself.
-/
module

public import proofs.«01_k».proof.Proof.Pieces
public import proofs.«01_k».proof.Proof.Dma
public import proofs.«01_k».proof.Proof.Gen.KernelIdeal.Points
public import proofs.«01_k».proof.Proof.Gen.KernelIdeal.Launch

@[expose] public section

noncomputable section

namespace Cert.KernelIdeal.Gen

open Idealize.ShloMosaic Idealize.ShloMosaic.TcCoe Idealize.SL Idealize.SL.Sem Cert.Vit

variable {F : FTy → Type} [FloatOps F] [Named F]

/-- The buffers the body's vector code uses at grid point `t`. -/
def mems (t : Fin cfg0.N) : Mems sig where
  mem
    | .x => win0_0.stage (cfg0.slots t 0)
    | .seg => win0_1.stage (cfg0.slots t 1)
    | .oc => win0_2.stage (cfg0.slots t 2)
    | .os => win0_3.stage (cfg0.slots t 3)
    | .y => win0_4.stage (cfg0.slots t 4)
    | .a2c => win0_5.stage (cfg0.slots t 5)
    | .a2s => win0_6.stage (cfg0.slots t 6)
    | .gc => win0_7.stage (cfg0.slots t 7)
    | .gs => win0_8.stage (cfg0.slots t 8)
    | .so => Memref.whole cc0_scratch4
    | .bo => Memref.whole cc0_scratch5
    | .g2 => Memref.whole cc0_scratch6
    | .b2 => Memref.whole cc0_scratch7
    | .s1 => Memref.whole cc0_scratch8
    | .c1 => Memref.whole cc0_scratch9
    | .s2 => Memref.whole cc0_scratch10
    | .c2 => Memref.whole cc0_scratch11
    | .wo => Memref.whole cc0_scratch13
    | .w1 => Memref.whole cc0_scratch14
    | .w2 => Memref.whole cc0_scratch15
    | .tmp => Memref.whole cc0_scratch16
    | .scol => Memref.whole cc0_scratch17
    | .segcol => Memref.whole cc0_scratch20
    | .h => Memref.whole cc0_scratch21
    | .a2m => Memref.whole cc0_scratch22
    | .hm => Memref.whole cc0_scratch23
    | .scolm => Memref.whole cc0_scratch24
    | .segcolm => Memref.whole cc0_scratch25
    | .gl => Memref.whole cc0_scratch26
    | .gmax => Memref.whole cc0_scratch27
  whole
    | .x => hstage0_0 ((cfg0.slots t 0).cast nbuf0_0)
    | .seg => hstage0_1 ((cfg0.slots t 1).cast nbuf0_1)
    | .oc => hstage0_2 ((cfg0.slots t 2).cast nbuf0_2)
    | .os => hstage0_3 ((cfg0.slots t 3).cast nbuf0_3)
    | .y => hstage0_4 ((cfg0.slots t 4).cast nbuf0_4)
    | .a2c => hstage0_5 ((cfg0.slots t 5).cast nbuf0_5)
    | .a2s => hstage0_6 ((cfg0.slots t 6).cast nbuf0_6)
    | .gc => hstage0_7 ((cfg0.slots t 7).cast nbuf0_7)
    | .gs => hstage0_8 ((cfg0.slots t 8).cast nbuf0_8)
    | .so => Memref.isWhole_whole _
    | .bo => Memref.isWhole_whole _
    | .g2 => Memref.isWhole_whole _
    | .b2 => Memref.isWhole_whole _
    | .s1 => Memref.isWhole_whole _
    | .c1 => Memref.isWhole_whole _
    | .s2 => Memref.isWhole_whole _
    | .c2 => Memref.isWhole_whole _
    | .wo => Memref.isWhole_whole _
    | .w1 => Memref.isWhole_whole _
    | .w2 => Memref.isWhole_whole _
    | .tmp => Memref.isWhole_whole _
    | .scol => Memref.isWhole_whole _
    | .segcol => Memref.isWhole_whole _
    | .h => Memref.isWhole_whole _
    | .a2m => Memref.isWhole_whole _
    | .hm => Memref.isWhole_whole _
    | .scolm => Memref.isWhole_whole _
    | .segcolm => Memref.isWhole_whole _
    | .gl => Memref.isWhole_whole _
    | .gmax => Memref.isWhole_whole _

/-- The constant `1/√2` the kernel uses. -/
def c0 : F .f32 := Named.named κ "inv_sqrt2" 0x3F3504F3#32

/-- The semaphore of the `j`-th copy. -/
abbrev cell (j : Nat) (h : ∀ a, (![j] : Fin 1 → Nat) a + S1.size a ≤ S16.size a) : DmaSem sig :=
  ((cc0_scratch32.slice (Rect.unit (s := S16) ![j] S1.size h)).squeeze S_ squeezes_S1_S_).sem

theorem inb_row (N : Nat) : ∀ a, (![0, 0] : Fin 2 → Nat) a + (⟨2, ![1, N]⟩ : Shape).size a ≤ (⟨2, ![1, N]⟩ : Shape).size a :=
  forall2 (le_of_eq (Nat.zero_add _)) (le_of_eq (Nat.zero_add _))

/-- The copy of a vector into a row buffer. -/
abbrev rowCp {N : Nat} (a : Memref sig .tc .hbm (⟨1, ![N]⟩ : Shape) .f32) (ha : a.IsWhole) (m : Memref sig .tc .vmem (⟨2, ![1, N]⟩ : Shape) .f32)
    (hq : (⟨2, ![1, N]⟩ : Shape).Squeezes (⟨1, ![N]⟩ : Shape)) (hp : 0 < (⟨1, ![N]⟩ : Shape).numel) (s : DmaSem sig) : Cp sig :=
  ⟨_, _, a, rowMem m (inb_row N) hq, s, ha.wordExact, (View.wordExact_bits rfl).reshape _ _, hp⟩

/-- The copy of a weight matrix. -/
abbrev matCp {s : Shape} {e : EltTy} (a : Memref sig .tc .hbm s e) (ha : a.IsWhole) (m : Memref sig .tc .vmem s e) (hm : m.IsWhole)
    (hp : 0 < s.numel) (sm : DmaSem sig) : Cp sig :=
  ⟨_, _, a, m, sm, ha.wordExact, hm.wordExact, hp⟩

theorem pos_1024 : 0 < (⟨1, ![1024]⟩ : Shape).numel := by decide
theorem pos_1920 : 0 < (⟨1, ![1920]⟩ : Shape).numel := by decide
theorem pos_4096 : 0 < (⟨1, ![4096]⟩ : Shape).numel := by decide
theorem pos_wqkv : 0 < (⟨2, ![1024, 1920]⟩ : Shape).numel := by decide
theorem pos_wo : 0 < (⟨2, ![1152, 1024]⟩ : Shape).numel := by decide
theorem pos_w1 : 0 < (⟨2, ![1024, 4096]⟩ : Shape).numel := by decide
theorem pos_w2 : 0 < (⟨2, ![4096, 1024]⟩ : Shape).numel := by decide

/-- The copies awaited at the first grid point. -/
def cps0 : List (Cp sig) :=
  [rowCp (Memref.whole main_arg4) (Memref.isWhole_whole _) (Memref.whole cc0_scratch0) squeezes_S1x1024_S1024 pos_1024 (cell 0 inb_S16_S1_0),
   rowCp (Memref.whole main_arg5) (Memref.isWhole_whole _) (Memref.whole cc0_scratch1) squeezes_S1x1024_S1024 pos_1024 (cell 1 inb_S16_S1_1),
   rowCp (Memref.whole main_arg7) (Memref.isWhole_whole _) (Memref.whole cc0_scratch2) squeezes_S1x1920_S1920 pos_1920 (cell 2 inb_S16_S1_2),
   rowCp (Memref.whole main_arg8) (Memref.isWhole_whole _) (Memref.whole cc0_scratch3) squeezes_S1x1920_S1920 pos_1920 (cell 3 inb_S16_S1_3),
   rowCp (Memref.whole main_arg10) (Memref.isWhole_whole _) (Memref.whole cc0_scratch4) squeezes_S1x1024_S1024 pos_1024 (cell 4 inb_S16_S1_4),
   rowCp (Memref.whole main_arg11) (Memref.isWhole_whole _) (Memref.whole cc0_scratch5) squeezes_S1x1024_S1024 pos_1024 (cell 5 inb_S16_S1_5),
   rowCp (Memref.whole main_arg12) (Memref.isWhole_whole _) (Memref.whole cc0_scratch6) squeezes_S1x1024_S1024 pos_1024 (cell 6 inb_S16_S1_6),
   rowCp (Memref.whole main_arg13) (Memref.isWhole_whole _) (Memref.whole cc0_scratch7) squeezes_S1x1024_S1024 pos_1024 (cell 7 inb_S16_S1_7),
   rowCp (Memref.whole main_arg15) (Memref.isWhole_whole _) (Memref.whole cc0_scratch8) squeezes_S1x4096_S4096 pos_4096 (cell 8 inb_S16_S1_8),
   rowCp (Memref.whole main_arg16) (Memref.isWhole_whole _) (Memref.whole cc0_scratch9) squeezes_S1x4096_S4096 pos_4096 (cell 9 inb_S16_S1_9),
   rowCp (Memref.whole main_arg18) (Memref.isWhole_whole _) (Memref.whole cc0_scratch10) squeezes_S1x1024_S1024 pos_1024 (cell 10 inb_S16_S1_10),
   rowCp (Memref.whole main_arg19) (Memref.isWhole_whole _) (Memref.whole cc0_scratch11) squeezes_S1x1024_S1024 pos_1024 (cell 11 inb_S16_S1_11),
   matCp (Memref.whole main_arg6) (Memref.isWhole_whole _) (Memref.whole cc0_scratch12) (Memref.isWhole_whole _) pos_wqkv (cell 12 inb_S16_S1_12),
   matCp (Memref.whole main_arg9) (Memref.isWhole_whole _) (Memref.whole cc0_scratch13) (Memref.isWhole_whole _) pos_wo (cell 13 inb_S16_S1_13)]

/-- The copies awaited at the second grid point. -/
def cps1 : List (Cp sig) :=
  [matCp (Memref.whole main_arg14) (Memref.isWhole_whole _) (Memref.whole cc0_scratch14) (Memref.isWhole_whole _) pos_w1 (cell 14 inb_S16_S1_14),
   matCp (Memref.whole main_arg17) (Memref.isWhole_whole _) (Memref.whole cc0_scratch15) (Memref.isWhole_whole _) pos_w2 (cell 15 inb_S16_S1_15)]

theorem offOk (i : Nat) (h : i < 6) : ∀ a, (![i, 0] : Fin 2 → Nat) a + s1x256.size a ≤ s6x256.size a :=
  forall2 h (le_refl 256)

/-- The vector code of a grid point. -/
abbrev run (t : Fin cfg0.N) (p : K F (Acc F)) : Prog (TpuEff nD τ sig (Elt F) Λ₀ .tc) PUnit :=
  (K.bind p fun _ => .ret ⟨⟩).toProg (mems t)

theorem body0 : bodyAt0 (F := F) t0_0 = Cp.issue (cps0 ++ cps1) (Cp.waits cps0 (run t0_0 (first c0 ![0, 0] (offOk 0 (by decide))))) := by
  sl_kernel_rfl
theorem body1 : bodyAt0 (F := F) t0_1 = Cp.waits cps1 (run t0_1 (middle c0 ![1, 0] (offOk 1 (by decide)))) := by
  sl_kernel_rfl
theorem body2 : bodyAt0 (F := F) t0_2 = run t0_2 (middle c0 ![2, 0] (offOk 2 (by decide))) := by
  sl_kernel_rfl
theorem body3 : bodyAt0 (F := F) t0_3 = run t0_3 (middle c0 ![3, 0] (offOk 3 (by decide))) := by
  sl_kernel_rfl
theorem body4 : bodyAt0 (F := F) t0_4 = run t0_4 (middle c0 ![4, 0] (offOk 4 (by decide))) := by
  sl_kernel_rfl
theorem body5 : bodyAt0 (F := F) t0_5 = run t0_5 (middle c0 ![5, 0] (offOk 5 (by decide))) := by
  sl_kernel_rfl
theorem body6 : bodyAt0 (F := F) t0_6 = run t0_6 (final c0 ![0, 0] (offOk 0 (by decide))) := by
  sl_kernel_rfl

end Cert.KernelIdeal.Gen
-- ==== Proof.KernelIdeal.Parts.lean ====
/-
  What the program's run establishes: it ends, nothing faults, its arguments end unchanged, every
  semaphore counter is zero again, and every result block is what the closed forms say.
-/
module

public import proofs.«01_k».proof.Proof.Steps
public import proofs.«01_k».proof.Proof.KernelIdeal.Body
public import proofs.«01_k».proof.Proof.Gen.KernelIdeal.Frame
public import Idealize.ShloMosaic.Lib.Pipeline.FrameBody

@[expose] public section

set_option maxRecDepth 16384

noncomputable section

namespace Cert.KernelIdeal.Hand

open Cert.KernelIdeal Cert.KernelIdeal.Gen Cert.Vit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The program around the kernel call -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end as they began. -/
def ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)

set_option maxHeartbeats 1200000 in
theorem frame_of (dats : (p : Fin 1) → (c : Dev nD) → Dat τ (Elt F) Unit ℕ (Pipeline.UD sig nD τ) ℕ (cfgs p) c)
    (hA : ∀ c w, (dats 0 c).A w = V m c (Pipeline.arrRef spec0 w)) (r : PUnit × MemSt nD τ sig (Elt F))
    (h : Pipeline.FramePost cfgs dats 0 (V m) r ∧ r.2.sem = fun _ => 0) : ArgsKept m r :=
  fun c => ⟨((h.1 c).1 0).trans (((dats 0 c).arrAt_in 0 rfl _).trans ((hA c 0).trans (V_main_arg0 m c))),
      ((h.1 c).1 1).trans (((dats 0 c).arrAt_in 1 rfl _).trans ((hA c 1).trans (V_main_arg1 m c))),
      ((h.1 c).1 2).trans (((dats 0 c).arrAt_in 2 rfl _).trans ((hA c 2).trans (V_main_arg2 m c))),
      ((h.1 c).1 3).trans (((dats 0 c).arrAt_in 3 rfl _).trans ((hA c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c)⟩

/-! ## The semaphores and the operands of the body's own copies -/

/-- The semaphores of the sixteen copies. -/
abbrev osem0 : Fin 16 → SemLoc sig := fun j => (![SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem0 [0, 1, 2, 3, 4, 5, 6, 7, 8, 9, 10, 11, 12, 13, 14, 15] (by decide) (by decide)]; rfl
/-- The operands the body copies from. -/
def H0 : Finset (Ref sig .tc) := {main_arg4, main_arg5, main_arg6, main_arg7, main_arg8, main_arg9, main_arg10, main_arg11, main_arg12, main_arg13, main_arg14, main_arg15, main_arg16, main_arg17, main_arg18, main_arg19}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_arg11) ↦{fullShare} V m c main_arg11) ∗ (((c : Thread nD τ).loc main_arg12) ↦{fullShare} V m c main_arg12) ∗ (((c : Thread nD τ).loc main_arg13) ↦{fullShare} V m c main_arg13) ∗ (((c : Thread nD τ).loc main_arg14) ↦{fullShare} V m c main_arg14) ∗ (((c : Thread nD τ).loc main_arg15) ↦{fullShare} V m c main_arg15) ∗ (((c : Thread nD τ).loc main_arg16) ↦{fullShare} V m c main_arg16) ∗ (((c : Thread nD τ).loc main_arg17) ↦{fullShare} V m c main_arg17) ∗ (((c : Thread nD τ).loc main_arg18) ↦{fullShare} V m c main_arg18) ∗ (((c : Thread nD τ).loc main_arg19) ↦{fullShare} V m c main_arg19)) := by
  rw [BI.bigSep_eq_bigSepL_of_eq [main_arg4, main_arg5, main_arg6, main_arg7, main_arg8, main_arg9, main_arg10, main_arg11, main_arg12, main_arg13, main_arg14, main_arg15, main_arg16, main_arg17, main_arg18, main_arg19] (by decide) (by decide)]; rfl

/-- What the region holds beside the windows, before and after. -/
abbrev PhiD (c : Dev nD) : sProp 𝕄 := Pipeline.ΦD osem0 spec0 H0 (V m) c

/-! ## The batches -/

/-- The grid point at which batch `b` enters. -/
abbrev pt (b : Fin 6) : Fin cfg0.N := ⟨b.val, lt_of_lt_of_eq (Nat.lt_of_lt_of_le b.isLt (by decide)) N_0.symm⟩

theorem row_1024 : (⟨1, ![1024]⟩ : Shape).ShapeCasts s1x1024 := by decide
theorem row_4096 : (⟨1, ![4096]⟩ : Shape).ShapeCasts s1x4096 := by decide

/-- The inputs of a front at a grid point. -/
def inpT (c : Dev nD) (t : Fin cfg0.N) : St F :=
  mkIn (iblk m c 0 t) (iblk m c 1 t) (iblk m c 2 t) (iblk m c 3 t)
    (shapeCast s1x1024 (V m c main_arg10) row_1024) (shapeCast s1x1024 (V m c main_arg11) row_1024)
    (shapeCast s1x1024 (V m c main_arg12) row_1024) (shapeCast s1x1024 (V m c main_arg13) row_1024)
    (shapeCast s1x4096 (V m c main_arg15) row_4096) (shapeCast s1x4096 (V m c main_arg16) row_4096)
    (shapeCast s1x1024 (V m c main_arg18) row_1024) (shapeCast s1x1024 (V m c main_arg19) row_1024)
    (V m c main_arg9) (V m c main_arg14) (V m c main_arg17)

/-- The inputs of batch `b`. -/
abbrev inp (c : Dev nD) (b : Fin 6) : St F := inpT m c (pt b)

/-- What the back of batch `b` reads. -/
def bck (c : Dev nD) (b : Fin 6) : St F := mkBack (inp m c b) ![b.val, 0] (offOk b.val b.isLt)

/-- The batch in the front windows at a grid point. -/
def fb (t : Fin cfg0.N) : Fin 6 := ⟨min t.val 5, Nat.lt_of_le_of_lt (Nat.min_le_right _ _) (by decide)⟩
/-- The batch in the back windows at a grid point. -/
def bb (t : Fin cfg0.N) : Fin 6 := ⟨t.val - 1, by have h := t.isLt; have h2 := N_0; have h3 : t.val < 7 := lt_of_lt_of_eq h h2; omega⟩

/-- What is carried when batch `b`'s front has run. -/
abbrev InvB (c : Dev nD) (b : Fin 6) (σ : St F) : Prop := Inv (inp m c b) ![b.val, 0] (offOk b.val b.isLt) σ

/-- The scratch buffers nothing touches. -/
def spare (c : Dev nD) : sProp 𝕄 := iprop((∃ f : Buf (Elt F) ((c : Thread nD τ).loc cc0_scratch18), ((c : Thread nD τ).loc cc0_scratch18) ↦{fullShare} f) ∗ (∃ f : Buf (Elt F) ((c : Thread nD τ).loc cc0_scratch19), ((c : Thread nD τ).loc cc0_scratch19) ↦{fullShare} f) ∗ (∃ f : Buf (Elt F) ((c : Thread nD τ).loc cc0_scratch28), ((c : Thread nD τ).loc cc0_scratch28) ↦{fullShare} f) ∗ (∃ f : Buf (Elt F) ((c : Thread nD τ).loc cc0_scratch29), ((c : Thread nD τ).loc cc0_scratch29) ↦{fullShare} f) ∗ (∃ f : Buf (Elt F) ((c : Thread nD τ).loc cc0_scratch30), ((c : Thread nD τ).loc cc0_scratch30) ↦{fullShare} f) ∗ (∃ f : Buf (Elt F) ((c : Thread nD τ).loc cc0_scratch31), ((c : Thread nD τ).loc cc0_scratch31) ↦{fullShare} f))
/-- The destinations of the copies nothing reads. -/
def unread (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch12), ((c : Thread nD τ).loc cc0_scratch12) ↦{fullShare} f))
/-- The working scratch at anything. -/
def work (c : Dev nD) : sProp 𝕄 := iprop((∃ f : Buf (Elt F) ((c : Thread nD τ).loc cc0_scratch16), ((c : Thread nD τ).loc cc0_scratch16) ↦{fullShare} f) ∗ (∃ f : Buf (Elt F) ((c : Thread nD τ).loc cc0_scratch17), ((c : Thread nD τ).loc cc0_scratch17) ↦{fullShare} f) ∗ (∃ f : Buf (Elt F) ((c : Thread nD τ).loc cc0_scratch20), ((c : Thread nD τ).loc cc0_scratch20) ↦{fullShare} f) ∗ (∃ f : Buf (Elt F) ((c : Thread nD τ).loc cc0_scratch21), ((c : Thread nD τ).loc cc0_scratch21) ↦{fullShare} f) ∗ (∃ f : Buf (Elt F) ((c : Thread nD τ).loc cc0_scratch22), ((c : Thread nD τ).loc cc0_scratch22) ↦{fullShare} f) ∗ (∃ f : Buf (Elt F) ((c : Thread nD τ).loc cc0_scratch23), ((c : Thread nD τ).loc cc0_scratch23) ↦{fullShare} f) ∗ (∃ f : Buf (Elt F) ((c : Thread nD τ).loc cc0_scratch24), ((c : Thread nD τ).loc cc0_scratch24) ↦{fullShare} f) ∗ (∃ f : Buf (Elt F) ((c : Thread nD τ).loc cc0_scratch25), ((c : Thread nD τ).loc cc0_scratch25) ↦{fullShare} f) ∗ (∃ f : Buf (Elt F) ((c : Thread nD τ).loc cc0_scratch26), ((c : Thread nD τ).loc cc0_scratch26) ↦{fullShare} f) ∗ (∃ f : Buf (Elt F) ((c : Thread nD τ).loc cc0_scratch27), ((c : Thread nD τ).loc cc0_scratch27) ↦{fullShare} f))
/-- The rest that stays the same from the first grid point on. -/
def kept0 (c : Dev nD) : sProp 𝕄 := iprop(spare c ∗ unread c ∗ (∃ r, prngReg c r) ∗ sepL (Cp.held c (V m)) cps0)

/-- Between the first and the second grid point. -/
def phi1 (c : Dev nD) : sProp 𝕄 :=
  iprop((∃ σ : St F, ⌜InvB m c 0 σ⌝ ∗ Own (mems t0_0) c rest0 σ) ∗ kept0 m c ∗ sepL (Cp.fly (V m) c) cps1)
/-- Between later grid points. -/
def phiM (c : Dev nD) (b : Fin 6) : sProp 𝕄 :=
  iprop((∃ σ : St F, ⌜InvB m c b σ⌝ ∗ Own (mems t0_0) c restN σ) ∗ kept0 m c ∗ sepL (Cp.held c (V m)) cps1)

/-- What is held beside the windows before grid point `n`. -/
def phi (c : Dev nD) : ℕ → sProp 𝕄
  | 0 => PhiD m c
  | 1 => phi1 m c
  | 2 => phiM m c 1
  | 3 => phiM m c 2
  | 4 => phiM m c 3
  | 5 => phiM m c 4
  | 6 => phiM m c 5
  | _ => PhiD m c

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bY (bck m c (bb t)) c0
    | ⟨5, _⟩ => fA2C (inp m c (fb t))
    | ⟨6, _⟩ => fA2S (inp m c (fb t))
    | ⟨7, _⟩ => bGC (bck m c (bb t)) c0
    | ⟨8, _⟩ => bGS (bck m c (bb t)) c0
  Φ t := phi m c t.val
  q _ := fullShare
  owed _ := 0

theorem A_eq (c : Dev nD) (w : Fin cfg0.W) : (dats m 0 c).A w = V m c (Pipeline.arrRef spec0 w) := by
  dsimp only [dats]

/-! ## Taking the region's holdings apart and putting them together again -/

theorem PhiD_eq (c : Dev nD) : (PhiD m c : sProp 𝕄) = iprop(Pipeline.scopedRest (Ix := Unit) (Name := ℕ) (U := Pipeline.UD sig nD τ) (Lvl := ℕ) (Val := Elt F) spec0 c
    ∗ (∃ r, prngReg c r)
    ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)
    ∗ iprop((((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_arg11) ↦{fullShare} V m c main_arg11) ∗ (((c : Thread nD τ).loc main_arg12) ↦{fullShare} V m c main_arg12) ∗ (((c : Thread nD τ).loc main_arg13) ↦{fullShare} V m c main_arg13) ∗ (((c : Thread nD τ).loc main_arg14) ↦{fullShare} V m c main_arg14) ∗ (((c : Thread nD τ).loc main_arg15) ↦{fullShare} V m c main_arg15) ∗ (((c : Thread nD τ).loc main_arg16) ↦{fullShare} V m c main_arg16) ∗ (((c : Thread nD τ).loc main_arg17) ↦{fullShare} V m c main_arg17) ∗ (((c : Thread nD τ).loc main_arg18) ↦{fullShare} V m c main_arg18) ∗ (((c : Thread nD τ).loc main_arg19) ↦{fullShare} V m c main_arg19))) := by
  unfold PhiD; rw [Pipeline.ΦD_eq, ownSems00_eq, hbmPts0_eq]

theorem give_eq (c : Dev nD) : (sepL (Cp.give (V m) c) (cps0 ++ cps1) : sProp 𝕄) = iprop(iprop((((c : Thread nD τ).loc main_arg4) ↦{fullShare} V m c main_arg4) ∗ (∃ f : Buf (Elt F) ((c : Thread nD τ).loc cc0_scratch0), ((c : Thread nD τ).loc cc0_scratch0) ↦{fullShare} f) ∗ semVal ((c : Thread nD τ), SemLoc.dma 17) 0)
    ∗ iprop((((c : Thread nD τ).loc main_arg5) ↦{fullShare} V m c main_arg5) ∗ (∃ f : Buf (Elt F) ((c : Thread nD τ).loc cc0_scratch1), ((c : Thread nD τ).loc cc0_scratch1) ↦{fullShare} f) ∗ semVal ((c : Thread nD τ), SemLoc.dma 18) 0)
    ∗ iprop((((c : Thread nD τ).loc main_arg7) ↦{fullShare} V m c main_arg7) ∗ (∃ f : Buf (Elt F) ((c : Thread nD τ).loc cc0_scratch2), ((c : Thread nD τ).loc cc0_scratch2) ↦{fullShare} f) ∗ semVal ((c : Thread nD τ), SemLoc.dma 19) 0)
    ∗ iprop((((c : Thread nD τ).loc main_arg8) ↦{fullShare} V m c main_arg8) ∗ (∃ f : Buf (Elt F) ((c : Thread nD τ).loc cc0_scratch3), ((c : Thread nD τ).loc cc0_scratch3) ↦{fullShare} f) ∗ semVal ((c : Thread nD τ), SemLoc.dma 20) 0)
    ∗ iprop((((c : Thread nD τ).loc main_arg10) ↦{fullShare} V m c main_arg10) ∗ (∃ f : Buf (Elt F) ((c : Thread nD τ).loc cc0_scratch4), ((c : Thread nD τ).loc cc0_scratch4) ↦{fullShare} f) ∗ semVal ((c : Thread nD τ), SemLoc.dma 21) 0)
    ∗ iprop((((c : Thread nD τ).loc main_arg11) ↦{fullShare} V m c main_arg11) ∗ (∃ f : Buf (Elt F) ((c : Thread nD τ).loc cc0_scratch5), ((c : Thread nD τ).loc cc0_scratch5) ↦{fullShare} f) ∗ semVal ((c : Thread nD τ), SemLoc.dma 22) 0)
    ∗ iprop((((c : Thread nD τ).loc main_arg12) ↦{fullShare} V m c main_arg12) ∗ (∃ f : Buf (Elt F) ((c : Thread nD τ).loc cc0_scratch6), ((c : Thread nD τ).loc cc0_scratch6) ↦{fullShare} f) ∗ semVal ((c : Thread nD τ), SemLoc.dma 23) 0)
    ∗ iprop((((c : Thread nD τ).loc main_arg13) ↦{fullShare} V m c main_arg13) ∗ (∃ f : Buf (Elt F) ((c : Thread nD τ).loc cc0_scratch7), ((c : Thread nD τ).loc cc0_scratch7) ↦{fullShare} f) ∗ semVal ((c : Thread nD τ), SemLoc.dma 24) 0)
    ∗ iprop((((c : Thread nD τ).loc main_arg15) ↦{fullShare} V m c main_arg15) ∗ (∃ f : Buf (Elt F) ((c : Thread nD τ).loc cc0_scratch8), ((c : Thread nD τ).loc cc0_scratch8) ↦{fullShare} f) ∗ semVal ((c : Thread nD τ), SemLoc.dma 25) 0)
    ∗ iprop((((c : Thread nD τ).loc main_arg16) ↦{fullShare} V m c main_arg16) ∗ (∃ f : Buf (Elt F) ((c : Thread nD τ).loc cc0_scratch9), ((c : Thread nD τ).loc cc0_scratch9) ↦{fullShare} f) ∗ semVal ((c : Thread nD τ), SemLoc.dma 26) 0)
    ∗ iprop((((c : Thread nD τ).loc main_arg18) ↦{fullShare} V m c main_arg18) ∗ (∃ f : Buf (Elt F) ((c : Thread nD τ).loc cc0_scratch10), ((c : Thread nD τ).loc cc0_scratch10) ↦{fullShare} f) ∗ semVal ((c : Thread nD τ), SemLoc.dma 27) 0)
    ∗ iprop((((c : Thread nD τ).loc main_arg19) ↦{fullShare} V m c main_arg19) ∗ (∃ f : Buf (Elt F) ((c : Thread nD τ).loc cc0_scratch11), ((c : Thread nD τ).loc cc0_scratch11) ↦{fullShare} f) ∗ semVal ((c : Thread nD τ), SemLoc.dma 28) 0)
    ∗ iprop((((c : Thread nD τ).loc main_arg6) ↦{fullShare} V m c main_arg6) ∗ (∃ f : Buf (Elt F) ((c : Thread nD τ).loc cc0_scratch12), ((c : Thread nD τ).loc cc0_scratch12) ↦{fullShare} f) ∗ semVal ((c : Thread nD τ), SemLoc.dma 29) 0)
    ∗ iprop((((c : Thread nD τ).loc main_arg9) ↦{fullShare} V m c main_arg9) ∗ (∃ f : Buf (Elt F) ((c : Thread nD τ).loc cc0_scratch13), ((c : Thread nD τ).loc cc0_scratch13) ↦{fullShare} f) ∗ semVal ((c : Thread nD τ), SemLoc.dma 30) 0)
    ∗ iprop((((c : Thread nD τ).loc main_arg14) ↦{fullShare} V m c main_arg14) ∗ (∃ f : Buf (Elt F) ((c : Thread nD τ).loc cc0_scratch14), ((c : Thread nD τ).loc cc0_scratch14) ↦{fullShare} f) ∗ semVal ((c : Thread nD τ), SemLoc.dma 31) 0)
    ∗ iprop((((c : Thread nD τ).loc main_arg17) ↦{fullShare} V m c main_arg17) ∗ (∃ f : Buf (Elt F) ((c : Thread nD τ).loc cc0_scratch15), ((c : Thread nD τ).loc cc0_scratch15) ↦{fullShare} f) ∗ semVal ((c : Thread nD τ), SemLoc.dma 32) 0)
    ∗ emp) := rfl

theorem held0_eq (c : Dev nD) : (sepL (Cp.held c (V m)) cps0 : sProp 𝕄) = iprop(iprop((((c : Thread nD τ).loc main_arg4) ↦{fullShare} V m c main_arg4) ∗ semVal ((c : Thread nD τ), SemLoc.dma 17) 0)
    ∗ iprop((((c : Thread nD τ).loc main_arg5) ↦{fullShare} V m c main_arg5) ∗ semVal ((c : Thread nD τ), SemLoc.dma 18) 0)
    ∗ iprop((((c : Thread nD τ).loc main_arg7) ↦{fullShare} V m c main_arg7) ∗ semVal ((c : Thread nD τ), SemLoc.dma 19) 0)
    ∗ iprop((((c : Thread nD τ).loc main_arg8) ↦{fullShare} V m c main_arg8) ∗ semVal ((c : Thread nD τ), SemLoc.dma 20) 0)
    ∗ iprop((((c : Thread nD τ).loc main_arg10) ↦{fullShare} V m c main_arg10) ∗ semVal ((c : Thread nD τ), SemLoc.dma 21) 0)
    ∗ iprop((((c : Thread nD τ).loc main_arg11) ↦{fullShare} V m c main_arg11) ∗ semVal ((c : Thread nD τ), SemLoc.dma 22) 0)
    ∗ iprop((((c : Thread nD τ).loc main_arg12) ↦{fullShare} V m c main_arg12) ∗ semVal ((c : Thread nD τ), SemLoc.dma 23) 0)
    ∗ iprop((((c : Thread nD τ).loc main_arg13) ↦{fullShare} V m c main_arg13) ∗ semVal ((c : Thread nD τ), SemLoc.dma 24) 0)
    ∗ iprop((((c : Thread nD τ).loc main_arg15) ↦{fullShare} V m c main_arg15) ∗ semVal ((c : Thread nD τ), SemLoc.dma 25) 0)
    ∗ iprop((((c : Thread nD τ).loc main_arg16) ↦{fullShare} V m c main_arg16) ∗ semVal ((c : Thread nD τ), SemLoc.dma 26) 0)
    ∗ iprop((((c : Thread nD τ).loc main_arg18) ↦{fullShare} V m c main_arg18) ∗ semVal ((c : Thread nD τ), SemLoc.dma 27) 0)
    ∗ iprop((((c : Thread nD τ).loc main_arg19) ↦{fullShare} V m c main_arg19) ∗ semVal ((c : Thread nD τ), SemLoc.dma 28) 0)
    ∗ iprop((((c : Thread nD τ).loc main_arg6) ↦{fullShare} V m c main_arg6) ∗ semVal ((c : Thread nD τ), SemLoc.dma 29) 0)
    ∗ iprop((((c : Thread nD τ).loc main_arg9) ↦{fullShare} V m c main_arg9) ∗ semVal ((c : Thread nD τ), SemLoc.dma 30) 0)
    ∗ emp) := rfl

theorem held1_eq (c : Dev nD) : (sepL (Cp.held c (V m)) cps1 : sProp 𝕄) = iprop(iprop((((c : Thread nD τ).loc main_arg14) ↦{fullShare} V m c main_arg14) ∗ semVal ((c : Thread nD τ), SemLoc.dma 31) 0)
    ∗ iprop((((c : Thread nD τ).loc main_arg17) ↦{fullShare} V m c main_arg17) ∗ semVal ((c : Thread nD τ), SemLoc.dma 32) 0)
    ∗ emp) := rfl

theorem PhiD_split (c : Dev nD) : (PhiD m c : sProp 𝕄) ⊢ iprop(sepL (Cp.give (V m) c) (cps0 ++ cps1) ∗ spare c ∗ work c ∗ (∃ r, prngReg c r)) := by
  rw [PhiD_eq, scopedRest0_eq, give_eq]
  unfold spare work
  iintro ⟨⟨S0, S1, S2, S3, S4, S5, S6, S7, S8, S9, S10, S11, S12, S13, S14, S15, S16, S17, S18, S19, S20, S21, S22, S23, S24, S25, S26, S27, S28, S29, S30, S31⟩, Hg, ⟨C0, C1, C2, C3, C4, C5, C6, C7, C8, C9, C10, C11, C12, C13, C14, C15⟩, ⟨A4, A5, A6, A7, A8, A9, A10, A11, A12, A13, A14, A15, A16, A17, A18, A19⟩⟩
  isplitl [S0 C0 A4 S1 C1 A5 S2 C2 A7 S3 C3 A8 S4 C4 A10 S5 C5 A11 S6 C6 A12 S7 C7 A13 S8 C8 A15 S9 C9 A16 S10 C10 A18 S11 C11 A19 S12 C12 A6 S13 C13 A9 S14 C14 A14 S15 C15 A17]
  · isplitl [S0 C0 A4]
    · isplitl [A4]; · iexact A4
      isplitl [S0]; · iexact S0
      iexact C0
    isplitl [S1 C1 A5]
    · isplitl [A5]; · iexact A5
      isplitl [S1]; · iexact S1
      iexact C1
    isplitl [S2 C2 A7]
    · isplitl [A7]; · iexact A7
      isplitl [S2]; · iexact S2
      iexact C2
    isplitl [S3 C3 A8]
    · isplitl [A8]; · iexact A8
      isplitl [S3]; · iexact S3
      iexact C3
    isplitl [S4 C4 A10]
    · isplitl [A10]; · iexact A10
      isplitl [S4]; · iexact S4
      iexact C4
    isplitl [S5 C5 A11]
    · isplitl [A11]; · iexact A11
      isplitl [S5]; · iexact S5
      iexact C5
    isplitl [S6 C6 A12]
    · isplitl [A12]; · iexact A12
      isplitl [S6]; · iexact S6
      iexact C6
    isplitl [S7 C7 A13]
    · isplitl [A13]; · iexact A13
      isplitl [S7]; · iexact S7
      iexact C7
    isplitl [S8 C8 A15]
    · isplitl [A15]; · iexact A15
      isplitl [S8]; · iexact S8
      iexact C8
    isplitl [S9 C9 A16]
    · isplitl [A16]; · iexact A16
      isplitl [S9]; · iexact S9
      iexact C9
    isplitl [S10 C10 A18]
    · isplitl [A18]; · iexact A18
      isplitl [S10]; · iexact S10
      iexact C10
    isplitl [S11 C11 A19]
    · isplitl [A19]; · iexact A19
      isplitl [S11]; · iexact S11
      iexact C11
    isplitl [S12 C12 A6]
    · isplitl [A6]; · iexact A6
      isplitl [S12]; · iexact S12
      iexact C12
    isplitl [S13 C13 A9]
    · isplitl [A9]; · iexact A9
      isplitl [S13]; · iexact S13
      iexact C13
    isplitl [S14 C14 A14]
    · isplitl [A14]; · iexact A14
      isplitl [S14]; · iexact S14
      iexact C14
    isplitl [S15 C15 A17]
    · isplitl [A17]; · iexact A17
      isplitl [S15]; · iexact S15
      iexact C15
    iempintro
  isplitl [S18 S19 S28 S29 S30 S31]
  · isplitl [S18]; · iexact S18
    isplitl [S19]; · iexact S19
    isplitl [S28]; · iexact S28
    isplitl [S29]; · iexact S29
    isplitl [S30]; · iexact S30
    iexact S31
  isplitl [S16 S17 S20 S21 S22 S23 S24 S25 S26 S27]
  · isplitl [S16]; · iexact S16
    isplitl [S17]; · iexact S17
    isplitl [S20]; · iexact S20
    isplitl [S21]; · iexact S21
    isplitl [S22]; · iexact S22
    isplitl [S23]; · iexact S23
    isplitl [S24]; · iexact S24
    isplitl [S25]; · iexact S25
    isplitl [S26]; · iexact S26
    iexact S27
  iexact Hg

theorem PhiD_join (c : Dev nD) (σ : St F) : iprop(Own (mems t0_0) c restN σ ∗ kept0 m c ∗ sepL (Cp.held c (V m)) cps1) ⊢ (PhiD m c : sProp 𝕄) := by
  rw [PhiD_eq, scopedRest0_eq, own_restN, own_rest0, own_big, own_wts0, own_scr, held1_eq]
  unfold kept0 spare unread
  rw [held0_eq]
  simp only [own1, mems, owns_whole]
  iintro ⟨⟨⟨S14, S15⟩, ⟨S4, S5, S6, S7, S8, S9, S10, S11, S13⟩, ⟨S16, S17, S20, S21, S22, S23, S24, S25, S26, S27⟩⟩, ⟨⟨S18, S19, S28, S29, S30, S31⟩, ⟨S0, S1, S2, S3, S12⟩, Hg, ⟨⟨A4, C0⟩, ⟨A5, C1⟩, ⟨A7, C2⟩, ⟨A8, C3⟩, ⟨A10, C4⟩, ⟨A11, C5⟩, ⟨A12, C6⟩, ⟨A13, C7⟩, ⟨A15, C8⟩, ⟨A16, C9⟩, ⟨A18, C10⟩, ⟨A19, C11⟩, ⟨A6, C12⟩, ⟨A9, C13⟩, -⟩⟩, ⟨⟨A14, C14⟩, ⟨A17, C15⟩, -⟩⟩
  isplitl [S0 S1 S2 S3 S4 S5 S6 S7 S8 S9 S10 S11 S12 S13 S14 S15 S16 S17 S18 S19 S20 S21 S22 S23 S24 S25 S26 S27 S28 S29 S30 S31]
  · isplitl [S0]; · iexact S0
    isplitl [S1]; · iexact S1
    isplitl [S2]; · iexact S2
    isplitl [S3]; · iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexact S18
    isplitl [S19]; · iexact S19
    isplitl [S20]; · iexists _; iexact S20
    isplitl [S21]; · iexists _; iexact S21
    isplitl [S22]; · iexists _; iexact S22
    isplitl [S23]; · iexists _; iexact S23
    isplitl [S24]; · iexists _; iexact S24
    isplitl [S25]; · iexists _; iexact S25
    isplitl [S26]; · iexists _; iexact S26
    isplitl [S27]; · iexists _; iexact S27
    isplitl [S28]; · iexact S28
    isplitl [S29]; · iexact S29
    isplitl [S30]; · iexact S30
    iexact S31
  isplitl [Hg]; · iexact Hg
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  iexact A19

end Cert.KernelIdeal.Hand

end
-- ==== Proof.KernelIdeal.Frame.lean ====
/-
  The grid points one by one, and the program's run.
-/
module

public import proofs.«01_k».proof.Proof.KernelIdeal.Parts
public import proofs.«01_k».proof.Proof.KernelIdeal.Body
public import proofs.«01_k».proof.Proof.Gen.KernelIdeal.Frame
public import Idealize.ShloMosaic.Lib.Pipeline.FrameBody

@[expose] public section

set_option maxRecDepth 16384

noncomputable section

namespace Cert.KernelIdeal.Hand

open Cert.KernelIdeal Cert.KernelIdeal.Gen Cert.Vit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the finished copies leave -/

theorem got_rowCp (c : Dev nD) {N : Nat} (a : Memref sig .tc .hbm (⟨1, ![N]⟩ : Shape) .f32) (ha : a.IsWhole) (d : Memref sig .tc .vmem (⟨2, ![1, N]⟩ : Shape) .f32)
    (hd : d.IsWhole) (hq : (⟨2, ![1, N]⟩ : Shape).Squeezes (⟨1, ![N]⟩ : Shape)) (hp : 0 < (⟨1, ![N]⟩ : Shape).numel) (s : DmaSem sig)
    (hc : (⟨1, ![N]⟩ : Shape).ShapeCasts (⟨2, ![1, N]⟩ : Shape)) :
    (Cp.got (V m) c (rowCp a ha d hq hp s) : sProp 𝕄)
      ⊢ iprop(Cp.held c (V m) (rowCp a ha d hq hp s)
        ∗ owns (c : Thread nD τ) d fullShare (shapeCast (⟨2, ![1, N]⟩ : Shape) (a.view.read (Elt F) (V m c a.view.ref)) hc)) :=
  got_row c (V m) a _ d hd _ hq _ hp s hc
theorem got_matCp (c : Dev nD) {s : Shape} {e : EltTy} (a : Memref sig .tc .hbm s e) (ha : a.IsWhole) (d : Memref sig .tc .vmem s e) (hd : d.IsWhole)
    (hp : 0 < s.numel) (sm : DmaSem sig) :
    (Cp.got (V m) c (matCp a ha d hd hp sm) : sProp 𝕄)
      ⊢ iprop(Cp.held c (V m) (matCp a ha d hd hp sm) ∗ owns (c : Thread nD τ) d fullShare (a.view.read (Elt F) (V m c a.view.ref))) :=
  got_mat c (V m) a _ d hd _ hp sm

set_option maxHeartbeats 1000000 in
theorem got0 (c : Dev nD) (t : Fin cfg0.N) : (sepL (Cp.got (V m) c) cps0 : sProp 𝕄) ⊢ iprop(sepL (Cp.held c (V m)) cps0 ∗ unread c ∗ Own (mems t0_0) c wts0 (inpT m c t)) := by
  rw [own_wts0]
  unfold cps0 unread
  simp only [sepL]
  refine (BIClass.sep_mono (got_any c (V m) _)
    (BIClass.sep_mono (got_any c (V m) _)
    (BIClass.sep_mono (got_any c (V m) _)
    (BIClass.sep_mono (got_any c (V m) _)
    (BIClass.sep_mono (got_rowCp m c _ _ _ (Memref.isWhole_whole _) _ _ _ row_1024)
    (BIClass.sep_mono (got_rowCp m c _ _ _ (Memref.isWhole_whole _) _ _ _ row_1024)
    (BIClass.sep_mono (got_rowCp m c _ _ _ (Memref.isWhole_whole _) _ _ _ row_1024)
    (BIClass.sep_mono (got_rowCp m c _ _ _ (Memref.isWhole_whole _) _ _ _ row_1024)
    (BIClass.sep_mono (got_rowCp m c _ _ _ (Memref.isWhole_whole _) _ _ _ row_4096)
    (BIClass.sep_mono (got_rowCp m c _ _ _ (Memref.isWhole_whole _) _ _ _ row_4096)
    (BIClass.sep_mono (got_rowCp m c _ _ _ (Memref.isWhole_whole _) _ _ _ row_1024)
    (BIClass.sep_mono (got_rowCp m c _ _ _ (Memref.isWhole_whole _) _ _ _ row_1024)
    (BIClass.sep_mono (got_any c (V m) _)
    (BIClass.sep_mono (got_matCp m c _ _ _ _ _ _)
    .rfl)))))))))))))).trans ?_
  simp only [own1, mems]
  iintro ⟨⟨X0, Y0⟩, ⟨X1, Y1⟩, ⟨X2, Y2⟩, ⟨X3, Y3⟩, ⟨X4, Y4⟩, ⟨X5, Y5⟩, ⟨X6, Y6⟩, ⟨X7, Y7⟩, ⟨X8, Y8⟩, ⟨X9, Y9⟩, ⟨X10, Y10⟩, ⟨X11, Y11⟩, ⟨X12, Y12⟩, ⟨X13, Y13⟩, -⟩
  isplitl [X0 X1 X2 X3 X4 X5 X6 X7 X8 X9 X10 X11 X12 X13]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    iempintro
  isplitl [Y0 Y1 Y2 Y3 Y12]
  · isplitl [Y0]; · iexact Y0
    isplitl [Y1]; · iexact Y1
    isplitl [Y2]; · iexact Y2
    isplitl [Y3]; · iexact Y3
    iexact Y12
  isplitl [Y4]; · iexact Y4
  isplitl [Y5]; · iexact Y5
  isplitl [Y6]; · iexact Y6
  isplitl [Y7]; · iexact Y7
  isplitl [Y8]; · iexact Y8
  isplitl [Y9]; · iexact Y9
  isplitl [Y10]; · iexact Y10
  isplitl [Y11]; · iexact Y11
  iexact Y13

theorem got1 (c : Dev nD) (t : Fin cfg0.N) : (sepL (Cp.got (V m) c) cps1 : sProp 𝕄) ⊢ iprop(sepL (Cp.held c (V m)) cps1 ∗ Own (mems t0_0) c {.w1, .w2} (inpT m c t)) := by
  rw [own_big]
  unfold cps1
  simp only [sepL]
  refine (BIClass.sep_mono (got_matCp m c _ _ _ _ _ _) (BIClass.sep_mono (got_matCp m c _ _ _ _ _ _) .rfl)).trans ?_
  simp only [own1, mems]
  iintro ⟨⟨X14, Y14⟩, ⟨X15, Y15⟩, -⟩
  isplitl [X14 X15]
  · isplitl [X14]; · iexact X14
    isplitl [X15]; · iexact X15
    iempintro
  isplitl [Y14]; · iexact Y14
  iexact Y15

theorem work_own (c : Dev nD) (t : Fin cfg0.N) : (work c : sProp 𝕄) ⊢ iprop(∃ σ : St F, ⌜Same wts σ (inpT m c t)⌝ ∗ Own (mems t0_0) c scr σ) := by
  unfold work
  iintro ⟨⟨%f16, S16⟩, ⟨%f17, S17⟩, ⟨%f20, S20⟩, ⟨%f21, S21⟩, ⟨%f22, S22⟩, ⟨%f23, S23⟩, ⟨%f24, S24⟩, ⟨%f25, S25⟩, ⟨%f26, S26⟩, ⟨%f27, S27⟩⟩
  iexists (withScr (inpT m c t) f16 f17 f20 f21 f22 f23 f24 f25 f26 f27)
  isplitr
  · ipureintro
    exact same_withScr _ _ _ _ _ _ _ _ _ _ _
  rw [own_scr]
  simp only [own1, mems, owns_whole]
  isplitl [S16]; · iexact S16
  isplitl [S17]; · iexact S17
  isplitl [S20]; · iexact S20
  isplitl [S21]; · iexact S21
  isplitl [S22]; · iexact S22
  isplitl [S23]; · iexact S23
  isplitl [S24]; · iexact S24
  isplitl [S25]; · iexact S25
  isplitl [S26]; · iexact S26
  iexact S27

/-! ## The grid points -/

theorem own_mems (c : Dev nD) (t : Fin cfg0.N) (S : Finset Nm) (hS : Disjoint S winN) (σ : St F) :
    (Own (mems t) c S σ : sProp 𝕄) = Own (mems t0_0) c S σ := by
  unfold Own
  refine bigSep_congr fun n hn => ?_
  have h := Finset.disjoint_left.mp hS hn
  cases n <;> first | rfl | exact (h (by decide)).elim

theorem run_sound (c : Dev nD) (t : Fin cfg0.N) (S : Finset Nm) (p : K F (Acc F)) (σ : St F) (hok : p.Ok S) (Q : sProp 𝕄) :
    iprop(Own (mems t) c S σ ∗ (Own (mems t) c S (p.exec σ).2 -∗ Q))
      ⊢ wp frame (wpE (defs₀ (F := F)) Variants.none c none) Set.univ (run t p) (fun _ => Q) := by
  unfold run
  refine .trans ?_ (K.sound Variants.none (mems t) c S (K.bind p fun _ => (.ret PUnit.unit : K F PUnit)) σ (K.ok_bind hok fun _ => trivial) _)
  rw [K.exec_bind]; exact .rfl

theorem inv_wts {c : Dev nD} {b : Fin 6} {σ : St F} (h : InvB m c b σ) (t : Fin cfg0.N) : Same wts σ (inpT m c t) := by
  exact h.same.trans (mkIn_wts _ _ _ _ _ _ _ _ _ _ _ _ _ _ _ _ _ _ _)

/-- Before the body: each window's buffer at what the pipeline brought there. -/
def winPre (c : Dev nD) (t : Fin cfg0.N) : sProp 𝕄 :=
  iprop((∃ d, own1 (mems t) c .x ((dats m 0 c).before 0 t d)) ∗ (∃ d, own1 (mems t) c .seg ((dats m 0 c).before 1 t d)) ∗ (∃ d, own1 (mems t) c .oc ((dats m 0 c).before 2 t d)) ∗ (∃ d, own1 (mems t) c .os ((dats m 0 c).before 3 t d)) ∗ (∃ d, own1 (mems t) c .y ((dats m 0 c).before 4 t d)) ∗ (∃ d, own1 (mems t) c .a2c ((dats m 0 c).before 5 t d)) ∗ (∃ d, own1 (mems t) c .a2s ((dats m 0 c).before 6 t d)) ∗ (∃ d, own1 (mems t) c .gc ((dats m 0 c).before 7 t d)) ∗ (∃ d, own1 (mems t) c .gs ((dats m 0 c).before 8 t d)))
/-- After the body, at a point where every window is in use. -/
def winPost (c : Dev nD) (t : Fin cfg0.N) : sProp 𝕄 :=
  iprop(own1 (mems t) c .x ((dats m 0 c).after 0 t) ∗ own1 (mems t) c .seg ((dats m 0 c).after 1 t) ∗ own1 (mems t) c .oc ((dats m 0 c).after 2 t) ∗ own1 (mems t) c .os ((dats m 0 c).after 3 t) ∗ own1 (mems t) c .y ((dats m 0 c).after 4 t) ∗ own1 (mems t) c .a2c ((dats m 0 c).after 5 t) ∗ own1 (mems t) c .a2s ((dats m 0 c).after 6 t) ∗ own1 (mems t) c .gc ((dats m 0 c).after 7 t) ∗ own1 (mems t) c .gs ((dats m 0 c).after 8 t))
/-- After the body of the first point, where the back's windows are not in use. -/
def winPost0 (c : Dev nD) (t : Fin cfg0.N) : sProp 𝕄 :=
  iprop(own1 (mems t) c .x ((dats m 0 c).after 0 t) ∗ own1 (mems t) c .seg ((dats m 0 c).after 1 t) ∗ own1 (mems t) c .oc ((dats m 0 c).after 2 t) ∗ own1 (mems t) c .os ((dats m 0 c).after 3 t) ∗ (∃ d, own1 (mems t) c .y ((dats m 0 c).before 4 t d)) ∗ own1 (mems t) c .a2c ((dats m 0 c).after 5 t) ∗ own1 (mems t) c .a2s ((dats m 0 c).after 6 t) ∗ (∃ d, own1 (mems t) c .gc ((dats m 0 c).before 7 t d)) ∗ (∃ d, own1 (mems t) c .gs ((dats m 0 c).before 8 t d)))

theorem bef_0 (c : Dev nD) (t : Fin cfg0.N) (d) : (dats m 0 c).before 0 t d = inpT m c t .x :=
  before_0 m (dats m 0 c) (A_eq m c 0) (fun _ => rfl) t d
theorem bef_1 (c : Dev nD) (t : Fin cfg0.N) (d) : (dats m 0 c).before 1 t d = inpT m c t .seg :=
  before_1 m (dats m 0 c) (A_eq m c 1) (fun _ => rfl) t d
theorem bef_2 (c : Dev nD) (t : Fin cfg0.N) (d) : (dats m 0 c).before 2 t d = inpT m c t .oc :=
  before_2 m (dats m 0 c) (A_eq m c 2) (fun _ => rfl) t d
theorem bef_3 (c : Dev nD) (t : Fin cfg0.N) (d) : (dats m 0 c).before 3 t d = inpT m c t .os :=
  before_3 m (dats m 0 c) (A_eq m c 3) (fun _ => rfl) t d

/-- The windows before the body, as part of the buffers' contents. -/
theorem winPre_own (c : Dev nD) (t : Fin cfg0.N) (σ : St F) : (winPre m c t : sProp 𝕄)
    ⊢ iprop(∃ d4 d5 d6 d7 d8, Own (mems t) c winN (withWin (inpT m c t) σ ((dats m 0 c).before 4 t d4) ((dats m 0 c).before 5 t d5) ((dats m 0 c).before 6 t d6) ((dats m 0 c).before 7 t d7) ((dats m 0 c).before 8 t d8))) := by
  unfold winPre
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iexists d4, d5, d6, d7, d8
  rw [own_winN, bef_0 m c t d0, bef_1 m c t d1, bef_2 m c t d2, bef_3 m c t d3]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem inv_off (c : Dev nD) (b : Fin 6) (off : Fin 2 → Nat) (hoff : ∀ a, off a + s1x256.size a ≤ s6x256.size a) (ho : ![b.val, 0] = off)
    (σ : St F) (h : Inv (inp m c b) off hoff σ) : InvB m c b σ := by
  subst ho; exact h

set_option maxHeartbeats 1000000 in
/-- A point between the first and the last: the back of batch `b'` beside the front of batch `b`. -/
theorem mid_sound (c : Dev nD) (t : Fin cfg0.N) (b b' : Fin 6) (off : Fin 2 → Nat) (hoff : ∀ a, off a + s1x256.size a ≤ s6x256.size a)
    (ho : ![b.val, 0] = off) (ht : inpT m c t = inp m c b) (hf : fb t = b) (hb : bb t = b') (Q : sProp 𝕄) :
    iprop((∃ σ : St F, ⌜InvB m c b' σ⌝ ∗ Own (mems t0_0) c restN σ) ∗ winPre m c t
      ∗ (iprop((∃ σ : St F, ⌜InvB m c b σ⌝ ∗ Own (mems t0_0) c restN σ) ∗ winPost m c t) -∗ Q))
      ⊢ wp frame (wpE (defs₀ (F := F)) Variants.none c none) Set.univ (run t (middle c0 off hoff)) (fun _ => Q) := by
  iintro ⟨⟨%σ, %hI, HR⟩, HW, HQ⟩
  ihave HW := winPre_own m c t σ $$ HW
  icases HW with ⟨%d4, %d5, %d6, %d7, %d8, HW⟩
  iapply (run_sound c t allN _ (withWin (inpT m c t) σ ((dats m 0 c).before 4 t d4) ((dats m 0 c).before 5 t d5) ((dats m 0 c).before 6 t d6) ((dats m 0 c).before 7 t d7) ((dats m 0 c).before 8 t d8)) (ok_middle c0 _ _) Q)
  isplitl [HR HW]
  · rw [own_all, own_withWin _ _ _ _ _ _ _ restN (by decide), own_mems c t restN (by decide)]
    isplitl [HW]; · iexact HW
    iexact HR
  have hE := exec_middle (inpT m c t) (bck m c b') c0 off hoff _
    (same_withWin ((dats m 0 c).before 4 t d4) ((dats m 0 c).before 5 t d5) ((dats m 0 c).before 6 t d6) ((dats m 0 c).before 7 t d7)
      ((dats m 0 c).before 8 t d8) (inv_wts m hI t))
    (backIn_withWin _ _ _ _ _ hI)
  revert hE
  generalize ((middle (c0 (F := F)) off hoff).exec _).2 = σ'
  rintro ⟨hF, hB⟩
  have hw : Same {.s1, .c1, .s2, .c2, .w1, .w2} σ' (inpT m c t) := by
    exact hB.wts.trans ((mkIn_wts _ _ _ _ _ _ _ _ _ _ _ _ _ _ _ _ _ _ _).mono (by decide))
  rw [own_all, own_winN, own_mems c t restN (by decide)]
  iintro ⟨⟨H0, H1, H2, H3, H4, H5, H6, H7, H8⟩, HR⟩
  iapply HQ
  isplitl [HR]
  · iexists σ'
    isplitr
    · ipureintro; exact inv_off m c b off hoff ho σ' (ht ▸ hF.inv hw)
    iexact HR
  unfold winPost

  rw [show (dats m 0 c).after 0 t = σ' .x from (hF.same .x (by decide)).symm,
    show (dats m 0 c).after 1 t = σ' .seg from (hF.same .seg (by decide)).symm,
    show (dats m 0 c).after 2 t = σ' .oc from (hF.same .oc (by decide)).symm,
    show (dats m 0 c).after 3 t = σ' .os from (hF.same .os (by decide)).symm,
    show (dats m 0 c).after 4 t = σ' .y from (congrArg (fun b => bY (bck m c b) c0) hb).trans hB.y.symm,
    show (dats m 0 c).after 5 t = σ' .a2c from (congrArg (fun b => fA2C (inp m c b)) hf).trans ((congrArg fA2C ht).symm.trans hF.a2c.symm),
    show (dats m 0 c).after 6 t = σ' .a2s from (congrArg (fun b => fA2S (inp m c b)) hf).trans ((congrArg fA2S ht).symm.trans hF.a2s.symm),
    show (dats m 0 c).after 7 t = σ' .gc from (congrArg (fun b => bGC (bck m c b) c0) hb).trans hB.gc.symm,
    show (dats m 0 c).after 8 t = σ' .gs from (congrArg (fun b => bGS (bck m c b) c0) hb).trans hB.gs.symm]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The core's own record of what it waited for. -/
abbrev owesC (c : Dev nD) (t : Fin (cfg0.N + 1)) : sProp 𝕄 := (dats m 0 c).owesAt () t

theorem owes_out (c : Dev nD) (t : Fin (cfg0.N + 1)) : (owesC m c t : sProp 𝕄) ⊢ iprop(∃ W, owes (c : Thread nD τ) 0 W) := by
  unfold owesC Dat.owesAt Pipeline.owesWithin
  iintro ⟨%W, -, HW⟩
  iexists W; iexact HW
theorem owes_in (c : Dev nD) (t : Fin (cfg0.N + 1)) : (iprop(∃ W, owes (c : Thread nD τ) 0 W) : sProp 𝕄) ⊢ owesC m c t := by
  unfold owesC Dat.owesAt Pipeline.owesWithin
  iintro ⟨%W, HW⟩
  iexists W
  isplitr
  · ipureintro; exact fun _ _ => Or.inl trivial
  iexact HW

/-- A point between the second and the last. -/
theorem sound_mid (c : Dev nD) (t : Fin cfg0.N) (b b' : Fin 6) (off : Fin 2 → Nat) (hoff : ∀ a, off a + s1x256.size a ≤ s6x256.size a)
    (ho : ![b.val, 0] = off) (ht : inpT m c t = inp m c b) (hf : fb t = b) (hb : bb t = b') :
    iprop(phiM m c b' ∗ owesC m c t.castSucc ∗ winPre m c t)
      ⊢ wp frame (wpE (defs₀ (F := F)) Variants.none c none) Set.univ (run t (middle c0 off hoff))
        (fun _ => iprop(phiM m c b ∗ owesC m c t.succ ∗ winPost m c t)) := by
  unfold phiM
  iintro ⟨⟨HI, HK, HL⟩, HO, HW⟩
  iapply (mid_sound m c t b b' off hoff ho ht hf hb _)
  isplitl [HI]; · iexact HI
  isplitl [HW]; · iexact HW
  iintro ⟨HI, HW⟩
  isplitl [HI HK HL]
  · isplitl [HI]; · iexact HI
    isplitl [HK]; · iexact HK
    iexact HL
  isplitl [HO]
  · iapply (owes_in m c t.succ)
    iapply (owes_out m c t.castSucc)
    iexact HO
  iexact HW

/-- The second point, where the last two weights arrive. -/
theorem sound_1 (c : Dev nD) (t : Fin cfg0.N) (b : Fin 6) (off : Fin 2 → Nat) (hoff : ∀ a, off a + s1x256.size a ≤ s6x256.size a)
    (ho : ![b.val, 0] = off) (ht : inpT m c t = inp m c b) (hf : fb t = b) (hb : bb t = 0) :
    iprop(phi1 m c ∗ owesC m c t.castSucc ∗ winPre m c t)
      ⊢ wp frame (wpE (defs₀ (F := F)) Variants.none c none) Set.univ (Cp.waits cps1 (run t (middle c0 off hoff)))
        (fun _ => iprop(phiM m c b ∗ owesC m c t.succ ∗ winPost m c t)) := by
  unfold phi1
  iintro ⟨⟨⟨%σ, %hI, HR⟩, HK, HL⟩, HO, HW⟩
  ihave HO := owes_out m c t.castSucc $$ HO
  icases HO with ⟨%W, HO⟩
  iapply (Cp.waits_sound (V m) c Variants.none cps1 W _ _)
  isplitl [HL]; · iexact HL
  isplitl [HO]; · iexact HO
  iintro ⟨HL, HO⟩
  ihave HL := got1 m c (pt 0) $$ HL
  icases HL with ⟨HL, HB⟩
  iapply (mid_sound m c t b 0 off hoff ho ht hf hb _)
  isplitl [HR HB]
  · iexists σ
    isplitr
    · ipureintro; exact hI
    rw [own_restN]
    isplitl [HB]
    · rw [Own_congr (mems t0_0) c {.w1, .w2} (σ := σ) (σ' := inpT m c (pt 0)) (fun n hn => hI.same n (Finset.mem_of_subset (by decide) hn))]; iexact HB
    iexact HR
  isplitl [HW]; · iexact HW
  iintro ⟨HI, HW⟩
  isplitl [HI HK HL]
  · unfold phiM
    isplitl [HI]; · iexact HI
    isplitl [HK]; · iexact HK
    iexact HL
  isplitl [HO]
  · iapply (owes_in m c t.succ)
    iexact HO
  iexact HW

theorem cps_set : ∀ a ∈ (cps0 ++ cps1 : List (Cp sig)), a.src.view.set = Finset.univ := by
  intro a ha
  unfold cps0 cps1 at ha
  simp only [List.cons_append, List.nil_append, List.mem_cons, List.not_mem_nil, or_false] at ha
  rcases ha with rfl | rfl | rfl | rfl | rfl | rfl | rfl | rfl | rfl | rfl | rfl | rfl | rfl | rfl | rfl | rfl <;> exact View.set_whole _

set_option maxHeartbeats 1000000 in
/-- The first point once the copies it waits for have landed. -/
theorem sound_0b (c : Dev nD) (t : Fin cfg0.N) (off : Fin 2 → Nat) (hoff : ∀ a, off a + s1x256.size a ≤ s6x256.size a)
    (ho : ![(0 : Fin 6).val, 0] = off) (ht : inpT m c t = inp m c 0) (hf : fb t = 0) (Q : sProp 𝕄) :
    iprop(sepL (Cp.got (V m) c) cps0 ∗ work c ∗ winPre m c t
      ∗ (iprop((∃ σ : St F, ⌜InvB m c 0 σ⌝ ∗ Own (mems t0_0) c rest0 σ) ∗ unread c ∗ sepL (Cp.held c (V m)) cps0 ∗ winPost0 m c t) -∗ Q))
      ⊢ wp frame (wpE (defs₀ (F := F)) Variants.none c none) Set.univ (run t (first c0 off hoff)) (fun _ => Q) := by
  iintro ⟨HL, HK, HW, HQ⟩
  ihave HL := got0 m c t $$ HL
  icases HL with ⟨HL, HU, HA⟩
  ihave HK := work_own m c t $$ HK
  icases HK with ⟨%σ, %hσ, HK⟩
  ihave HW := winPre_own m c t σ $$ HW
  icases HW with ⟨%d4, %d5, %d6, %d7, %d8, HW⟩
  iapply (run_sound c t (winN ∪ rest0) _ (withWin (inpT m c t) σ ((dats m 0 c).before 4 t d4) ((dats m 0 c).before 5 t d5) ((dats m 0 c).before 6 t d6) ((dats m 0 c).before 7 t d7) ((dats m 0 c).before 8 t d8)) (K.ok_mono firstN_sub _ (ok_first c0 _ _)) Q)
  isplitl [HA HK HW]
  · rw [own_first, own_withWin _ _ _ _ _ _ _ rest0 (by decide), own_mems c t rest0 (by decide), own_rest0]
    isplitl [HW]; · iexact HW
    isplitl [HA]
    · rw [Own_congr (mems t0_0) c wts0 (σ := σ) (σ' := inpT m c t) (fun n hn => hσ n (Finset.mem_of_subset (by decide) hn))]; iexact HA
    iexact HK
  have hE := exec_first (inpT m c t) c0 off hoff _
    (same_withWin ((dats m 0 c).before 4 t d4) ((dats m 0 c).before 5 t d5) ((dats m 0 c).before 6 t d6) ((dats m 0 c).before 7 t d7) ((dats m 0 c).before 8 t d8) hσ)
  revert hE
  generalize ((first (c0 (F := F)) off hoff).exec _).2 = σ'
  rintro ⟨hF, hN⟩
  have hw : Same {.s1, .c1, .s2, .c2, .w1, .w2} σ' (inpT m c t) := by
    intro n hn
    fin_cases hn <;> exact (hN _ (by decide)).trans (hσ _ (by decide))
  rw [own_first, own_winN, own_mems c t rest0 (by decide)]
  iintro ⟨⟨H0, H1, H2, H3, H4, H5, H6, H7, H8⟩, HR⟩
  iapply HQ
  isplitl [HR]
  · iexists σ'
    isplitr
    · ipureintro; exact inv_off m c 0 off hoff ho σ' (ht ▸ hF.inv hw)
    iexact HR
  isplitl [HU]; · iexact HU
  isplitl [HL]; · iexact HL
  unfold winPost0

  rw [show (dats m 0 c).after 0 t = σ' .x from (hF.same .x (by decide)).symm,
    show (dats m 0 c).after 1 t = σ' .seg from (hF.same .seg (by decide)).symm,
    show (dats m 0 c).after 2 t = σ' .oc from (hF.same .oc (by decide)).symm,
    show (dats m 0 c).after 3 t = σ' .os from (hF.same .os (by decide)).symm,
    show (dats m 0 c).after 5 t = σ' .a2c from (congrArg (fun b => fA2C (inp m c b)) hf).trans ((congrArg fA2C ht).symm.trans hF.a2c.symm),
    show (dats m 0 c).after 6 t = σ' .a2s from (congrArg (fun b => fA2S (inp m c b)) hf).trans ((congrArg fA2S ht).symm.trans hF.a2s.symm),
    show σ' .y = (dats m 0 c).before 4 t d4 from hN _ (by decide), show σ' .gc = (dats m 0 c).before 7 t d7 from hN _ (by decide), show σ' .gs = (dats m 0 c).before 8 t d8 from hN _ (by decide)]
  isplitl [H0]; · iexact H0
  isplitl [H1]; · iexact H1
  isplitl [H2]; · iexact H2
  isplitl [H3]; · iexact H3
  isplitl [H4]; · iexists d4; iexact H4
  isplitl [H5]; · iexact H5
  isplitl [H6]; · iexact H6
  isplitl [H7]; · iexists d7; iexact H7
  iexists d8; iexact H8

set_option maxHeartbeats 1000000 in
/-- The first point. -/
theorem sound_0 (c : Dev nD) :
    iprop(PhiD m c ∗ owesC m c t0_0.castSucc ∗ winPre m c t0_0)
      ⊢ wp frame (wpE (defs₀ (F := F)) Variants.none c none) Set.univ (bodyAt0 t0_0)
        (fun _ => iprop(phi1 m c ∗ owesC m c t0_0.succ ∗ winPost0 m c t0_0)) := by
  rw [body0]
  iintro ⟨HP, HO, HW⟩
  ihave HO := owes_out m c t0_0.castSucc $$ HO
  icases HO with ⟨%W, HO⟩
  ihave HP := PhiD_split m c $$ HP
  icases HP with ⟨HG, HS, HK, Hg⟩
  iapply (Cp.issue_sound (V m) c Variants.none (cps0 ++ cps1) cps_set _ _)
  isplitl [HG]; · iexact HG
  iintro HF
  ihave HF := (sepL_append (Cp.fly (V m) c) cps0 cps1).1 $$ HF
  icases HF with ⟨HF, HF1⟩
  iapply (Cp.waits_sound (V m) c Variants.none cps0 W _ _)
  isplitl [HF]; · iexact HF
  isplitl [HO]; · iexact HO
  iintro ⟨HL, HO⟩
  iapply (sound_0b m c t0_0 ![0, 0] (offOk 0 (by decide)) rfl rfl rfl _)
  isplitl [HL]; · iexact HL
  isplitl [HK]; · iexact HK
  isplitl [HW]; · iexact HW
  iintro ⟨HR, HU, HL, HW⟩
  isplitl [HR HS HU Hg HL HF1]
  · unfold phi1 kept0
    isplitl [HR]; · iexact HR
    isplitl [HS HU Hg HL]
    · isplitl [HS]; · iexact HS
      isplitl [HU]; · iexact HU
      isplitl [Hg]; · iexact Hg
      iexact HL
    iexact HF1
  isplitl [HO]
  · iapply (owes_in m c t0_0.succ)
    iexact HO
  iexact HW

theorem bef6_5 (c : Dev nD) (d) : (dats m 0 c).before 5 t0_6 d = (dats m 0 c).after 5 t0_6 := by
  rw [Dat.before_of_pos _ 5 t0_6 (by decide) (by decide) d, if_neg (by decide)]; rfl
theorem bef6_6 (c : Dev nD) (d) : (dats m 0 c).before 6 t0_6 d = (dats m 0 c).after 6 t0_6 := by
  rw [Dat.before_of_pos _ 6 t0_6 (by decide) (by decide) d, if_neg (by decide)]; rfl

set_option maxHeartbeats 1000000 in
/-- The last point. -/
theorem sound_6 (c : Dev nD) :
    iprop(phiM m c 5 ∗ owesC m c t0_6.castSucc ∗ winPre m c t0_6)
      ⊢ wp frame (wpE (defs₀ (F := F)) Variants.none c none) Set.univ (bodyAt0 t0_6)
        (fun _ => iprop(PhiD m c ∗ owesC m c t0_6.succ ∗ winPost m c t0_6)) := by
  rw [body6]
  unfold phiM
  iintro ⟨⟨⟨%σ, %hI, HR⟩, HK, HL⟩, HO, HW⟩
  ihave HW := winPre_own m c t0_6 σ $$ HW
  icases HW with ⟨%d4, %d5, %d6, %d7, %d8, HW⟩
  iapply (run_sound c t0_6 allN _ (withWin (inpT m c t0_6) σ ((dats m 0 c).before 4 t0_6 d4) ((dats m 0 c).before 5 t0_6 d5) ((dats m 0 c).before 6 t0_6 d6) ((dats m 0 c).before 7 t0_6 d7) ((dats m 0 c).before 8 t0_6 d8)) (ok_final c0 _ _) _)
  isplitl [HR HW]
  · rw [own_all, own_withWin _ _ _ _ _ _ _ restN (by decide), own_mems c t0_6 restN (by decide)]
    isplitl [HW]; · iexact HW
    iexact HR
  have hE := exec_final (bck m c 5) c0 ![0, 0] (offOk 0 (by decide)) _
    (backIn_withWin (ι' := inpT m c t0_6) ((dats m 0 c).before 4 t0_6 d4) ((dats m 0 c).before 5 t0_6 d5) ((dats m 0 c).before 6 t0_6 d6) ((dats m 0 c).before 7 t0_6 d7) ((dats m 0 c).before 8 t0_6 d8) hI)
  revert hE
  generalize ((final (c0 (F := F)) ![0, 0] (offOk 0 (by decide))).exec _).2 = σ'
  rintro ⟨hB, hN⟩
  rw [own_all, own_winN, own_mems c t0_6 restN (by decide)]
  iintro ⟨⟨H0, H1, H2, H3, H4, H5, H6, H7, H8⟩, HR⟩
  isplitl [HR HK HL]
  · iapply (PhiD_join m c σ')
    isplitl [HR]; · iexact HR
    isplitl [HK]; · iexact HK
    iexact HL
  isplitl [HO]
  · iapply (owes_in m c t0_6.succ)
    iapply (owes_out m c t0_6.castSucc)
    iexact HO
  unfold winPost

  rw [show (dats m 0 c).after 0 t0_6 = σ' .x from (hN .x (by decide)).symm,
    show (dats m 0 c).after 1 t0_6 = σ' .seg from (hN .seg (by decide)).symm,
    show (dats m 0 c).after 2 t0_6 = σ' .oc from (hN .oc (by decide)).symm,
    show (dats m 0 c).after 3 t0_6 = σ' .os from (hN .os (by decide)).symm,
    show (dats m 0 c).after 4 t0_6 = σ' .y from hB.y.symm,
    show (dats m 0 c).after 5 t0_6 = σ' .a2c from (bef6_5 m c d5).symm.trans (hN .a2c (by decide)).symm,
    show (dats m 0 c).after 6 t0_6 = σ' .a2s from (bef6_6 m c d6).symm.trans (hN .a2s (by decide)).symm,
    show (dats m 0 c).after 7 t0_6 = σ' .gc from hB.gc.symm,
    show (dats m 0 c).after 8 t0_6 = σ' .gs from hB.gs.symm]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run -/

theorem defs₀_row (t : Fin cfg0.N) :
    defs₀ (F := F) .tc cfg0.body (cfg0.bodyArgs t (cfg0.slots t)) = bodyAt0 t := by
  unfold defs₀; rw [Defs.onTc_tc]

theorem off_1 : ![(1 : Fin 6).val, 0] = ![1, 0] := rfl

theorem inpT_1 (c : Dev nD) : inpT m c t0_1 = inp m c 1 := congrArg (inpT m c) (rfl : t0_1 = pt 1)

theorem fb_1 : fb t0_1 = 1 := rfl

theorem bb_1 : bb t0_1 = 0 := rfl

theorem sound_run1 (c : Dev nD) :
    iprop(phi1 m c ∗ owesC m c t0_1.castSucc ∗ winPre m c t0_1)
      ⊢ wp frame (wpE (defs₀ (F := F)) Variants.none c none) Set.univ (Cp.waits cps1 (run t0_1 (middle c0 ![1, 0] (offOk 1 (by decide)))))
        (fun _ => iprop(phiM m c 1 ∗ owesC m c t0_1.succ ∗ winPost m c t0_1)) :=
  sound_1 m c t0_1 1 ![1, 0] (offOk 1 (by decide)) off_1 (inpT_1 m c) fb_1 bb_1

theorem sound_of1 (c : Dev nD) (p) (hp : p = Cp.waits cps1 (run t0_1 (middle c0 ![1, 0] (offOk 1 (by decide))))) :
    iprop(phi1 m c ∗ owesC m c t0_1.castSucc ∗ winPre m c t0_1)
      ⊢ wp frame (wpE (defs₀ (F := F)) Variants.none c none) Set.univ p
        (fun _ => iprop(phiM m c 1 ∗ owesC m c t0_1.succ ∗ winPost m c t0_1)) := by
  rewrite [hp]
  exact sound_run1 m c

theorem sound_at1 (c : Dev nD) :
    iprop(phi1 m c ∗ owesC m c t0_1.castSucc ∗ winPre m c t0_1)
      ⊢ wp frame (wpE (defs₀ (F := F)) Variants.none c none) Set.univ (bodyAt0 t0_1)
        (fun _ => iprop(phiM m c 1 ∗ owesC m c t0_1.succ ∗ winPost m c t0_1)) := sound_of1 m c _ body1

theorem off_2 : ![(2 : Fin 6).val, 0] = ![2, 0] := rfl

theorem inpT_2 (c : Dev nD) : inpT m c t0_2 = inp m c 2 := congrArg (inpT m c) (rfl : t0_2 = pt 2)

theorem fb_2 : fb t0_2 = 2 := rfl

theorem bb_2 : bb t0_2 = 1 := rfl

theorem sound_run2 (c : Dev nD) :
    iprop(phiM m c 1 ∗ owesC m c t0_2.castSucc ∗ winPre m c t0_2)
      ⊢ wp frame (wpE (defs₀ (F := F)) Variants.none c none) Set.univ (run t0_2 (middle c0 ![2, 0] (offOk 2 (by decide))))
        (fun _ => iprop(phiM m c 2 ∗ owesC m c t0_2.succ ∗ winPost m c t0_2)) :=
  sound_mid m c t0_2 2 1 ![2, 0] (offOk 2 (by decide)) off_2 (inpT_2 m c) fb_2 bb_2

theorem sound_of2 (c : Dev nD) (p) (hp : p = run t0_2 (middle c0 ![2, 0] (offOk 2 (by decide)))) :
    iprop(phiM m c 1 ∗ owesC m c t0_2.castSucc ∗ winPre m c t0_2)
      ⊢ wp frame (wpE (defs₀ (F := F)) Variants.none c none) Set.univ p
        (fun _ => iprop(phiM m c 2 ∗ owesC m c t0_2.succ ∗ winPost m c t0_2)) := by
  rewrite [hp]
  exact sound_run2 m c

theorem sound_at2 (c : Dev nD) :
    iprop(phiM m c 1 ∗ owesC m c t0_2.castSucc ∗ winPre m c t0_2)
      ⊢ wp frame (wpE (defs₀ (F := F)) Variants.none c none) Set.univ (bodyAt0 t0_2)
        (fun _ => iprop(phiM m c 2 ∗ owesC m c t0_2.succ ∗ winPost m c t0_2)) := sound_of2 m c _ body2

theorem off_3 : ![(3 : Fin 6).val, 0] = ![3, 0] := rfl

theorem inpT_3 (c : Dev nD) : inpT m c t0_3 = inp m c 3 := congrArg (inpT m c) (rfl : t0_3 = pt 3)

theorem fb_3 : fb t0_3 = 3 := rfl

theorem bb_3 : bb t0_3 = 2 := rfl

theorem sound_run3 (c : Dev nD) :
    iprop(phiM m c 2 ∗ owesC m c t0_3.castSucc ∗ winPre m c t0_3)
      ⊢ wp frame (wpE (defs₀ (F := F)) Variants.none c none) Set.univ (run t0_3 (middle c0 ![3, 0] (offOk 3 (by decide))))
        (fun _ => iprop(phiM m c 3 ∗ owesC m c t0_3.succ ∗ winPost m c t0_3)) :=
  sound_mid m c t0_3 3 2 ![3, 0] (offOk 3 (by decide)) off_3 (inpT_3 m c) fb_3 bb_3

theorem sound_of3 (c : Dev nD) (p) (hp : p = run t0_3 (middle c0 ![3, 0] (offOk 3 (by decide)))) :
    iprop(phiM m c 2 ∗ owesC m c t0_3.castSucc ∗ winPre m c t0_3)
      ⊢ wp frame (wpE (defs₀ (F := F)) Variants.none c none) Set.univ p
        (fun _ => iprop(phiM m c 3 ∗ owesC m c t0_3.succ ∗ winPost m c t0_3)) := by
  rewrite [hp]
  exact sound_run3 m c

theorem sound_at3 (c : Dev nD) :
    iprop(phiM m c 2 ∗ owesC m c t0_3.castSucc ∗ winPre m c t0_3)
      ⊢ wp frame (wpE (defs₀ (F := F)) Variants.none c none) Set.univ (bodyAt0 t0_3)
        (fun _ => iprop(phiM m c 3 ∗ owesC m c t0_3.succ ∗ winPost m c t0_3)) := sound_of3 m c _ body3

theorem off_4 : ![(4 : Fin 6).val, 0] = ![4, 0] := rfl

theorem inpT_4 (c : Dev nD) : inpT m c t0_4 = inp m c 4 := congrArg (inpT m c) (rfl : t0_4 = pt 4)

theorem fb_4 : fb t0_4 = 4 := rfl

theorem bb_4 : bb t0_4 = 3 := rfl

theorem sound_run4 (c : Dev nD) :
    iprop(phiM m c 3 ∗ owesC m c t0_4.castSucc ∗ winPre m c t0_4)
      ⊢ wp frame (wpE (defs₀ (F := F)) Variants.none c none) Set.univ (run t0_4 (middle c0 ![4, 0] (offOk 4 (by decide))))
        (fun _ => iprop(phiM m c 4 ∗ owesC m c t0_4.succ ∗ winPost m c t0_4)) :=
  sound_mid m c t0_4 4 3 ![4, 0] (offOk 4 (by decide)) off_4 (inpT_4 m c) fb_4 bb_4

theorem sound_of4 (c : Dev nD) (p) (hp : p = run t0_4 (middle c0 ![4, 0] (offOk 4 (by decide)))) :
    iprop(phiM m c 3 ∗ owesC m c t0_4.castSucc ∗ winPre m c t0_4)
      ⊢ wp frame (wpE (defs₀ (F := F)) Variants.none c none) Set.univ p
        (fun _ => iprop(phiM m c 4 ∗ owesC m c t0_4.succ ∗ winPost m c t0_4)) := by
  rewrite [hp]
  exact sound_run4 m c

theorem sound_at4 (c : Dev nD) :
    iprop(phiM m c 3 ∗ owesC m c t0_4.castSucc ∗ winPre m c t0_4)
      ⊢ wp frame (wpE (defs₀ (F := F)) Variants.none c none) Set.univ (bodyAt0 t0_4)
        (fun _ => iprop(phiM m c 4 ∗ owesC m c t0_4.succ ∗ winPost m c t0_4)) := sound_of4 m c _ body4

theorem off_5 : ![(5 : Fin 6).val, 0] = ![5, 0] := rfl

theorem inpT_5 (c : Dev nD) : inpT m c t0_5 = inp m c 5 := congrArg (inpT m c) (rfl : t0_5 = pt 5)

theorem fb_5 : fb t0_5 = 5 := rfl

theorem bb_5 : bb t0_5 = 4 := rfl

theorem sound_run5 (c : Dev nD) :
    iprop(phiM m c 4 ∗ owesC m c t0_5.castSucc ∗ winPre m c t0_5)
      ⊢ wp frame (wpE (defs₀ (F := F)) Variants.none c none) Set.univ (run t0_5 (middle c0 ![5, 0] (offOk 5 (by decide))))
        (fun _ => iprop(phiM m c 5 ∗ owesC m c t0_5.succ ∗ winPost m c t0_5)) :=
  sound_mid m c t0_5 5 4 ![5, 0] (offOk 5 (by decide)) off_5 (inpT_5 m c) fb_5 bb_5

theorem sound_of5 (c : Dev nD) (p) (hp : p = run t0_5 (middle c0 ![5, 0] (offOk 5 (by decide)))) :
    iprop(phiM m c 4 ∗ owesC m c t0_5.castSucc ∗ winPre m c t0_5)
      ⊢ wp frame (wpE (defs₀ (F := F)) Variants.none c none) Set.univ p
        (fun _ => iprop(phiM m c 5 ∗ owesC m c t0_5.succ ∗ winPost m c t0_5)) := by
  rewrite [hp]
  exact sound_run5 m c

theorem sound_at5 (c : Dev nD) :
    iprop(phiM m c 4 ∗ owesC m c t0_5.castSucc ∗ winPre m c t0_5)
      ⊢ wp frame (wpE (defs₀ (F := F)) Variants.none c none) Set.univ (bodyAt0 t0_5)
        (fun _ => iprop(phiM m c 5 ∗ owesC m c t0_5.succ ∗ winPost m c t0_5)) := sound_of5 m c _ body5

set_option maxHeartbeats 2000000 in
theorem body_obligation (c : Dev nD) : BodyObligation (dats (F := F) m 0 c) (defs₀ (F := F)) Variants.none () Set.univ := fun t => by
  rw [bigSep_W0, bigSep_W0, defs₀_row]
  rcases fin_N0 t with rfl | rfl | rfl | rfl | rfl | rfl | rfl
  · exact triple_restated (sound_0 m c) rfl .rfl fun _ => .rfl
  · exact triple_restated (sound_at1 m c) rfl .rfl fun _ => .rfl
  · exact triple_restated (sound_at2 m c) rfl .rfl fun _ => .rfl
  · exact triple_restated (sound_at3 m c) rfl .rfl fun _ => .rfl
  · exact triple_restated (sound_at4 m c) rfl .rfl fun _ => .rfl
  · exact triple_restated (sound_at5 m c) rfl .rfl fun _ => .rfl
  · exact triple_restated (sound_6 m c) rfl .rfl fun _ => .rfl

set_option backward.isDefEq.respectTransparency.types false in
/-- The program ends with every window's array as the pipeline's write-backs leave it. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The program ends, its arguments as they began, every semaphore counter at zero. -/
theorem frame : θ_run defs (onTc (τ := τ) (main (F := F))) ⟨m, fun _ => 0, ρ⟩ (fun r => ArgsKept m r ∧ r.2.sem = fun _ => 0) :=
  (θ_run defs _ _).mono (fun r h => ⟨frame_of m (dats m) (A_eq m) r h, h.2⟩) (run_main m ρ)

end Cert.KernelIdeal.Hand

end
-- ==== Proof.Read.lean ====
/-
  The kernel's vector functions read at an index: what lies at row `r`, lane `l` of a spread row of
  lanes, of rows folded to lanes, of a product and of an affine tile.
-/
module

public import proofs.«01_k».proof.Proof.Back
public import Idealize.ShloMosaic.Lib.Pointwise
public import Idealize.ShloMosaic.Lib.Pipeline.Value

@[expose] public section

noncomputable section

namespace Cert.Vit

open Idealize.ShloMosaic Idealize.SL.Sem

theorem transpose_sq_apply {α : Type} (v : s128x128.Idx → α) (r l : Fin 128) : transpose s128x128 [1, 0] v transposes_sq (ix2 r l) = v (ix2 l r) := by
  pointwise

/-- Row `r` of a spread vector is filled with lane `r`. -/
theorem spread_apply {F : FTy → Type} [FloatOps F] (v : FVec F s8x128 .f32) (r l : Fin 128) :
    spread v (ix2 r l) = v (ix2 ⟨l.val % 8, by omega⟩ r) := by
  unfold spread
  rw [transpose_sq_apply]
  refine concatenate_replicate_apply (t := s128x128) (s₁ := s8x128) 0 16 v concatenates16 rfl (ix2 l r) _ ?_ ?_
  · rfl
  · intro b hb
    match b, hb with
    | ⟨0, _⟩, hb => exact absurd rfl hb
    | ⟨1, _⟩, _ => rfl

theorem rows8_apply {F : FTy → Type} [FloatOps F] (m : FVec F s128x128 .f32) (k : Fin 16) (s : Fin 8) (r : Fin 128) :
    rows8 (transpose s128x128 [1, 0] m transposes_sq) k (ix2 s r) = m (ix2 r ⟨8 * k.val + s.val, by omega⟩) := by
  unfold rows8
  pointwise

theorem rot4_apply {α : Type} (v : s8x128.Idx → α) (s : Fin 8) (r : Fin 128) :
    dynamicRotate 0 4#32 none v rotates_fold (ix2 s r) = v (ix2 ⟨(s.val + 8 - 4) % 8, by omega⟩ r) := by
  pointwise
theorem rot2_apply {α : Type} (v : s8x128.Idx → α) (s : Fin 8) (r : Fin 128) :
    dynamicRotate 0 2#32 none v rotates_fold (ix2 s r) = v (ix2 ⟨(s.val + 8 - 2) % 8, by omega⟩ r) := by
  pointwise
theorem rot1_apply {α : Type} (v : s8x128.Idx → α) (s : Fin 8) (r : Fin 128) :
    dynamicRotate 0 1#32 none v rotates_fold (ix2 s r) = v (ix2 ⟨(s.val + 8 - 1) % 8, by omega⟩ r) := by
  pointwise

/-- A sum of 128, as 8 sums of 16. -/
theorem sum_8_16 {M : Type} [AddCommMonoid M] (a : Fin 128 → M) :
    ∑ l, a l = ∑ s : Fin 8, ∑ k : Fin 16, a ⟨8 * k.val + s.val, by omega⟩ := by
  rw [Finset.sum_comm, ← Fintype.sum_prod_type' (fun (k : Fin 16) (s : Fin 8) => a ⟨8 * k.val + s.val, by omega⟩)]
  refine (Equiv.sum_comp (finProdFinEquiv (m := 16) (n := 8)) a).symm.trans (Finset.sum_congr rfl fun x _ => congrArg a (Fin.ext ?_))
  exact Nat.add_comm _ _

/-- Rows folded to lanes by any operation that is an addition seen through `φ`: the whole row's sum, at each of the eight rows. -/
theorem foldRows_apply {F : FTy → Type} [FloatOps F] {M : Type} [AddCommMonoid M] (φ : F .f32 → M)
    (f : FVec F s8x128 .f32 → FVec F s8x128 .f32 → FVec F s8x128 .f32)
    (hf : ∀ v w i, φ (f v w i) = φ (v i) + φ (w i)) (m : FVec F s128x128 .f32) (s : Fin 8) (r : Fin 128) :
    φ (foldRows f m (ix2 s r)) = ∑ l : Fin 128, φ (m (ix2 r l)) := by
  rw [sum_8_16]
  obtain ⟨W, hW⟩ : ∃ W : Fin 8 → M, ∀ s : Fin 8, W s = ∑ k : Fin 16, φ (m (ix2 r ⟨8 * k.val + s.val, by omega⟩)) := ⟨_, fun _ => rfl⟩
  rw [← Finset.sum_congr rfl fun s _ => hW s]
  have h16 : ∀ s : Fin 8, φ (m (ix2 r ⟨8 * (0 : Fin 16).val + s.val, by omega⟩)) + φ (m (ix2 r ⟨8 * (1 : Fin 16).val + s.val, by omega⟩))
      + φ (m (ix2 r ⟨8 * (2 : Fin 16).val + s.val, by omega⟩)) + φ (m (ix2 r ⟨8 * (3 : Fin 16).val + s.val, by omega⟩))
      + φ (m (ix2 r ⟨8 * (4 : Fin 16).val + s.val, by omega⟩)) + φ (m (ix2 r ⟨8 * (5 : Fin 16).val + s.val, by omega⟩))
      + φ (m (ix2 r ⟨8 * (6 : Fin 16).val + s.val, by omega⟩)) + φ (m (ix2 r ⟨8 * (7 : Fin 16).val + s.val, by omega⟩))
      + φ (m (ix2 r ⟨8 * (8 : Fin 16).val + s.val, by omega⟩)) + φ (m (ix2 r ⟨8 * (9 : Fin 16).val + s.val, by omega⟩))
      + φ (m (ix2 r ⟨8 * (10 : Fin 16).val + s.val, by omega⟩)) + φ (m (ix2 r ⟨8 * (11 : Fin 16).val + s.val, by omega⟩))
      + φ (m (ix2 r ⟨8 * (12 : Fin 16).val + s.val, by omega⟩)) + φ (m (ix2 r ⟨8 * (13 : Fin 16).val + s.val, by omega⟩))
      + φ (m (ix2 r ⟨8 * (14 : Fin 16).val + s.val, by omega⟩)) + φ (m (ix2 r ⟨8 * (15 : Fin 16).val + s.val, by omega⟩)) = W s := fun s => by
    rw [hW s]
    simp only [Fin.sum_univ_castSucc, Fin.sum_univ_zero, zero_add]
    rfl
  have r4 : ∀ (v : FVec F s8x128 .f32) (V : Fin 8 → M), (∀ s, φ (v (ix2 s r)) = V s) →
      ∀ s, φ (f v (dynamicRotate 0 4#32 none v rotates_fold) (ix2 s r)) = V s + V ⟨(s.val + 8 - 4) % 8, by omega⟩ :=
    fun v V h s => (hf _ _ _).trans (congrArg₂ _ (h s) ((congrArg φ (rot4_apply v s r)).trans (h _)))
  have r2 : ∀ (v : FVec F s8x128 .f32) (V : Fin 8 → M), (∀ s, φ (v (ix2 s r)) = V s) →
      ∀ s, φ (f v (dynamicRotate 0 2#32 none v rotates_fold) (ix2 s r)) = V s + V ⟨(s.val + 8 - 2) % 8, by omega⟩ :=
    fun v V h s => (hf _ _ _).trans (congrArg₂ _ (h s) ((congrArg φ (rot2_apply v s r)).trans (h _)))
  have r1 : ∀ (v : FVec F s8x128 .f32) (V : Fin 8 → M), (∀ s, φ (v (ix2 s r)) = V s) →
      ∀ s, φ (f v (dynamicRotate 0 1#32 none v rotates_fold) (ix2 s r)) = V s + V ⟨(s.val + 8 - 1) % 8, by omega⟩ :=
    fun v V h s => (hf _ _ _).trans (congrArg₂ _ (h s) ((congrArg φ (rot1_apply v s r)).trans (h _)))
  refine (r1 _ _ (r2 _ _ (r4 _ W fun s => ?_)) s).trans ?_
  · rw [← h16 s]
    simp only [← rows8_apply m _ s r]
    rw [hf, hf, hf, hf, hf, hf, hf, hf, hf, hf, hf, hf, hf, hf, hf]
  rw [Fin.sum_univ_eight]
  obtain ⟨s, hs⟩ := s
  interval_cases s <;> simp only [Nat.reduceAdd, Nat.reduceSub, Nat.reduceMod, Fin.reduceFinMk, Fin.zero_eta, Fin.mk_one, Fin.isValue] <;> abel

theorem accO_apply (a : FVec Ideal s1x256x1152 .fp8e4m3) (b : FVec Ideal s1152x256 .fp8e4m3) (r j : Fin 256) :
    accO a b (ix2 r j) = ∑ k : Fin 1152, a (ix3 (0 : Fin 1) r k) * b (ix2 k j) := by
  unfold accO dotO
  pointwise
theorem acc1_apply (a : FVec Ideal s256x1024 .fp8e4m3) (b : FVec Ideal s1024x256 .fp8e4m3) (r j : Fin 256) :
    acc1 a b (ix2 r j) = ∑ k : Fin 1024, a (ix2 r k) * b (ix2 k j) := by
  unfold acc1 dot1
  pointwise
theorem acc2_apply (a : FVec Ideal s1x256x512 .fp8e4m3) (b : FVec Ideal s512x256 .fp8e4m3) (r j : Fin 256) :
    acc2 a b (ix2 r j) = ∑ k : Fin 512, a (ix3 (0 : Fin 1) r k) * b (ix2 k j) := by
  unfold acc2 dot2
  pointwise

theorem spread256_apply {F : FTy → Type} [FloatOps F] (v : FVec F s8x256 .f32) (r : Fin 256) (l : Fin 128) :
    spread256 v (ix2 r l) = v (ix2 ⟨l.val % 8, by omega⟩ r) := by
  unfold spread256
  pointwise [spread_apply]
  split
  · rfl
  · exact congrArg v (congrArg (ix2 _) (Fin.ext (by show 128 + (r.val - 128) = r.val; omega)))

theorem affine_apply (t sc : FVec Ideal s256x128 .f32) (w b : FVec Ideal s1x128 .f32) (r : Fin 256) (l : Fin 128) :
    affine t sc w b (ix2 r l) = t (ix2 r l) * sc (ix2 r l) * w (ix2 (0 : Fin 1) l) + b (ix2 (0 : Fin 1) l) := by
  unfold affine
  pointwise

theorem tile_apply {F : FTy → Type} [FloatOps F] (acc : FVec F s256x256 .f32) (c : Fin 2) (r : Fin 256) (l : Fin 128) :
    tile acc c (ix2 r l) = acc (ix2 r ⟨128 * c.val + l.val, by omega⟩) := by
  unfold tile
  pointwise

theorem xTile_apply (v : FVec Ideal s1x256x128 .bf16) (r : Fin 256) (l : Fin 128) : xTile v (ix2 r l) = v (ix3 (0 : Fin 1) r l) := by
  unfold xTile
  pointwise

theorem normT_apply (d s : FVec Ideal s128x128 .f32) (g b : FVec Ideal s1x128 .f32) (r l : Fin 128) :
    normT d s g b (ix2 r l) = d (ix2 r l) * s (ix2 r l) * g (ix2 (0 : Fin 1) l) + b (ix2 (0 : Fin 1) l) := by
  unfold normT
  pointwise

theorem scaleRow_apply {F : FTy → Type} [FloatOps F] (v : FVec F s8x128 .f32) (z w : Fin 1) (l : Fin 128) :
    scaleRow v (ix3 z w l) = v (ix2 (0 : Fin 8) l) := by
  unfold scaleRow
  pointwise

/-- A sum over a row of eight tiles. -/
theorem sum_8_128 {M : Type} [AddCommMonoid M] (a : Fin 1024 → M) :
    ∑ i, a i = ∑ l : Fin 128, ∑ j : Fin 8, a ⟨128 * j.val + l.val, by omega⟩ := by
  rw [Finset.sum_comm, ← Fintype.sum_prod_type' (fun (k : Fin 8) (s : Fin 128) => a ⟨128 * k.val + s.val, by omega⟩)]
  refine (Equiv.sum_comp (finProdFinEquiv (m := 8) (n := 128)) a).symm.trans (Finset.sum_congr rfl fun x _ => congrArg a (Fin.ext ?_))
  exact Nat.add_comm _ _

end Cert.Vit
-- ==== Proof.Row.lean ====
/-
  One row of the layer over the extended reals, in the words of the mathematics, and the kernel's
  front read as that: the residual stream, its normalisation, the scale and the codes of each row.
-/
module

public import proofs.«01_k».proof.Proof.Read

@[expose] public section

noncomputable section

namespace Cert.Vit

open Idealize.ShloMosaic Idealize.SL.Sem

/-! ## One row -/

/-- A product scaled by the row's scale and the columns' scales, plus the bias. -/
def proj {n m : Nat} (a : Fin n → EReal) (w : Fin n → Fin m → EReal) (s : EReal) (sc b : Fin m → EReal) (j : Fin m) : EReal :=
  (∑ k, a k * w k j) * s * sc j + b j

/-- The mean of 1024 numbers. -/
def mean (h : Fin 1024 → EReal) : EReal := (∑ j, h j) * Ideal.ofBits .f32 0x3A800000#32

/-- The row less its mean. -/
def cent (h : Fin 1024 → EReal) (j : Fin 1024) : EReal := h j - mean h

/-- The row normalised. -/
def norm (h g b : Fin 1024 → EReal) (j : Fin 1024) : EReal :=
  cent h j * Ideal.rsqrt (mean (fun j => cent h j * cent h j) + Ideal.ofBits .f32 0x358637BD#32) * g j + b j

/-- The largest magnitude. -/
def amax {n : Nat} (u : Fin n → EReal) : EReal := Finset.univ.sup fun j => max (u j) (-u j)

/-- The exponent of the scale a row of largest magnitude `a` takes. -/
def qexp (a : EReal) : BitVec 32 := expo (F := Ideal) (fun _ => a) (ix2 (0 : Fin 8) (0 : Fin 128))
/-- Two to the exponent. -/
def qscale (e : BitVec 32) : EReal := pow2 (F := Ideal) (fun _ => e) (ix2 (0 : Fin 8) (0 : Fin 128))
/-- Two to minus the exponent. -/
def qinv (e : BitVec 32) : EReal := pow2inv (F := Ideal) (fun _ => e) (ix2 (0 : Fin 8) (0 : Fin 128))
/-- A number clipped to ±448. -/
def qclip (v : EReal) : EReal := codes (F := Ideal) (s := s8x128) (fun _ => v) (ix2 (0 : Fin 8) (0 : Fin 128))

theorem expo_apply (a : FVec Ideal s8x128 .f32) (i : s8x128.Idx) : expo a i = qexp (a i) := by
  unfold qexp expo; rfl
theorem pow2_apply (e : IVec s8x128 32) (i : s8x128.Idx) : pow2 (F := Ideal) e i = qscale (e i) := by
  unfold qscale pow2
  pointwise
theorem pow2inv_apply (e : IVec s8x128 32) (i : s8x128.Idx) : pow2inv (F := Ideal) e i = qinv (e i) := by
  unfold qinv pow2inv
  pointwise
theorem codes_apply {s : Shape} (v : FVec Ideal s .f32) (i : s.Idx) : codes v i = qclip (v i) := by
  unfold qclip codes; rfl

/-- The scale of a row. -/
def rowScale {n : Nat} (u : Fin n → EReal) : EReal := qscale (qexp (amax u))
/-- The codes of a row. -/
def rowCode {n : Nat} (u : Fin n → EReal) (j : Fin n) : EReal := qclip (u j * qinv (qexp (amax u)))

/-! ## Largest as a sum -/

/-- The extended reals with "largest of" for addition. -/
def MaxE : Type := EReal
instance : Add MaxE := ⟨fun a b => max (α := EReal) a b⟩
instance : Zero MaxE := ⟨(⊥ : EReal)⟩
instance : AddCommMonoid MaxE where
  add_assoc := max_assoc (α := EReal)
  add_comm := max_comm (α := EReal)
  zero_add := bot_sup_eq (α := EReal)
  add_zero := sup_bot_eq (α := EReal)
  nsmul := nsmulRec

def toMax (a : EReal) : MaxE := a
theorem toMax_inj {a b : EReal} (h : toMax a = toMax b) : a = b := h

theorem sum_toMax {ι : Type} (s : Finset ι) (a : ι → EReal) : ∑ i ∈ s, toMax (a i) = toMax (s.sup a) := by
  classical
  induction s using Finset.induction_on with
  | empty => rfl
  | insert i s hi ih => rw [Finset.sum_insert hi, ih, Finset.sup_insert]; rfl

/-! ## Reading rectangles -/

theorem rd2 {A B : Nat} {α : Type} (v : (⟨2, ![A, B]⟩ : Shape).Idx → α) (i j a b : Nat) (h0 : i + a ≤ A) (h1 : j + b ≤ B) (x : Fin a) (y : Fin b) :
    rd v (r2 i j a b h0 h1) (ix2 x y) = v (ix2 ⟨i + x.val, by omega⟩ ⟨j + y.val, by omega⟩) := congrArg v (r2_emb i j a b h0 h1 x y)
theorem rd3 {A B : Nat} {α : Type} (v : (⟨3, ![1, A, B]⟩ : Shape).Idx → α) (i j a b : Nat) (h0 : i + a ≤ A) (h1 : j + b ≤ B) (z : Fin 1) (x : Fin a) (y : Fin b) :
    rd v (r3 i j a b h0 h1) (ix3 z x y) = v (ix3 (0 : Fin 1) ⟨i + x.val, by omega⟩ ⟨j + y.val, by omega⟩) := congrArg v (r3_emb i j a b h0 h1 z x y)

/-- The same from the first row on. -/
theorem rd2z {A B : Nat} {α : Type} (v : (⟨2, ![A, B]⟩ : Shape).Idx → α) (j a b : Nat) (h0 : 0 + a ≤ A) (h1 : j + b ≤ B) (x : Fin a) (y : Fin b) :
    rd v (r2 0 j a b h0 h1) (ix2 x y) = v (ix2 ⟨x.val, by omega⟩ ⟨j + y.val, by omega⟩) :=
  (rd2 v 0 j a b h0 h1 x y).trans (congrArg v (congrArg (ix2 · _) (Fin.ext (Nat.zero_add _))))
theorem rd3z {A B : Nat} {α : Type} (v : (⟨3, ![1, A, B]⟩ : Shape).Idx → α) (j a b : Nat) (h0 : 0 + a ≤ A) (h1 : j + b ≤ B) (z : Fin 1) (x : Fin a) (y : Fin b) :
    rd v (r3 0 j a b h0 h1) (ix3 z x y) = v (ix3 (0 : Fin 1) ⟨x.val, by omega⟩ ⟨j + y.val, by omega⟩) :=
  (rd3 v 0 j a b h0 h1 z x y).trans (congrArg v (congrArg (ix3 _ · _) (Fin.ext (Nat.zero_add _))))
theorem rd3zz {A B : Nat} {α : Type} (v : (⟨3, ![1, A, B]⟩ : Shape).Idx → α) (h0 : 0 + A ≤ A) (h1 : 0 + B ≤ B) (z : Fin 1) (x : Fin A) (y : Fin B) :
    rd v (r3 0 0 A B h0 h1) (ix3 z x y) = v (ix3 (0 : Fin 1) x y) :=
  (rd3z v 0 A B h0 h1 z x y).trans (congrArg v (congrArg (ix3 _ _) (Fin.ext (Nat.zero_add _))))

theorem glue2_col {A B q : Nat} (b : Nat) (hA : A = A * 1) (hB : B = b * q) {α : Type} (T : Fin 1 → Fin q → (⟨2, ![A, b]⟩ : Shape).Idx → α)
    (J : Fin q) (x : Fin A) (y : Fin b) (h1 : b * J.val + y.val < B) :
    glue2 A b hA hB T (ix2 x ⟨b * J.val + y.val, h1⟩) = T 0 J (ix2 x y) := by
  refine Eq.trans ?_ (glue2_ix A b hA hB T 0 J x y (by simp) h1)
  refine congrArg (glue2 A b hA hB T) (congrArg (ix2 · _) (Fin.ext ?_))
  simp

/-- A column of 1024, as a tile and a lane. -/
theorem split8 (j : Fin 1024) : ∃ (J : Fin 8) (l : Fin 128), j = ⟨128 * J.val + l.val, by omega⟩ :=
  ⟨⟨j.val / 128, by omega⟩, ⟨j.val % 128, by omega⟩, Fin.ext (by show j.val = 128 * (j.val / 128) + j.val % 128; omega)⟩
/-- A column of 4096, as a tile and a lane. -/
theorem split32 (j : Fin 4096) : ∃ (J : Fin 32) (l : Fin 128), j = ⟨128 * J.val + l.val, by omega⟩ :=
  ⟨⟨j.val / 128, by omega⟩, ⟨j.val % 128, by omega⟩, Fin.ext (by show j.val = 128 * (j.val / 128) + j.val % 128; omega)⟩
/-- A row of 256, as a half and a row of it. -/
theorem split2 (r : Fin 256) : ∃ (R : Fin 2) (x : Fin 128), r = ⟨128 * R.val + x.val, by omega⟩ :=
  ⟨⟨r.val / 128, by omega⟩, ⟨r.val % 128, by omega⟩, Fin.ext (by show r.val = 128 * (r.val / 128) + r.val % 128; omega)⟩

/-! ## The front -/

section front
variable (ι : St Ideal)

/-- A row vector held as a one-row matrix. -/
def row {n : Nat} (v : (⟨2, ![1, n]⟩ : Shape).Idx → EReal) (j : Fin n) : EReal := v (ix2 (0 : Fin 1) j)
/-- A matrix by its two coordinates. -/
def mat {a b : Nat} (v : (⟨2, ![a, b]⟩ : Shape).Idx → EReal) (i : Fin a) (j : Fin b) : EReal := v (ix2 i j)
/-- A block of one matrix by its two coordinates. -/
def mat3 {a b : Nat} (v : (⟨3, ![1, a, b]⟩ : Shape).Idx → EReal) (i : Fin a) (j : Fin b) : EReal := v (ix3 (0 : Fin 1) i j)

/-- The residual stream's row `r`. -/
def hRow (r : Fin 256) (j : Fin 1024) : EReal :=
  mat3 (ι .x) r j + proj (mat3 (ι .oc) r) (mat (ι .wo)) (mat3 (ι .os) 0 r) (row (ι .so)) (row (ι .bo)) j
/-- The normalised row. -/
def uRow (r : Fin 256) : Fin 1024 → EReal := norm (hRow ι r) (row (ι .g2)) (row (ι .b2))

theorem fSC_apply (r : Fin 256) (l : Fin 128) : fSC ι (ix2 r l) = mat3 (ι .os) 0 r := by
  unfold fSC scaleCol
  rw [spread256_apply]
  refine Eq.trans ?_ (rd3zz (ι .os) (by decide) (by decide) 0 0 r)
  pointwise

theorem fHT_apply (r : Fin 256) (J : Fin 8) (l : Fin 128) :
    fHT ι (half8 J) (odd8 J) J (ix2 r l) = hRow ι r ⟨128 * J.val + l.val, by omega⟩ := by
  have hc : ∀ h, (⟨256 * (half8 J).val + (128 * (odd8 J).val + l.val), h⟩ : Fin 1024) = ⟨128 * J.val + l.val, by omega⟩ :=
    fun h => Fin.ext (by show 256 * (J.val / 2) + (128 * (J.val % 2) + l.val) = 128 * J.val + l.val; omega)
  refine congrArg₂ (fun a b : EReal => a + b) ((xTile_apply _ r l).trans (rd3z (ι .x) _ 256 128 _ _ 0 r l)) ((affine_apply _ _ _ _ r l).trans ?_)
  refine congrArg₂ (fun a b : EReal => a + b) (congrArg₂ (fun a b : EReal => a * b) (congrArg₂ (fun a b : EReal => a * b) ?_ (fSC_apply ι r l))
    (rd2z (ι .so) _ 1 128 _ _ 0 l)) (rd2z (ι .bo) _ 1 128 _ _ 0 l)
  refine (tile_apply _ _ r l).trans ((accO_apply _ _ r _).trans (Finset.sum_congr rfl fun k _ => ?_))
  refine congrArg₂ (fun a b : EReal => a * b) (rd3zz (ι .oc) _ _ 0 r k) ((rd2z (ι .wo) _ 1152 256 _ _ k _).trans ?_)
  exact congrArg (ι .wo) (congrArg (ix2 k) (hc _))

theorem fH_apply (r : Fin 256) (j : Fin 1024) : fH ι (ix2 r j) = hRow ι r j := by
  obtain ⟨J, l, rfl⟩ := split8 j
  exact (glue2_col 128 _ _ _ J r l _).trans (fHT_apply ι r J l)

/-- The mean over eight tiles of a row. -/
theorem mean8_apply (v : Fin 8 → FVec Ideal s128x128 .f32) (r : Fin 128) (h : Fin 1024 → EReal)
    (hv : ∀ (j : Fin 8) (l : Fin 128), v j (ix2 r l) = h ⟨128 * j.val + l.val, by omega⟩) (s : Fin 8) : mean8 v (ix2 s r) = mean h := by
  refine congrArg (fun x : EReal => x * Ideal.ofBits .f32 0x3A800000#32) ?_
  refine (foldRows_apply (F := Ideal) (M := EReal) (fun x => x) addf (fun _ _ _ => rfl) _ s r).trans ?_
  rw [sum_8_128]
  refine Finset.sum_congr rfl fun l _ => ?_
  simp only [← hv]
  rw [Fin.sum_univ_eight]
  rfl

/-- The largest magnitude over eight tiles of a row. -/
theorem max8_apply (v : Fin 8 → FVec Ideal s128x128 .f32) (r : Fin 128) (u : Fin 1024 → EReal)
    (hv : ∀ (j : Fin 8) (l : Fin 128), v j (ix2 r l) = u ⟨128 * j.val + l.val, by omega⟩) (s : Fin 8) :
    foldRows maximumf (max8 fun j => absf (v j)) (ix2 s r) = amax u := by
  refine toMax_inj ((foldRows_apply (F := Ideal) (M := MaxE) toMax maximumf (fun _ _ _ => rfl) _ s r).trans ?_)
  refine Eq.trans ?_ (sum_toMax Finset.univ _)
  rw [sum_8_128]
  refine Finset.sum_congr rfl fun l _ => ?_
  simp only [← hv]
  rw [Fin.sum_univ_eight]
  rfl

theorem fHB_apply (R : Fin 2) (J : Fin 8) (r l : Fin 128) :
    fHB ι R J (ix2 r l) = hRow ι ⟨128 * R.val + r.val, by omega⟩ ⟨128 * J.val + l.val, by omega⟩ :=
  (rd2 (fH ι) _ _ _ _ _ _ r l).trans (fH_apply ι _ _)

theorem fD_apply (R : Fin 2) (J : Fin 8) (r l : Fin 128) :
    fD ι R J (ix2 r l) = cent (hRow ι ⟨128 * R.val + r.val, by omega⟩) ⟨128 * J.val + l.val, by omega⟩ := by
  refine congrArg₂ (fun a b : EReal => a - b) (fHB_apply ι R J r l) ((spread_apply _ r l).trans ?_)
  exact mean8_apply _ r _ (fun j l => fHB_apply ι R j r l) _

theorem rstd_apply (R : Fin 2) (r l : Fin 128) :
    rstd (fD ι R) (ix2 r l) = Ideal.rsqrt (mean (fun j => cent (hRow ι ⟨128 * R.val + r.val, by omega⟩) j * cent (hRow ι ⟨128 * R.val + r.val, by omega⟩) j)
      + Ideal.ofBits .f32 0x358637BD#32) := by
  refine (spread_apply _ r l).trans (congrArg Ideal.rsqrt (congrArg (fun a : EReal => a + Ideal.ofBits .f32 0x358637BD#32) ?_))
  exact mean8_apply _ r _ (fun j l => congrArg₂ (fun a b : EReal => a * b) (fD_apply ι R j r l) (fD_apply ι R j r l)) _

theorem fU_apply (R : Fin 2) (J : Fin 8) (r l : Fin 128) :
    fU ι R J (ix2 r l) = uRow ι ⟨128 * R.val + r.val, by omega⟩ ⟨128 * J.val + l.val, by omega⟩ := by
  unfold fU
  rw [normT_apply, fD_apply, rstd_apply, rd2, rd2]
  rfl

theorem fE_apply (R : Fin 2) (s : Fin 8) (r : Fin 128) : fE ι R (ix2 s r) = qexp (amax (uRow ι ⟨128 * R.val + r.val, by omega⟩)) :=
  (expo_apply _ _).trans (congrArg qexp (max8_apply _ r _ (fun j l => fU_apply ι R j r l) s))

theorem fCode_apply (R : Fin 2) (J : Fin 8) (r l : Fin 128) :
    fCode ι R J (ix2 r l) = rowCode (uRow ι ⟨128 * R.val + r.val, by omega⟩) ⟨128 * J.val + l.val, by omega⟩ := by
  refine (codes_apply _ _).trans (congrArg qclip (congrArg₂ (fun a b : EReal => a * b) (fU_apply ι R J r l) ((spread_apply _ r l).trans ?_)))
  exact (pow2inv_apply _ _).trans (congrArg qinv (fE_apply ι R _ r))

/-- The codes. -/
theorem fA2C_apply (z : Fin 1) (r : Fin 256) (j : Fin 1024) : fA2C ι (ix3 z r j) = rowCode (uRow ι r) j := by
  obtain ⟨J, l, rfl⟩ := split8 j
  obtain ⟨R, x, rfl⟩ := split2 r
  refine (glue3_ix 128 128 _ _ _ R J z x l _ _).trans ?_
  refine Eq.trans ?_ (fCode_apply ι R J x l)
  pointwise

theorem fA2M_apply (r : Fin 256) (j : Fin 1024) : fA2M ι (ix2 r j) = rowCode (uRow ι r) j := by
  obtain ⟨J, l, rfl⟩ := split8 j
  obtain ⟨R, x, rfl⟩ := split2 r
  exact (glue2_ix 128 128 _ _ _ R J x l _ _).trans (fCode_apply ι R J x l)

/-- The scales. -/
theorem fA2S_apply (z w : Fin 1) (r : Fin 256) : fA2S ι (ix3 z w r) = rowScale (uRow ι r) := by
  obtain ⟨R, x, rfl⟩ := split2 r
  refine Eq.trans (congrArg (fA2S ι) (congrArg (ix3 z · _) (Fin.ext ?_))) ((glue3_ix 1 128 (A := 1) (B := 256) rfl rfl _ 0 R z w x (by simp) _).trans ?_)
  · show w.val = 1 * 0 + w.val; omega
  refine (scaleRow_apply _ _ _ x).trans ?_
  exact (pow2_apply _ _).trans (congrArg qscale (fE_apply ι R _ x))

theorem fSCOL_apply (r : Fin 256) (l : Fin 128) : fSCOL ι (ix2 r l) = rowScale (uRow ι r) := by
  obtain ⟨R, x, rfl⟩ := split2 r
  refine Eq.trans (congrArg (fSCOL ι) (congrArg (ix2 _) (Fin.ext ?_))) ((glue2_ix 128 128 (A := 256) (B := 128) rfl rfl _ R 0 x l _ (by simp)).trans ?_)
  · show l.val = 128 * 0 + l.val; omega
  exact (spread_apply _ x l).trans ((pow2_apply _ _).trans (congrArg qscale (fE_apply ι R _ x)))

end front

end Cert.Vit
-- ==== Proof.RowBack.lean ====
/-
  The kernel's back read row by row: the activation's scale and codes and the layer's result. The
  kernel keeps `u (1 + erf u)` for `u = t/√2` where the mathematics has `t (1 + erf u) / 2`, and puts
  the factor `1/√2` between them into the scale and the codes.
-/
module

public import proofs.«01_k».proof.Proof.Row
public import proofs.«01_k».proof.Proof.Steps

@[expose] public section

noncomputable section

namespace Cert.Vit

open Idealize.ShloMosaic Idealize.SL.Sem

/-- The constant `1/√2`. -/
def cst : EReal := (((Real.sqrt 2)⁻¹ : ℝ) : EReal)

theorem cst_pos : 0 < cst := by
  unfold cst
  exact_mod_cast inv_pos.mpr (Real.sqrt_pos.mpr two_pos)
theorem cst_ne_top : cst ≠ ⊤ := EReal.coe_ne_top _

/-- One half. -/
def half : EReal := Ideal.ofBits .f32 0x3F000000#32

theorem cst_sq : cst * cst = half := by
  have h : half = (((1 : ℝ) / 2 : ℝ) : EReal) := by
    unfold half
    simp [Ideal.ofBits, Ideal.ieee, -EReal.coe_mul]; norm_num
  rw [h]; unfold cst
  rw [← EReal.coe_mul, ← mul_inv, Real.mul_self_sqrt (by norm_num)]
  norm_num

/-- A positive number scales a largest magnitude. -/
theorem amax_mul {n : Nat} (v : Fin n → EReal) : amax v * cst = amax fun j => v j * cst := by
  have hm : Monotone fun x : EReal => x * cst := fun a b h => mul_le_mul_of_nonneg_right h cst_pos.le
  unfold amax
  refine (Finset.comp_sup_eq_sup_comp_of_is_total (fun x : EReal => x * cst) hm (EReal.bot_mul_of_pos cst_pos)).trans ?_
  refine Finset.sup_congr rfl fun j _ => ?_
  refine (hm.map_max (a := v j) (b := -v j)).trans ?_
  rw [EReal.neg_mul]

/-! ## One row -/

/-- `u (1 + erf u)`. -/
def geluU (u : EReal) : EReal := u * (Ideal.ofBits .f32 0x3F800000#32 + Ideal.erf u)
/-- `t (1 + erf (t/√2)) / 2`. -/
def geluT (t : EReal) : EReal := half * t * (Ideal.ofBits .f32 0x3F800000#32 + Ideal.erf (t * cst))

theorem geluU_mul (t : EReal) : geluU (t * cst) * cst = geluT t := by
  unfold geluU geluT
  rw [← cst_sq]
  ac_rfl

theorem rowScale_gelu {n : Nat} (t : Fin n → EReal) :
    qscale (qexp (amax (fun j => geluU (t j * cst)) * cst)) = rowScale fun j => geluT (t j) := by
  unfold rowScale; rw [amax_mul]; simp only [geluU_mul]

theorem rowCode_gelu {n : Nat} (t : Fin n → EReal) (j : Fin n) :
    qclip (geluU (t j * cst) * (qinv (qexp (amax (fun j => geluU (t j * cst)) * cst)) * cst)) = rowCode (fun j => geluT (t j)) j := by
  unfold rowCode; rw [amax_mul]; simp only [geluU_mul]
  rw [mul_comm (qinv _) cst, ← mul_assoc, geluU_mul]

section back
variable (ι : St Ideal) (off : Fin 2 → Nat) (hoff : ∀ a, off a + s1x256.size a ≤ s6x256.size a)

/-- The first MLP product, scaled. -/
def tRow (r : Fin 256) : Fin 4096 → EReal :=
  proj (rowCode (uRow ι r)) (mat (ι .w1)) (rowScale (uRow ι r)) (row (ι .s1)) (row (ι .c1))
/-- The activation. -/
def gRow (r : Fin 256) (j : Fin 4096) : EReal := geluT (tRow ι r j)
/-- What the kernel keeps for it. -/
def vRow (r : Fin 256) (j : Fin 4096) : EReal := geluU (tRow ι r j * cst)
/-- The layer's result before the mask. -/
def oRow (r : Fin 256) (j : Fin 1024) : EReal :=
  hRow ι r j + proj (rowCode (gRow ι r)) (mat (ι .w2)) (rowScale (gRow ι r)) (row (ι .s2)) (row (ι .c2)) j

theorem proj_cst {n m : Nat} (a : Fin n → EReal) (w : Fin n → Fin m → EReal) (s : EReal) (sc b : Fin m → EReal) (j : Fin m) :
    (∑ k, a k * w k j) * s * (sc j * cst) + b j * cst = proj a w s sc b j * cst := by
  unfold proj
  rw [EReal.right_distrib_of_nonneg_of_ne_top cst_pos.le cst_ne_top, ← mul_assoc]

theorem gelu_apply (u : FVec Ideal s256x128 .f32) (i : s256x128.Idx) : gelu u i = geluU (u i) := by
  unfold gelu geluU; rfl

theorem bGT_apply (r : Fin 256) (J : Fin 32) (l : Fin 128) :
    bGT (mkBack ι off hoff) cst J (ix2 r l) = vRow ι r ⟨128 * J.val + l.val, by omega⟩ := by
  have hc : ∀ h, (⟨256 * (half32 J).val + (128 * (odd32 J).val + l.val), h⟩ : Fin 4096) = ⟨128 * J.val + l.val, by omega⟩ :=
    fun h => Fin.ext (by show 256 * (J.val / 2) + (128 * (J.val % 2) + l.val) = 128 * J.val + l.val; omega)
  unfold bGT bG
  refine (gelu_apply _ _).trans (congrArg geluU ((affine_apply _ _ _ _ r l).trans (Eq.trans ?_ (proj_cst _ _ _ _ _ _))))
  refine congrArg₂ (fun a b : EReal => a + b) (congrArg₂ (fun a b : EReal => a * b) (congrArg₂ (fun a b : EReal => a * b) ?_ (fSCOL_apply ι r l))
    (congrArg (fun a : EReal => a * cst) (rd2z (ι .s1) _ 1 128 _ _ 0 l))) (congrArg (fun a : EReal => a * cst) (rd2z (ι .c1) _ 1 128 _ _ 0 l))
  refine (tile_apply _ _ r l).trans ((acc1_apply _ _ r _).trans (Finset.sum_congr rfl fun k _ => ?_))
  refine congrArg₂ (fun a b : EReal => a * b) (fA2M_apply ι r k) ((rd2z (ι .w1) _ 1024 256 _ _ k _).trans ?_)
  exact congrArg (ι .w1) (congrArg (ix2 k) (hc _))

theorem sum_32 {M : Type} [AddCommMonoid M] (a : Fin 32 → M) : ∑ J, a J = ∑ n : Fin 16, (a (sub32 n 0) + a (sub32 n 1)) := by
  refine (Equiv.sum_comp (finProdFinEquiv (m := 16) (n := 2)) a).symm.trans ?_
  rw [Fintype.sum_prod_type]
  refine Finset.sum_congr rfl fun n _ => ?_
  rw [Fin.sum_univ_two]
  exact congrArg₂ _ (congrArg a (Fin.ext (by show 0 + 2 * n.val = 2 * n.val + 0; omega))) (congrArg a (Fin.ext (by show 1 + 2 * n.val = 2 * n.val + 1; omega)))

theorem sum_32_128 {M : Type} [AddCommMonoid M] (a : Fin 4096 → M) :
    ∑ i, a i = ∑ l : Fin 128, ∑ j : Fin 32, a ⟨128 * j.val + l.val, by omega⟩ := by
  rw [Finset.sum_comm, ← Fintype.sum_prod_type' (fun (k : Fin 32) (s : Fin 128) => a ⟨128 * k.val + s.val, by omega⟩)]
  refine (Equiv.sum_comp (finProdFinEquiv (m := 32) (n := 128)) a).symm.trans (Finset.sum_congr rfl fun x _ => congrArg a (Fin.ext ?_))
  exact Nat.add_comm _ _

theorem sum_8_512 {M : Type} [AddCommMonoid M] (a : Fin 4096 → M) :
    ∑ i, a i = ∑ k : Fin 8, ∑ l : Fin 512, a ⟨512 * k.val + l.val, by omega⟩ := by
  rw [← Fintype.sum_prod_type' (fun (k : Fin 8) (s : Fin 512) => a ⟨512 * k.val + s.val, by omega⟩)]
  refine (Equiv.sum_comp (finProdFinEquiv (m := 8) (n := 512)) a).symm.trans (Finset.sum_congr rfl fun x _ => congrArg a (Fin.ext ?_))
  exact Nat.add_comm _ _

/-- A magnitude. -/
def mag (a : EReal) : EReal := max a (-a)

theorem bMag_apply (n : Fin 16) (r : Fin 256) (l : Fin 128) :
    toMax (bMag (mkBack ι off hoff) cst n (ix2 r l)) = toMax (mag (vRow ι r ⟨128 * (sub32 n 0).val + l.val, by omega⟩))
      + toMax (mag (vRow ι r ⟨128 * (sub32 n 1).val + l.val, by omega⟩)) := by
  have h0 : bG (mkBack ι off hoff) cst n 0 (sub32 n 0) = bGT (mkBack ι off hoff) cst (sub32 n 0) := by
    unfold bGT
    rw [show half32 (sub32 n 0) = n from Fin.ext (by show (2 * n.val + 0) / 2 = n.val; omega),
      show odd32 (sub32 n 0) = 0 from Fin.ext (by show (2 * n.val + 0) % 2 = 0; omega)]
  have h1 : bG (mkBack ι off hoff) cst n 1 (sub32 n 1) = bGT (mkBack ι off hoff) cst (sub32 n 1) := by
    unfold bGT
    rw [show half32 (sub32 n 1) = n from Fin.ext (by show (2 * n.val + 1) / 2 = n.val; omega),
      show odd32 (sub32 n 1) = 1 from Fin.ext (by show (2 * n.val + 1) % 2 = 1; omega)]
  unfold bMag
  rw [h0, h1, ← bGT_apply ι off hoff, ← bGT_apply ι off hoff]
  rfl

theorem bMX_apply (k : Nat) (r : Fin 256) (l : Fin 128) :
    toMax (bMX (mkBack ι off hoff) cst k (ix2 r l)) = ∑ n : Fin (k + 1), toMax (bMag (mkBack ι off hoff) cst (Fin.ofNat 16 n.val) (ix2 r l)) := by
  induction k with
  | zero => rw [Fin.sum_univ_one]; rfl
  | succ k ih => rw [Fin.sum_univ_castSucc]; exact congrArg (· + toMax (bMag (mkBack ι off hoff) cst (Fin.ofNat 16 (k + 1)) (ix2 r l))) ih

theorem bE_apply (R : Fin 2) (s : Fin 8) (r : Fin 128) :
    bE (mkBack ι off hoff) cst R (ix2 s r) = qexp (amax (vRow ι ⟨128 * R.val + r.val, by omega⟩) * cst) := by
  refine (expo_apply _ _).trans (congrArg qexp (congrArg (fun a : EReal => a * cst) ?_))
  refine toMax_inj ((foldRows_apply (F := Ideal) (M := MaxE) toMax maximumf (fun _ _ _ => rfl) _ s r).trans ?_)
  refine Eq.trans ?_ (sum_toMax Finset.univ _)
  rw [sum_32_128]
  refine Finset.sum_congr rfl fun l _ => ?_
  rw [rd2, sum_32]
  refine (congrArg (fun x => toMax (bMX (mkBack ι off hoff) cst 15 (ix2 _ x))) (Fin.ext (Nat.zero_add l.val) : _ = l)).trans ((bMX_apply ι off hoff 15 _ l).trans ?_)
  refine Finset.sum_congr rfl fun n _ => ?_
  rw [show Fin.ofNat 16 n.val = n from Fin.ext (Nat.mod_eq_of_lt n.isLt)]
  exact bMag_apply ι off hoff n _ l

/-- The activation's scales. -/
theorem bGS_apply (z w : Fin 1) (r : Fin 256) : bGS (mkBack ι off hoff) cst (ix3 z w r) = rowScale (gRow ι r) := by
  obtain ⟨R, x, rfl⟩ := split2 r
  refine Eq.trans (congrArg (bGS (mkBack ι off hoff) cst) (congrArg (ix3 z · _) (Fin.ext ?_))) ((glue3_ix 1 128 (A := 1) (B := 256) rfl rfl _ 0 R z w x (by simp) _).trans ?_)
  · show w.val = 1 * 0 + w.val; omega
  refine (scaleRow_apply _ _ _ x).trans ((pow2_apply _ _).trans ?_)
  exact (congrArg qscale (bE_apply ι off hoff R _ x)).trans (rowScale_gelu _)

theorem bSC_apply (r : Fin 256) (l : Fin 128) : bSC (mkBack ι off hoff) cst (ix2 r l) = rowScale (gRow ι r) := by
  obtain ⟨R, x, rfl⟩ := split2 r
  refine Eq.trans (congrArg (bSC (mkBack ι off hoff) cst) (congrArg (ix2 _) (Fin.ext ?_))) ((glue2_ix 128 128 (A := 256) (B := 128) rfl rfl _ R 0 x l _ (by simp)).trans ?_)
  · show l.val = 128 * 0 + l.val; omega
  refine (spread_apply _ x l).trans ((pow2_apply _ _).trans ?_)
  exact (congrArg qscale (bE_apply ι off hoff R _ x)).trans (rowScale_gelu _)

theorem bINV_apply (r : Fin 256) (l : Fin 128) : bINV (mkBack ι off hoff) cst (ix2 r l) = qinv (qexp (amax (vRow ι r) * cst)) * cst := by
  obtain ⟨R, x, rfl⟩ := split2 r
  refine Eq.trans (congrArg (bINV (mkBack ι off hoff) cst) (congrArg (ix2 _) (Fin.ext ?_))) ((glue2_ix 128 128 (A := 256) (B := 128) rfl rfl _ R 0 x l _ (by simp)).trans ?_)
  · show l.val = 128 * 0 + l.val; omega
  refine congrArg (fun a : EReal => a * cst) ((spread_apply _ x l).trans ((pow2inv_apply _ _).trans ?_))
  exact congrArg qinv (bE_apply ι off hoff R _ x)

/-- The activation's codes. -/
theorem bGC_apply (z : Fin 1) (r : Fin 256) (j : Fin 4096) : bGC (mkBack ι off hoff) cst (ix3 z r j) = rowCode (gRow ι r) j := by
  obtain ⟨J, l, rfl⟩ := split32 j
  refine Eq.trans (congrArg (bGC (mkBack ι off hoff) cst) (congrArg (ix3 z · _) (Fin.ext ?_))) ((glue3_ix 256 128 (A := 256) (B := 4096) rfl rfl _ 0 J z r l (by simp) _).trans ?_)
  · show r.val = 256 * 0 + r.val; omega
  refine Eq.trans (b := codes (mulf (bGT (mkBack ι off hoff) cst J) (bINV (mkBack ι off hoff) cst)) (ix2 r l)) (by pointwise) ?_
  refine (codes_apply _ _).trans (Eq.trans (congrArg qclip ?_) (rowCode_gelu (tRow ι r) _))
  exact congrArg₂ (fun a b : EReal => a * b) (bGT_apply ι off hoff r J l) (bINV_apply ι off hoff r l)

theorem bDot_apply (k : Fin 8) (n : Fin 4) (r j : Fin 256) :
    bDot (mkBack ι off hoff) cst k n (ix2 r j) = ∑ i : Fin 512, rowCode (gRow ι r) ⟨512 * k.val + i.val, by omega⟩ * mat (ι .w2) ⟨512 * k.val + i.val, by omega⟩ ⟨256 * n.val + j.val, by omega⟩ := by
  refine (acc2_apply _ _ r j).trans (Finset.sum_congr rfl fun i _ => ?_)
  exact congrArg₂ (fun a b : EReal => a * b) ((rd3z (bGC (mkBack ι off hoff) cst) _ 256 512 _ _ 0 r i).trans (bGC_apply ι off hoff _ _ _)) (rd2 (ι .w2) _ _ 512 256 _ _ i j)

theorem bACC_apply (n : Fin 4) (k : Nat) (r j : Fin 256) :
    bACC (mkBack ι off hoff) cst n k (ix2 r j) = ∑ i : Fin (k + 1), bDot (mkBack ι off hoff) cst (Fin.ofNat 8 i.val) n (ix2 r j) := by
  induction k with
  | zero => rw [Fin.sum_univ_one]; rfl
  | succ k ih => rw [Fin.sum_univ_castSucc]; exact congrArg (fun a : EReal => a + bDot (mkBack ι off hoff) cst (Fin.ofNat 8 (k + 1)) n (ix2 r j)) ih

theorem bACC7_apply (n : Fin 4) (r j : Fin 256) :
    bACC (mkBack ι off hoff) cst n 7 (ix2 r j) = ∑ i : Fin 4096, rowCode (gRow ι r) i * mat (ι .w2) i ⟨256 * n.val + j.val, by omega⟩ := by
  rw [sum_8_512, bACC_apply]
  refine Finset.sum_congr rfl fun k _ => ?_
  rw [show Fin.ofNat 8 k.val = k from Fin.ext (Nat.mod_eq_of_lt k.isLt)]
  exact bDot_apply ι off hoff k n r j

/-- What a row's segment id makes of a result. -/
def pad (seg : BitVec 32) (o : EReal) : EReal := if seg = 3#32 then 0 else o

theorem keep_word (v : BitVec 32) (a : EReal) :
    (if Ideal.cmp .one ((v.toInt : ℝ) : EReal) (Ideal.ofBits .f32 0x40400000#32) = 1#1 then a
      else 0) = pad v a := by
  have h3 : Ideal.ofBits .f32 0x40400000#32 = ((3 : ℝ) : EReal) := by
    simp [Ideal.ofBits, Ideal.ieee, -EReal.coe_mul]; norm_num
  rw [h3]
  unfold pad Ideal.cmp
  by_cases e : v = 3#32
  · subst e
    simp [show (3#32 : BitVec 32).toInt = 3 by decide]
  · have : ((v.toInt : ℝ) : EReal) ≠ ((3 : ℝ) : EReal) := fun h => e (BitVec.eq_of_toInt_eq (by
      have h' : (v.toInt : ℝ) = 3 := EReal.coe_eq_coe_iff.mp h
      have : v.toInt = 3 := by exact_mod_cast h'
      rw [this]; decide))
    simp [e, this]

theorem segCol_apply (v : IVec s1x256 32) (r : Fin 256) (l : Fin 128) :
    segCol (F := Ideal) v (ix2 r l) = (((v (ix2 (0 : Fin 1) r)).toInt : ℝ) : EReal) := by
  unfold segCol
  refine (spread256_apply _ r l).trans ?_
  pointwise
  rfl

theorem fSEG_apply (b : Fin 6) (h) (r : Fin 256) (l : Fin 128) :
    fSEG ι ![b.val, 0] h (ix2 r l) = (((ι .seg (ix2 b r)).toInt : ℝ) : EReal) := by
  refine (segCol_apply _ r l).trans (congrArg (fun v : BitVec 32 => ((v.toInt : ℝ) : EReal)) ?_)
  refine congrArg (ι .seg) (funext fun a => ?_)
  fin_cases a
  · exact Fin.ext (by show b.val + 1 * 0 = b.val; omega)
  · exact Fin.ext (by show 0 + 1 * r.val = r.val; omega)

theorem outTile_apply (k : IVec s256x128 1) (h o : FVec Ideal s256x128 .f32) (r : Fin 256) (l : Fin 128) :
    outTile k h o (ix3 (0 : Fin 1) r l) = if k (ix2 r l) = 1#1 then (h (ix2 r l) : EReal) + o (ix2 r l) else 0 := by
  unfold outTile; pointwise; rfl

/-- The layer's result. -/
theorem bY_apply (b : Fin 6) (hoff : ∀ a, (![b.val, 0] : Fin 2 → Nat) a + s1x256.size a ≤ s6x256.size a) (z : Fin 1) (r : Fin 256) (j : Fin 1024) :
    bY (mkBack ι ![b.val, 0] hoff) cst (ix3 z r j) = pad (ι .seg (ix2 b r)) (oRow ι r j) := by
  obtain ⟨J, l, rfl⟩ := split8 j
  refine Eq.trans (congrArg (bY (mkBack ι ![b.val, 0] hoff) cst) (congrArg (ix3 z · _) (Fin.ext ?_))) ((glue3_ix 256 128 (A := 256) (B := 1024) rfl rfl _ 0 J z r l (by simp) _).trans ?_)
  · show r.val = 256 * 0 + r.val; omega
  have hc : ∀ h, (⟨256 * (half8 J).val + (128 * (odd8 J).val + l.val), h⟩ : Fin 1024) = ⟨128 * J.val + l.val, by omega⟩ :=
    fun h => Fin.ext (by show 256 * (J.val / 2) + (128 * (J.val % 2) + l.val) = 128 * J.val + l.val; omega)
  refine (outTile_apply _ _ _ r l).trans (Eq.trans ?_ (keep_word _ _))
  have hk : keep (F := Ideal) ((mkBack ι ![b.val, 0] hoff) .segcolm : FVec Ideal s256x128 .f32) (ix2 r l)
      = Ideal.cmp .one (((ι .seg (ix2 b r)).toInt : ℝ) : EReal) (Ideal.ofBits .f32 0x40400000#32) :=
    congrArg (fun x => Ideal.cmp .one x (Ideal.ofBits .f32 0x40400000#32)) (fSEG_apply ι b hoff r l)
  rw [hk]
  refine if_congr Iff.rfl ?_ rfl
  unfold oRow
  refine congrArg₂ (fun a b : EReal => a + b) ((rd2z (fH ι) _ 256 128 _ _ r l).trans (fH_apply ι r _)) ((affine_apply _ _ _ _ r l).trans ?_)
  refine congrArg₂ (fun a b : EReal => a + b) (congrArg₂ (fun a b : EReal => a * b) (congrArg₂ (fun a b : EReal => a * b) ?_ (bSC_apply ι ![b.val, 0] hoff r l))
    (rd2z (ι .s2) _ 1 128 _ _ 0 l)) (rd2z (ι .c2) _ 1 128 _ _ 0 l)
  refine (tile_apply _ _ r l).trans ((bACC7_apply ι ![b.val, 0] hoff _ r _).trans (Finset.sum_congr rfl fun k _ => ?_))
  exact congrArg (fun x => rowCode (gRow ι r) k * mat (ι .w2) k x) (hc _)

end back

end Cert.Vit
-- ==== Proof.RefRow.lean ====
/-
  The reference read row by row: its five results at row `r` of batch `b` are the row mathematics of
  that row's inputs.
-/
module

public import proofs.«01_k».proof.Proof.RowBack
public import proofs.«01_k».proof.Proof.Gen.ReferenceIdeal.Frame

@[expose] public section

noncomputable section

namespace Cert.Vit

open Idealize.ShloMosaic Idealize.SL.Sem
open Cert.ReferenceIdeal Cert.ReferenceIdeal.Gen

/-! ## Scalar facts -/

theorem div_1024 (s : EReal) : Ideal.div s (Ideal.ofBits .f32 0x44800000#32) = s * Ideal.ofBits .f32 0x3A800000#32 := by
  have h : Ideal.ofBits .f32 0x44800000#32 = ((1024 : ℝ) : EReal) := by
    simp [Ideal.ofBits, Ideal.ieee, -EReal.coe_mul]; norm_num
  have h' : Ideal.ofBits .f32 0x3A800000#32 = ((1 / 1024 : ℝ) : EReal) := by
    simp [Ideal.ofBits, Ideal.ieee, -EReal.coe_mul]; norm_num
  rw [h, h', Ideal.div_coe (by norm_num)]

/-- The largest magnitude as a fold from −∞. -/
theorem fold_amax {n : Nat} (u : Fin n → EReal) :
    Finset.fold max (Ideal.ofBits .f32 0xFF800000#32) (fun x => max (u x) (-u x)) Finset.univ = amax u := by
  have h : Ideal.ofBits .f32 0xFF800000#32 = ⊥ := by simp [Ideal.ofBits, Ideal.ieee]
  rw [h]; rfl

/-- The exponent, its zero test on the magnitude itself. -/
theorem qexp_eq (a : EReal) : qexp a = if a = 0 then 0#32 else
    IntOp.addi (FloatOps.fptosi (F := Ideal) (φ := .f32) 32 (Ideal.liftRound Int.floor
      (Ideal.log (a * Ideal.ofBits .f32 0x3B124925#32) * Ideal.ofBits .f32 0x3FB8AA3B#32))) 1#32 := by
  have h : Ideal.ofBits .f32 0x3B124925#32 ≠ 0 := by
    simp [Ideal.ofBits, Ideal.ieee, -EReal.coe_mul]
  have e : a * Ideal.ofBits .f32 0x3B124925#32 = 0 ↔ a = 0 := by simp [h]
  rw [← if_congr e rfl rfl]
  unfold qexp expo
  pointwise

theorem qscale_eq (e : BitVec 32) : qscale e = Ideal.ofBits .f32 (IntOp.shli ArithUnit.vector (IntOp.addi e 127#32) 23#32) := by
  unfold qscale pow2; pointwise
theorem qinv_eq (e : BitVec 32) : qinv e = Ideal.ofBits .f32 (IntOp.shli ArithUnit.vector (IntOp.subi (127#32) e) 23#32) := by
  unfold qinv pow2inv; pointwise
theorem qclip_eq (v : EReal) : qclip v = min (Ideal.ofBits .f32 0x43E00000#32) (max (Ideal.ofBits .f32 0xC3E00000#32) v) := by
  unfold qclip codes; pointwise

/-! ## The inputs of a batch -/

theorem row_1024 : (⟨1, ![1024]⟩ : Shape).ShapeCasts s1x1024 := by decide
theorem row_4096 : (⟨1, ![4096]⟩ : Shape).ShapeCasts s1x4096 := by decide

/-- The inputs of batch `b`. -/
def rin (x0 : Vec Ideal S6x256x1024 .bf16) (x1 : Vec Ideal S6x256 .i32) (x2 : Vec Ideal S6x256x1152 .fp8e4m3) (x3 : Vec Ideal S6x1x256 .f32)
    (x4 : Vec Ideal S1152x1024 .fp8e4m3) (x5 x6 x7 x8 : Vec Ideal S1024 .f32) (x9 : Vec Ideal S1024x4096 .fp8e4m3) (x10 x11 : Vec Ideal S4096 .f32)
    (x12 : Vec Ideal S4096x1024 .fp8e4m3) (x13 x14 : Vec Ideal S1024 .f32) (b : Fin 6) : St Ideal :=
  mkIn (F := Ideal) (fun i => x0 (ix3 b (i 1) (i 2))) x1 (fun i => x2 (ix3 b (i 1) (i 2))) (fun i => x3 (ix3 b (i 1) (i 2)))
    (shapeCast s1x1024 x5 row_1024) (shapeCast s1x1024 x6 row_1024) (shapeCast s1x1024 x7 row_1024) (shapeCast s1x1024 x8 row_1024)
    (shapeCast s1x4096 x10 row_4096) (shapeCast s1x4096 x11 row_4096) (shapeCast s1x1024 x13 row_1024) (shapeCast s1x1024 x14 row_1024) x4 x9 x12

theorem row_cast_1024 (x : Vec Ideal S1024 .f32) (j : Fin 1024) : row (shapeCast s1x1024 x row_1024) j = x (ix1 j) := by
  unfold row; pointwise
theorem row_cast_4096 (x : Vec Ideal S4096 .f32) (j : Fin 4096) : row (shapeCast s1x4096 x row_4096) j = x (ix1 j) := by
  unfold row; pointwise

/-! ## The exponent -/

/-- The largest of each row of a matrix. -/
theorem max_rows {a n : Nat} (v : FVec Ideal (⟨2, ![a, n]⟩ : Shape) .f32) (h : (⟨2, ![a, n]⟩ : Shape).Reduces [1] (⟨1, ![a]⟩ : Shape)) (hφ) (hacc) (R : Fin a) :
    multiReduction (F := Ideal) (φ := .f32) .maximumf [1] (⟨1, ![a]⟩ : Shape) v 0xFF800000#32 h hφ hacc (ix1 R)
      = Finset.fold max (Ideal.ofBits .f32 0xFF800000#32) (fun x => (v (ix2 R x) : EReal)) Finset.univ := by
  pointwise

/-- The exponents of the rows of the given largest magnitudes. -/
def expoT (v45 : FVec Ideal S1536 .f32) : IVec S1536x1 32 :=
  let v46 : FVec Ideal S1536x1 .f32 := shapeCast S1536x1 v45 shapeCasts_S1536_S1536x1
  select (cmpf .oeq v46 (broadcast S1536x1 (Scalar.ofBits .f32 0x00000000#32))) (broadcast S1536x1 0#32)
    (addi (fptosi 32 (floor (mulf (log (mulf v46 (broadcast S1536x1 (Scalar.ofBits .f32 0x3B124925#32)))) (broadcast S1536x1 (Scalar.ofBits .f32 0x3FB8AA3B#32))))) (broadcast S1536x1 1#32))

theorem expoT_apply (v : FVec Ideal S1536 .f32) (R : Fin 1536) : expoT v (ix2 R (0 : Fin 1)) = qexp (v (ix1 R)) := by
  rw [qexp_eq]
  unfold expoT
  pointwise

/-! ## The stages on one row -/

theorem pay4_apply (x8 : Vec Ideal S1024 .f32) (v : FVec Ideal S1536x1024 .f32) (g : FVec Ideal S1x1024 .f32) (R : Fin 1536) (j : Fin 1024) :
    k0_pay4 x8 v g (ix2 R j) = (v (ix2 R j) * g (ix2 (0 : Fin 1) j) + x8 (ix1 j) : EReal) := by
  unfold k0_pay4; pointwise

section first
variable (x8 : Vec Ideal S1024 .f32) (v : FVec Ideal S1536x1024 .f32) (g : FVec Ideal S1x1024 .f32) (R : Fin 1536) (u : Fin 1024 → EReal)
  (hu : ∀ j, k0_pay4 x8 v g (ix2 R j) = u j)
include hu

theorem pay5_apply : k0_pay5 x8 v g (ix2 R (0 : Fin 1)) = qexp (amax u) := by
  refine (expoT_apply (multiReduction .maximumf [1] S1536 (absf (k0_pay4 x8 v g)) 0xFF800000#32 reduces_S1536x1024_S1536 (.inl rfl) rfl) R).trans (congrArg qexp ?_)
  refine (max_rows _ _ _ _ R).trans ((congrArg (fun f => Finset.fold max (Ideal.ofBits .f32 0xFF800000#32) f Finset.univ) (funext fun j => ?_)).trans (fold_amax u))
  exact congrArg (fun x : EReal => max x (-x)) (hu j)

theorem pay6_apply : k0_pay6 x8 v g (ix2 R (0 : Fin 1)) = rowScale u := by
  unfold rowScale
  rw [qscale_eq, ← pay5_apply x8 v g R u hu]
  unfold k0_pay6
  pointwise

theorem pay7_apply (j : Fin 1024) : k0_pay7 x8 v g (ix2 R j) = rowCode u j := by
  unfold rowCode
  rw [qclip_eq, qinv_eq, ← pay5_apply x8 v g R u hu, ← hu]
  unfold k0_pay7
  pointwise

theorem pay8_apply (w : Vec Ideal S1024x4096 .fp8e4m3) (j : Fin 4096) : k0_pay8 x8 v g w (ix2 R j) = ∑ k, rowCode u k * mat w k j := by
  simp only [← pay7_apply x8 v g R u hu]
  unfold k0_pay8 mat
  pointwise

theorem pay9_apply (j : Fin 4096) : k0_pay9 x8 v g (ix2 R j) = rowScale u := by
  rw [← pay6_apply x8 v g R u hu]
  unfold k0_pay9
  pointwise

end first

theorem pay1_apply (x0 : Vec Ideal S6x256x1024 .bf16) (x2 : Vec Ideal S6x256x1152 .fp8e4m3) (x3 : Vec Ideal S6x1x256 .f32) (x4 : Vec Ideal S1152x1024 .fp8e4m3)
    (x5 x6 : Vec Ideal S1024 .f32) (b : Fin 6) (r : Fin 256) (j : Fin 1024) :
    k0_pay1 x0 x2 x3 x4 x5 x6 (ix2 ⟨256 * b.val + r.val, by omega⟩ j)
      = (x0 (ix3 b r j) + ((∑ x, x2 (ix3 b r x) * x4 (ix2 x j)) * x3 (ix3 b (0 : Fin 1) r) * x5 (ix1 j) + x6 (ix1 j)) : EReal) := by
  unfold k0_pay1
  pointwise

theorem pay2_apply (x0 : Vec Ideal S6x256x1024 .bf16) (x2 : Vec Ideal S6x256x1152 .fp8e4m3) (x3 : Vec Ideal S6x1x256 .f32) (x4 : Vec Ideal S1152x1024 .fp8e4m3)
    (x5 x6 : Vec Ideal S1024 .f32) (R : Fin 1536) (h : Fin 1024 → EReal) (hh : ∀ j, k0_pay1 x0 x2 x3 x4 x5 x6 (ix2 R j) = h j) (j : Fin 1024) :
    k0_pay2 x0 x2 x3 x4 x5 x6 (ix2 R j)
      = cent h j * Ideal.rsqrt (mean (fun j => cent h j * cent h j) + Ideal.ofBits .f32 0x358637BD#32) := by
  unfold cent mean
  simp only [← div_1024, ← hh]
  unfold k0_pay2
  pointwise

end Cert.Vit
-- ==== Proof.KernelIdeal.Values.lean ====
/-
  The kernel's five result arrays, row by row, from its argument arrays.
-/
module

public import proofs.«01_k».proof.Proof.RefRow
public import proofs.«01_k».proof.Proof.KernelIdeal.Frame
public import Idealize.ShloMosaic.Lib.Pipeline.ValueKit.Geometry

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen Cert.Vit

variable (m : (ℓ : Loc nD τ sig) → Buf (Elt Ideal) ℓ) (c : Dev nD)

theorem idx0 : ∀ t : Fin cfg0.N, win0_0.index t = ![min t.val 5, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min t.val 5, 0, 0] := (by decide +kernel : ∀ t : Fin grid0.N, _)
theorem idx3 : ∀ t : Fin cfg0.N, win0_3.index t = ![min t.val 5, 0, 0] := (by decide +kernel : ∀ t : Fin grid0.N, _)
theorem idx4 : ∀ t : Fin cfg0.N, win0_4.index t = ![t.val - 1, 0, 0] := (by decide +kernel : ∀ t : Fin grid0.N, _)
theorem idx5 : ∀ t : Fin cfg0.N, win0_5.index t = ![min t.val 5, 0, 0] := (by decide +kernel : ∀ t : Fin grid0.N, _)
theorem idx6 : ∀ t : Fin cfg0.N, win0_6.index t = ![min t.val 5, 0, 0] := (by decide +kernel : ∀ t : Fin grid0.N, _)
theorem idx7 : ∀ t : Fin cfg0.N, win0_7.index t = ![t.val - 1, 0, 0] := (by decide +kernel : ∀ t : Fin grid0.N, _)
theorem idx8 : ∀ t : Fin cfg0.N, win0_8.index t = ![t.val - 1, 0, 0] := (by decide +kernel : ∀ t : Fin grid0.N, _)

/-- The inputs of batch `b`, from the argument arrays. -/
abbrev argIn (b : Fin 6) : St Ideal :=
  rin (V m c main_arg0) (V m c main_arg1) (V m c main_arg2) (V m c main_arg3) (V m c main_arg9) (V m c main_arg10) (V m c main_arg11) (V m c main_arg12)
    (V m c main_arg13) (V m c main_arg14) (V m c main_arg15) (V m c main_arg16) (V m c main_arg17) (V m c main_arg18) (V m c main_arg19) b

theorem emb0 (t : Fin cfg0.N) (z : Fin 1) (r : Fin 256) (j : Fin 1024) :
    (win0_0.blk t).view.emb (ix3 z r j) = (ix3 (fb t) r j : (⟨3, ![6, 256, 1024]⟩ : Shape).Idx) := by
  have h : (fb t).val = min t.val 5 := rfl
  blk_ext [idx0]
theorem emb2 (t : Fin cfg0.N) (z : Fin 1) (r : Fin 256) (j : Fin 1152) :
    (win0_2.blk t).view.emb (ix3 z r j) = (ix3 (fb t) r j : (⟨3, ![6, 256, 1152]⟩ : Shape).Idx) := by
  have h : (fb t).val = min t.val 5 := rfl
  blk_ext [idx2]
theorem emb3 (t : Fin cfg0.N) (z : Fin 1) (r : Fin 1) (j : Fin 256) :
    (win0_3.blk t).view.emb (ix3 z r j) = (ix3 (fb t) r j : (⟨3, ![6, 1, 256]⟩ : Shape).Idx) := by
  have h : (fb t).val = min t.val 5 := rfl
  blk_ext [idx3]
theorem emb4 (t : Fin cfg0.N) (z : Fin 1) (r : Fin 256) (j : Fin 1024) :
    (win0_4.blk t).view.emb (ix3 z r j) = (ix3 (bb t) r j : (⟨3, ![6, 256, 1024]⟩ : Shape).Idx) := by
  have h : (bb t).val = t.val - 1 := rfl
  blk_ext [idx4]
theorem emb5 (t : Fin cfg0.N) (z : Fin 1) (r : Fin 256) (j : Fin 1024) :
    (win0_5.blk t).view.emb (ix3 z r j) = (ix3 (fb t) r j : (⟨3, ![6, 256, 1024]⟩ : Shape).Idx) := by
  have h : (fb t).val = min t.val 5 := rfl
  blk_ext [idx5]
theorem emb6 (t : Fin cfg0.N) (z : Fin 1) (r : Fin 1) (j : Fin 256) :
    (win0_6.blk t).view.emb (ix3 z r j) = (ix3 (fb t) r j : (⟨3, ![6, 1, 256]⟩ : Shape).Idx) := by
  have h : (fb t).val = min t.val 5 := rfl
  blk_ext [idx6]
theorem emb7 (t : Fin cfg0.N) (z : Fin 1) (r : Fin 256) (j : Fin 4096) :
    (win0_7.blk t).view.emb (ix3 z r j) = (ix3 (bb t) r j : (⟨3, ![6, 256, 4096]⟩ : Shape).Idx) := by
  have h : (bb t).val = t.val - 1 := rfl
  blk_ext [idx7]
theorem emb8 (t : Fin cfg0.N) (z : Fin 1) (r : Fin 1) (j : Fin 256) :
    (win0_8.blk t).view.emb (ix3 z r j) = (ix3 (bb t) r j : (⟨3, ![6, 1, 256]⟩ : Shape).Idx) := by
  have h : (bb t).val = t.val - 1 := rfl
  blk_ext [idx8]
theorem emb1 (t : Fin cfg0.N) (x : Fin 6) (y : Fin 256) : (win0_1.blk t).view.emb (ix2 x y) = (ix2 x y : (⟨2, ![6, 256]⟩ : Shape).Idx) := by
  blk_ext [idx1]

theorem fb_pt (b : Fin 6) : fb (pt b) = b := Fin.ext (by show min b.val 5 = b.val; omega)

theorem iblk0 (b : Fin 6) : (iblk m c 0 (pt b) : s1x256x1024.Idx → EReal) = fun i => V m c main_arg0 (ix3 b (i 1) (i 2)) := by
  funext i
  obtain ⟨z, r, j, rfl⟩ : ∃ (z : Fin 1) (r : Fin 256) (j : Fin 1024), i = ix3 z r j := ⟨i 0, i 1, i 2, eq_ix3 i⟩
  refine (congrArg (V m c main_arg0) (emb0 (pt b) z r j)).trans ?_
  rw [fb_pt]; rfl
theorem iblk2 (b : Fin 6) : (iblk m c 2 (pt b) : s1x256x1152.Idx → EReal) = fun i => V m c main_arg2 (ix3 b (i 1) (i 2)) := by
  funext i
  obtain ⟨z, r, j, rfl⟩ : ∃ (z : Fin 1) (r : Fin 256) (j : Fin 1152), i = ix3 z r j := ⟨i 0, i 1, i 2, eq_ix3 i⟩
  refine (congrArg (V m c main_arg2) (emb2 (pt b) z r j)).trans ?_
  rw [fb_pt]; rfl
theorem iblk3 (b : Fin 6) : (iblk m c 3 (pt b) : s1x1x256.Idx → EReal) = fun i => V m c main_arg3 (ix3 b (i 1) (i 2)) := by
  funext i
  obtain ⟨z, r, j, rfl⟩ : ∃ (z : Fin 1) (r : Fin 1) (j : Fin 256), i = ix3 z r j := ⟨i 0, i 1, i 2, eq_ix3 i⟩
  refine (congrArg (V m c main_arg3) (emb3 (pt b) z r j)).trans ?_
  rw [fb_pt]; rfl
theorem iblk1 (b : Fin 6) : (iblk m c 1 (pt b) : s6x256.Idx → BitVec 32) = V m c main_arg1 := by
  funext i
  obtain ⟨x, y, rfl⟩ : ∃ (x : Fin 6) (y : Fin 256), i = ix2 x y := ⟨i 0, i 1, eq_ix2 i⟩
  exact congrArg (V m c main_arg1) (emb1 (pt b) x y)

theorem inp_eq (b : Fin 6) : inp m c b = argIn m c b := by
  unfold inp inpT argIn rin
  rw [show iblk m c 0 (pt b) = _ from iblk0 m c b, show iblk m c 1 (pt b) = _ from iblk1 m c b, show iblk m c 2 (pt b) = _ from iblk2 m c b,
    show iblk m c 3 (pt b) = _ from iblk3 m c b]
  rfl

theorem c0_eq : (c0 : Ideal .f32) = cst := IdealRules.named_const.ideal_named_scalar _ _ _ _ rfl

theorem bck_eq (b : Fin 6) : bck m c b = mkBack (argIn m c b) ![b.val, 0] (offOk b.val b.isLt) := by
  unfold bck; rw [inp_eq]

/-- The normalised rows' codes. -/
theorem final5 : ((dats m 0 c).arrAt 5 cfg0.N : (⟨3, ![6, 256, 1024]⟩ : Shape).Idx → EReal) = fun i => rowCode (uRow (argIn m c (i 0)) (i 1)) (i 2) := by
  refine (dats m 0 c).arrAt_eq_of_covers 5 _ (by decide +kernel) fun t hf y => ?_
  obtain ⟨z, r, j, rfl⟩ : ∃ (z : Fin 1) (r : Fin 256) (j : Fin 1024), y = ix3 z r j := ⟨y 0, y 1, y 2, eq_ix3 y⟩
  blk_simp
  dsimp only [dats]
  rw [show ((View.whole main_v0_1).slice (win0_5.rect t)).emb (ix3 z r j) = _ from emb5 t z r j, inp_eq]
  exact fA2C_apply (argIn m c (fb t)) z r j
/-- The normalised rows' scales. -/
theorem final6 : ((dats m 0 c).arrAt 6 cfg0.N : (⟨3, ![6, 1, 256]⟩ : Shape).Idx → EReal) = fun i => rowScale (uRow (argIn m c (i 0)) (i 2)) := by
  refine (dats m 0 c).arrAt_eq_of_covers 6 _ (by decide +kernel) fun t hf y => ?_
  obtain ⟨z, r, j, rfl⟩ : ∃ (z : Fin 1) (r : Fin 1) (j : Fin 256), y = ix3 z r j := ⟨y 0, y 1, y 2, eq_ix3 y⟩
  blk_simp
  dsimp only [dats]
  rw [show ((View.whole main_v0_2).slice (win0_6.rect t)).emb (ix3 z r j) = _ from emb6 t z r j, inp_eq]
  exact fA2S_apply (argIn m c (fb t)) z r j
/-- The activation's codes. -/
theorem final7 : ((dats m 0 c).arrAt 7 cfg0.N : (⟨3, ![6, 256, 4096]⟩ : Shape).Idx → EReal) = fun i => rowCode (gRow (argIn m c (i 0)) (i 1)) (i 2) := by
  refine (dats m 0 c).arrAt_eq_of_covers 7 _ (by decide +kernel) fun t hf y => ?_
  obtain ⟨z, r, j, rfl⟩ : ∃ (z : Fin 1) (r : Fin 256) (j : Fin 4096), y = ix3 z r j := ⟨y 0, y 1, y 2, eq_ix3 y⟩
  blk_simp
  dsimp only [dats]
  rw [show ((View.whole main_v0_3).slice (win0_7.rect t)).emb (ix3 z r j) = _ from emb7 t z r j, bck_eq, c0_eq]
  exact bGC_apply (argIn m c (bb t)) _ _ z r j
/-- The activation's scales. -/
theorem final8 : ((dats m 0 c).arrAt 8 cfg0.N : (⟨3, ![6, 1, 256]⟩ : Shape).Idx → EReal) = fun i => rowScale (gRow (argIn m c (i 0)) (i 2)) := by
  refine (dats m 0 c).arrAt_eq_of_covers 8 _ (by decide +kernel) fun t hf y => ?_
  obtain ⟨z, r, j, rfl⟩ : ∃ (z : Fin 1) (r : Fin 1) (j : Fin 256), y = ix3 z r j := ⟨y 0, y 1, y 2, eq_ix3 y⟩
  blk_simp
  dsimp only [dats]
  rw [show ((View.whole main_v0_4).slice (win0_8.rect t)).emb (ix3 z r j) = _ from emb8 t z r j, bck_eq, c0_eq]
  exact bGS_apply (argIn m c (bb t)) _ _ z r j
/-- The layer's result. -/
theorem final4 : ((dats m 0 c).arrAt 4 cfg0.N : (⟨3, ![6, 256, 1024]⟩ : Shape).Idx → EReal) = fun i => pad (V m c main_arg1 (ix2 (i 0) (i 1))) (oRow (argIn m c (i 0)) (i 1) (i 2)) := by
  refine (dats m 0 c).arrAt_eq_of_covers 4 _ (by decide +kernel) fun t hf y => ?_
  obtain ⟨z, r, j, rfl⟩ : ∃ (z : Fin 1) (r : Fin 256) (j : Fin 1024), y = ix3 z r j := ⟨y 0, y 1, y 2, eq_ix3 y⟩
  blk_simp
  dsimp only [dats]
  rw [show ((View.whole main_v0_0).slice (win0_4.rect t)).emb (ix3 z r j) = _ from emb4 t z r j, bck_eq, c0_eq]
  exact bY_apply (argIn m c (bb t)) (bb t) _ z r j

end Cert.KernelIdeal.Hand
-- ==== Proof.RefAct.lean ====
/-
  The reference's activation read row by row.
-/
module

public import proofs.«01_k».proof.Proof.RefRow
public import proofs.«01_k».proof.Proof.Gen.ReferenceIdeal.Frame

@[expose] public section

noncomputable section

namespace Cert.Vit

open Idealize.ShloMosaic Idealize.SL.Sem
open Cert.ReferenceIdeal Cert.ReferenceIdeal.Gen

theorem pay10_apply (s c : Vec Ideal S4096 .f32) (a f : FVec Ideal S1536x4096 .f32) (R : Fin 1536) (j : Fin 4096) :
    k0_pay10 s c a f (ix2 R j) = geluT ((a (ix2 R j) : EReal) * f (ix2 R j) * s (ix1 j) + c (ix1 j)) := by
  unfold k0_pay10 geluT half cst
  rw [IdealRules.named_const.ideal_named_scalar _ _ _ _ rfl]
  pointwise
  rfl

section second
variable (s c : Vec Ideal S4096 .f32) (a f : FVec Ideal S1536x4096 .f32) (R : Fin 1536) (u : Fin 4096 → EReal)
  (hu : ∀ j, k0_pay10 s c a f (ix2 R j) = u j)
include hu

theorem pay11_apply : k0_pay11 s c a f (ix2 R (0 : Fin 1)) = qexp (amax u) := by
  refine (expoT_apply (multiReduction .maximumf [1] S1536 (absf (k0_pay10 s c a f)) 0xFF800000#32 reduces_S1536x4096_S1536 (.inl rfl) rfl) R).trans (congrArg qexp ?_)
  refine (max_rows _ _ _ _ R).trans ((congrArg (fun f => Finset.fold max (Ideal.ofBits .f32 0xFF800000#32) f Finset.univ) (funext fun j => ?_)).trans (fold_amax u))
  exact congrArg (fun x : EReal => max x (-x)) (hu j)

theorem pay12_apply : k0_pay12 s c a f (ix2 R (0 : Fin 1)) = rowScale u := by
  unfold rowScale
  rw [qscale_eq, ← pay11_apply s c a f R u hu]
  unfold k0_pay12
  pointwise

theorem pay14_apply (j : Fin 4096) : k0_pay14 (Scalar.ofBits (F := Ideal) .f32 0x43E00000#32) (k0_pay13 s c a f) (ix2 R j) = rowCode u j := by
  unfold rowCode
  rw [qclip_eq, qinv_eq, ← pay11_apply s c a f R u hu, ← hu]
  unfold k0_pay14 k0_pay13
  pointwise

end second

end Cert.Vit
-- ==== Proof.RefOut.lean ====
/-
  The reference's result read row by row.
-/
module

public import proofs.«01_k».proof.Proof.RefAct
public import Idealize.ShloMosaic.Lib.Pipeline.ValueKit.Acc
public import proofs.«01_k».proof.Proof.Gen.ReferenceIdeal.Frame

@[expose] public section

noncomputable section

namespace Cert.Vit

open Idealize.ShloMosaic Idealize.SL.Sem
open Cert.ReferenceIdeal Cert.ReferenceIdeal.Gen

theorem pay15_apply (h : FVec Ideal S1536x1024 .f32) (f : FVec Ideal S1536x1 .f32) (t : Ideal .f32) (a : FVec Ideal S1536x4096 .f32) (w : Vec Ideal S4096x1024 .fp8e4m3)
    (s c : Vec Ideal S1024 .f32) (seg : Vec Ideal S6x256 .i32) (b : Fin 6) (r : Fin 256) (j : Fin 1024) :
    k0_pay15 h f t a w s c seg (ix3 b r j) = pad (seg (ix2 b r)) ((h (ix2 ⟨b.val * 256 + r.val, by omega⟩ j) : EReal)
      + ((∑ k, k0_pay14 t a (ix2 ⟨b.val * 256 + r.val, by omega⟩ k) * w (ix2 k j)) * f (ix2 ⟨b.val * 256 + r.val, by omega⟩ (0 : Fin 1)) * s (ix1 j) + c (ix1 j))) := by
  unfold k0_pay15 pad
  pointwise
  by_cases e : seg (ix2 b r) = 3#32
  · rw [if_pos e, e]; rfl
  · rw [if_neg e]
    have : IntOp.cmpi CmpIPredicate.eq (seg (ix2 b r)) 3#32 = 0#1 := congrArg BitVec.ofBool (beq_eq_false_iff_ne.mpr e)
    rw [this]; rfl

theorem pay16_apply (v : FVec Ideal S1536x1024 .fp8e4m3) (b : Fin 6) (r : Fin 256) (j : Fin 1024) :
    k0_pay16 v (ix3 b r j) = v (ix2 ⟨b.val * 256 + r.val, by omega⟩ j) := by
  unfold k0_pay16; pointwise
theorem pay17_apply (v : FVec Ideal S1536x1 .f32) (b : Fin 6) (z : Fin 1) (r : Fin 256) :
    k0_pay17 v (ix3 b z r) = v (ix2 ⟨b.val * 256 + r.val, by omega⟩ (0 : Fin 1)) := by
  obtain rfl : z = 0 := Subsingleton.elim _ _
  unfold k0_pay17; pointwise
theorem pay18_apply (t : Ideal .f32) (v : FVec Ideal S1536x4096 .f32) (b : Fin 6) (r : Fin 256) (j : Fin 4096) :
    k0_pay18 t v (ix3 b r j) = k0_pay14 t v (ix2 ⟨b.val * 256 + r.val, by omega⟩ j) := by
  unfold k0_pay18; pointwise
theorem pay19_apply (v : FVec Ideal S1536x1 .f32) (b : Fin 6) (z : Fin 1) (r : Fin 256) :
    k0_pay19 v (ix3 b z r) = v (ix2 ⟨b.val * 256 + r.val, by omega⟩ (0 : Fin 1)) := by
  obtain rfl : z = 0 := Subsingleton.elim _ _
  unfold k0_pay19; pointwise
theorem pay3_apply (x : Vec Ideal S1024 .f32) (j : Fin 1024) : k0_pay3 x (ix2 (0 : Fin 1) j) = (x (ix1 j) : EReal) := by
  unfold k0_pay3; pointwise

/-! ## The five results -/

section results
variable (x0 : Vec Ideal S6x256x1024 .bf16) (x1 : Vec Ideal S6x256 .i32) (x2 : Vec Ideal S6x256x1152 .fp8e4m3) (x3 : Vec Ideal S6x1x256 .f32)
    (x4 : Vec Ideal S1152x1024 .fp8e4m3) (x5 x6 x7 x8 : Vec Ideal S1024 .f32) (x9 : Vec Ideal S1024x4096 .fp8e4m3) (x10 x11 : Vec Ideal S4096 .f32)
    (x12 : Vec Ideal S4096x1024 .fp8e4m3) (x13 x14 : Vec Ideal S1024 .f32) (b : Fin 6) (r : Fin 256)

theorem ref_h (j : Fin 1024) : k0_pay1 x0 x2 x3 x4 x5 x6 (ix2 ⟨b.val * 256 + r.val, by omega⟩ j) = hRow (rin x0 x1 x2 x3 x4 x5 x6 x7 x8 x9 x10 x11 x12 x13 x14 b) r j := by
  refine Eq.trans (congrArg (fun R => k0_pay1 x0 x2 x3 x4 x5 x6 (ix2 R j)) (Fin.ext (by show b.val * 256 + r.val = 256 * b.val + r.val; omega) : _ = (⟨256 * b.val + r.val, by omega⟩ : Fin 1536))) ?_
  refine (pay1_apply x0 x2 x3 x4 x5 x6 b r j).trans ?_
  rw [← row_cast_1024 x5 j, ← row_cast_1024 x6 j]
  rfl

theorem ref_u (j : Fin 1024) :
    k0_pay4 x8 (k0_pay2 x0 x2 x3 x4 x5 x6) (k0_pay3 x7) (ix2 ⟨b.val * 256 + r.val, by omega⟩ j) = uRow (rin x0 x1 x2 x3 x4 x5 x6 x7 x8 x9 x10 x11 x12 x13 x14 b) r j := by
  refine (pay4_apply _ _ _ _ j).trans ?_
  rw [pay2_apply x0 x2 x3 x4 x5 x6 _ (hRow (rin x0 x1 x2 x3 x4 x5 x6 x7 x8 x9 x10 x11 x12 x13 x14 b) r) (ref_h x0 x1 x2 x3 x4 x5 x6 x7 x8 x9 x10 x11 x12 x13 x14 b r), pay3_apply,
    ← row_cast_1024 x7 j, ← row_cast_1024 x8 j]
  rfl

theorem ref_g (j : Fin 4096) :
    k0_pay10 x10 x11 (k0_pay8 x8 (k0_pay2 x0 x2 x3 x4 x5 x6) (k0_pay3 x7) x9) (k0_pay9 x8 (k0_pay2 x0 x2 x3 x4 x5 x6) (k0_pay3 x7))
      (ix2 ⟨b.val * 256 + r.val, by omega⟩ j) = gRow (rin x0 x1 x2 x3 x4 x5 x6 x7 x8 x9 x10 x11 x12 x13 x14 b) r j := by
  refine (pay10_apply _ _ _ _ _ j).trans ?_
  rw [pay8_apply _ _ _ _ (uRow (rin x0 x1 x2 x3 x4 x5 x6 x7 x8 x9 x10 x11 x12 x13 x14 b) r) (ref_u x0 x1 x2 x3 x4 x5 x6 x7 x8 x9 x10 x11 x12 x13 x14 b r), pay9_apply _ _ _ _ (uRow (rin x0 x1 x2 x3 x4 x5 x6 x7 x8 x9 x10 x11 x12 x13 x14 b) r) (ref_u x0 x1 x2 x3 x4 x5 x6 x7 x8 x9 x10 x11 x12 x13 x14 b r),
    ← row_cast_4096 x10 j, ← row_cast_4096 x11 j]
  rfl

theorem out16_apply (j : Fin 1024) : out0_16 x0 x1 x2 x3 x4 x5 x6 x7 x8 x9 x10 x11 x12 x13 x14 (ix3 b r j) = rowCode (uRow (rin x0 x1 x2 x3 x4 x5 x6 x7 x8 x9 x10 x11 x12 x13 x14 b) r) j := by
  unfold_out out0_16
  frame_out
  rw [pay16_apply]
  exact pay7_apply _ _ _ _ _ (ref_u x0 x1 x2 x3 x4 x5 x6 x7 x8 x9 x10 x11 x12 x13 x14 b r) j

theorem out17_apply (z : Fin 1) : out0_17 x0 x1 x2 x3 x4 x5 x6 x7 x8 x9 x10 x11 x12 x13 x14 (ix3 b z r) = rowScale (uRow (rin x0 x1 x2 x3 x4 x5 x6 x7 x8 x9 x10 x11 x12 x13 x14 b) r) := by
  unfold_out out0_17
  frame_out
  rw [pay17_apply]
  exact pay6_apply _ _ _ _ _ (ref_u x0 x1 x2 x3 x4 x5 x6 x7 x8 x9 x10 x11 x12 x13 x14 b r)

theorem out18_apply (j : Fin 4096) : out0_18 x0 x1 x2 x3 x4 x5 x6 x7 x8 x9 x10 x11 x12 x13 x14 (ix3 b r j) = rowCode (gRow (rin x0 x1 x2 x3 x4 x5 x6 x7 x8 x9 x10 x11 x12 x13 x14 b) r) j := by
  unfold_out out0_18
  frame_out
  rw [pay18_apply]
  exact pay14_apply _ _ _ _ _ _ (ref_g x0 x1 x2 x3 x4 x5 x6 x7 x8 x9 x10 x11 x12 x13 x14 b r) j

theorem out19_apply (z : Fin 1) : out0_19 x0 x1 x2 x3 x4 x5 x6 x7 x8 x9 x10 x11 x12 x13 x14 (ix3 b z r) = rowScale (gRow (rin x0 x1 x2 x3 x4 x5 x6 x7 x8 x9 x10 x11 x12 x13 x14 b) r) := by
  unfold_out out0_19
  frame_out
  rw [pay19_apply]
  exact pay12_apply _ _ _ _ _ _ (ref_g x0 x1 x2 x3 x4 x5 x6 x7 x8 x9 x10 x11 x12 x13 x14 b r)

theorem out15_apply (j : Fin 1024) : out0_15 x0 x1 x2 x3 x4 x5 x6 x7 x8 x9 x10 x11 x12 x13 x14 (ix3 b r j) = pad (x1 (ix2 b r)) (oRow (rin x0 x1 x2 x3 x4 x5 x6 x7 x8 x9 x10 x11 x12 x13 x14 b) r j) := by
  unfold_out out0_15
  frame_out
  refine (pay15_apply _ _ _ _ _ _ _ _ b r j).trans (congrArg (pad (x1 (ix2 b r))) ?_)
  rw [ref_h x0 x1 x2 x3 x4 x5 x6 x7 x8 x9 x10 x11 x12 x13 x14 b r j, pay12_apply _ _ _ _ _ _ (ref_g x0 x1 x2 x3 x4 x5 x6 x7 x8 x9 x10 x11 x12 x13 x14 b r)]
  simp only [pay14_apply _ _ _ _ _ _ (ref_g x0 x1 x2 x3 x4 x5 x6 x7 x8 x9 x10 x11 x12 x13 x14 b r)]
  rw [← row_cast_1024 x13 j, ← row_cast_1024 x14 j]
  rfl

end results

end Cert.Vit
-- ==== Proof.ReferenceIdeal.Values.lean ====
/-
  The reference's five result arrays, row by row, from its argument arrays.
-/
module

public import proofs.«01_k».proof.Proof.RefOut
public import proofs.«01_k».proof.Proof.Gen.ReferenceIdeal.Frame
public import Idealize.ShloMosaic.Lib.Pipeline.ValueKit.Geometry

@[expose] public section

set_option maxRecDepth 16384

noncomputable section

namespace Cert.ReferenceIdeal.Hand

open Idealize.ShloMosaic Idealize.ShloMosaic.TcCoe
open Idealize.SL Idealize.SL.Sem
open Cert.ReferenceIdeal Cert.ReferenceIdeal.Gen Cert.Vit

variable (m : (ℓ : Loc nD τ sig) → Buf (Elt Ideal) ℓ) (c : Dev nD)

/-- The inputs of batch `b`, from the argument arrays. -/
abbrev argIn (b : Fin 6) : St Ideal :=
  rin (V m c main_arg0) (V m c main_arg1) (V m c main_arg2) (V m c main_arg3) (V m c main_arg9) (V m c main_arg10) (V m c main_arg11) (V m c main_arg12)
    (V m c main_arg13) (V m c main_arg14) (V m c main_arg15) (V m c main_arg16) (V m c main_arg17) (V m c main_arg18) (V m c main_arg19) b

theorem iblk0 (t : Fin cfg0.N) : iblk m c 0 t = V m c main_arg0 := by
  funext i; unfold iblk; blk_simp; refine congrArg (V m c main_arg0) ?_
  have h (k) : win0_0.index t k = 0 := rfl
  blk_ext [h]
theorem iblk1 (t : Fin cfg0.N) : iblk m c 1 t = V m c main_arg1 := by
  funext i; unfold iblk; blk_simp; refine congrArg (V m c main_arg1) ?_
  have h (k) : win0_1.index t k = 0 := rfl
  blk_ext [h]
theorem iblk2 (t : Fin cfg0.N) : iblk m c 2 t = V m c main_arg2 := by
  funext i; unfold iblk; blk_simp; refine congrArg (V m c main_arg2) ?_
  have h (k) : win0_2.index t k = 0 := rfl
  blk_ext [h]
theorem iblk3 (t : Fin cfg0.N) : iblk m c 3 t = V m c main_arg3 := by
  funext i; unfold iblk; blk_simp; refine congrArg (V m c main_arg3) ?_
  have h (k) : win0_3.index t k = 0 := rfl
  blk_ext [h]
theorem iblk4 (t : Fin cfg0.N) : iblk m c 4 t = V m c main_arg9 := by
  funext i; unfold iblk; blk_simp; refine congrArg (V m c main_arg9) ?_
  have h (k) : win0_4.index t k = 0 := rfl
  blk_ext [h]
theorem iblk5 (t : Fin cfg0.N) : iblk m c 5 t = V m c main_arg10 := by
  funext i; unfold iblk; blk_simp; refine congrArg (V m c main_arg10) ?_
  have h (k) : win0_5.index t k = 0 := rfl
  blk_ext [h]
theorem iblk6 (t : Fin cfg0.N) : iblk m c 6 t = V m c main_arg11 := by
  funext i; unfold iblk; blk_simp; refine congrArg (V m c main_arg11) ?_
  have h (k) : win0_6.index t k = 0 := rfl
  blk_ext [h]
theorem iblk7 (t : Fin cfg0.N) : iblk m c 7 t = V m c main_arg12 := by
  funext i; unfold iblk; blk_simp; refine congrArg (V m c main_arg12) ?_
  have h (k) : win0_7.index t k = 0 := rfl
  blk_ext [h]
theorem iblk8 (t : Fin cfg0.N) : iblk m c 8 t = V m c main_arg13 := by
  funext i; unfold iblk; blk_simp; refine congrArg (V m c main_arg13) ?_
  have h (k) : win0_8.index t k = 0 := rfl
  blk_ext [h]
theorem iblk9 (t : Fin cfg0.N) : iblk m c 9 t = V m c main_arg14 := by
  funext i; unfold iblk; blk_simp; refine congrArg (V m c main_arg14) ?_
  have h (k) : win0_9.index t k = 0 := rfl
  blk_ext [h]
theorem iblk10 (t : Fin cfg0.N) : iblk m c 10 t = V m c main_arg15 := by
  funext i; unfold iblk; blk_simp; refine congrArg (V m c main_arg15) ?_
  have h (k) : win0_10.index t k = 0 := rfl
  blk_ext [h]
theorem iblk11 (t : Fin cfg0.N) : iblk m c 11 t = V m c main_arg16 := by
  funext i; unfold iblk; blk_simp; refine congrArg (V m c main_arg16) ?_
  have h (k) : win0_11.index t k = 0 := rfl
  blk_ext [h]
theorem iblk12 (t : Fin cfg0.N) : iblk m c 12 t = V m c main_arg17 := by
  funext i; unfold iblk; blk_simp; refine congrArg (V m c main_arg17) ?_
  have h (k) : win0_12.index t k = 0 := rfl
  blk_ext [h]
theorem iblk13 (t : Fin cfg0.N) : iblk m c 13 t = V m c main_arg18 := by
  funext i; unfold iblk; blk_simp; refine congrArg (V m c main_arg18) ?_
  have h (k) : win0_13.index t k = 0 := rfl
  blk_ext [h]
theorem iblk14 (t : Fin cfg0.N) : iblk m c 14 t = V m c main_arg19 := by
  funext i; unfold iblk; blk_simp; refine congrArg (V m c main_arg19) ?_
  have h (k) : win0_14.index t k = 0 := rfl
  blk_ext [h]

/-- The normalised rows' codes. -/
theorem final16 : ((dats m 0 c).arrAt 16 cfg0.N : (⟨3, ![6, 256, 1024]⟩ : Shape).Idx → EReal) = fun i => rowCode (uRow (argIn m c (i 0)) (i 1)) (i 2) := by
  refine (dats m 0 c).arrAt_eq_of_covers 16 _ (by decide +kernel) fun t hf y => ?_
  obtain ⟨b, r, j, rfl⟩ : ∃ (b : Fin 6) (r : Fin 256) (j : Fin 1024), y = ix3 b r j := ⟨y 0, y 1, y 2, eq_ix3 y⟩
  have e : (win0_16.blk t).view.emb (ix3 b r j) = (ix3 b r j : (⟨3, ![6, 256, 1024]⟩ : Shape).Idx) := by
    have h (k) : win0_16.index t k = 0 := rfl
    blk_ext [h]
  refine Eq.trans ?_ (congrArg (fun i : (⟨3, ![6, 256, 1024]⟩ : Shape).Idx => rowCode (uRow (argIn m c (i 0)) (i 1)) (i 2)) e.symm)
  blk_simp
  rw [after0_16, iblk0, iblk1, iblk2, iblk3, iblk4, iblk5, iblk6, iblk7, iblk8, iblk9, iblk10, iblk11, iblk12, iblk13, iblk14]
  exact out16_apply _ _ _ _ _ _ _ _ _ _ _ _ _ _ _ b r j
/-- The normalised rows' scales. -/
theorem final17 : ((dats m 0 c).arrAt 17 cfg0.N : (⟨3, ![6, 1, 256]⟩ : Shape).Idx → EReal) = fun i => rowScale (uRow (argIn m c (i 0)) (i 2)) := by
  refine (dats m 0 c).arrAt_eq_of_covers 17 _ (by decide +kernel) fun t hf y => ?_
  obtain ⟨b, r, j, rfl⟩ : ∃ (b : Fin 6) (r : Fin 1) (j : Fin 256), y = ix3 b r j := ⟨y 0, y 1, y 2, eq_ix3 y⟩
  have e : (win0_17.blk t).view.emb (ix3 b r j) = (ix3 b r j : (⟨3, ![6, 1, 256]⟩ : Shape).Idx) := by
    have h (k) : win0_17.index t k = 0 := rfl
    blk_ext [h]
  refine Eq.trans ?_ (congrArg (fun i : (⟨3, ![6, 1, 256]⟩ : Shape).Idx => rowScale (uRow (argIn m c (i 0)) (i 2))) e.symm)
  blk_simp
  rw [after0_17, iblk0, iblk1, iblk2, iblk3, iblk4, iblk5, iblk6, iblk7, iblk8, iblk9, iblk10, iblk11, iblk12, iblk13, iblk14]
  exact out17_apply _ _ _ _ _ _ _ _ _ _ _ _ _ _ _ b j r
/-- The activation's codes. -/
theorem final18 : ((dats m 0 c).arrAt 18 cfg0.N : (⟨3, ![6, 256, 4096]⟩ : Shape).Idx → EReal) = fun i => rowCode (gRow (argIn m c (i 0)) (i 1)) (i 2) := by
  refine (dats m 0 c).arrAt_eq_of_covers 18 _ (by decide +kernel) fun t hf y => ?_
  obtain ⟨b, r, j, rfl⟩ : ∃ (b : Fin 6) (r : Fin 256) (j : Fin 4096), y = ix3 b r j := ⟨y 0, y 1, y 2, eq_ix3 y⟩
  have e : (win0_18.blk t).view.emb (ix3 b r j) = (ix3 b r j : (⟨3, ![6, 256, 4096]⟩ : Shape).Idx) := by
    have h (k) : win0_18.index t k = 0 := rfl
    blk_ext [h]
  refine Eq.trans ?_ (congrArg (fun i : (⟨3, ![6, 256, 4096]⟩ : Shape).Idx => rowCode (gRow (argIn m c (i 0)) (i 1)) (i 2)) e.symm)
  blk_simp
  rw [after0_18, iblk0, iblk1, iblk2, iblk3, iblk4, iblk5, iblk6, iblk7, iblk8, iblk9, iblk10, iblk11, iblk12, iblk13, iblk14]
  exact out18_apply _ _ _ _ _ _ _ _ _ _ _ _ _ _ _ b r j
/-- The activation's scales. -/
theorem final19 : ((dats m 0 c).arrAt 19 cfg0.N : (⟨3, ![6, 1, 256]⟩ : Shape).Idx → EReal) = fun i => rowScale (gRow (argIn m c (i 0)) (i 2)) := by
  refine (dats m 0 c).arrAt_eq_of_covers 19 _ (by decide +kernel) fun t hf y => ?_
  obtain ⟨b, r, j, rfl⟩ : ∃ (b : Fin 6) (r : Fin 1) (j : Fin 256), y = ix3 b r j := ⟨y 0, y 1, y 2, eq_ix3 y⟩
  have e : (win0_19.blk t).view.emb (ix3 b r j) = (ix3 b r j : (⟨3, ![6, 1, 256]⟩ : Shape).Idx) := by
    have h (k) : win0_19.index t k = 0 := rfl
    blk_ext [h]
  refine Eq.trans ?_ (congrArg (fun i : (⟨3, ![6, 1, 256]⟩ : Shape).Idx => rowScale (gRow (argIn m c (i 0)) (i 2))) e.symm)
  blk_simp
  rw [after0_19, iblk0, iblk1, iblk2, iblk3, iblk4, iblk5, iblk6, iblk7, iblk8, iblk9, iblk10, iblk11, iblk12, iblk13, iblk14]
  exact out19_apply _ _ _ _ _ _ _ _ _ _ _ _ _ _ _ b j r
/-- The layer's result. -/
theorem final15 : ((dats m 0 c).arrAt 15 cfg0.N : (⟨3, ![6, 256, 1024]⟩ : Shape).Idx → EReal) = fun i => pad (V m c main_arg1 (ix2 (i 0) (i 1))) (oRow (argIn m c (i 0)) (i 1) (i 2)) := by
  refine (dats m 0 c).arrAt_eq_of_covers 15 _ (by decide +kernel) fun t hf y => ?_
  obtain ⟨b, r, j, rfl⟩ : ∃ (b : Fin 6) (r : Fin 256) (j : Fin 1024), y = ix3 b r j := ⟨y 0, y 1, y 2, eq_ix3 y⟩
  have e : (win0_15.blk t).view.emb (ix3 b r j) = (ix3 b r j : (⟨3, ![6, 256, 1024]⟩ : Shape).Idx) := by
    have h (k) : win0_15.index t k = 0 := rfl
    blk_ext [h]
  refine Eq.trans ?_ (congrArg (fun i : (⟨3, ![6, 256, 1024]⟩ : Shape).Idx => pad (V m c main_arg1 (ix2 (i 0) (i 1))) (oRow (argIn m c (i 0)) (i 1) (i 2))) e.symm)
  blk_simp
  rw [after0_15, iblk0, iblk1, iblk2, iblk3, iblk4, iblk5, iblk6, iblk7, iblk8, iblk9, iblk10, iblk11, iblk12, iblk13, iblk14]
  exact out15_apply _ _ _ _ _ _ _ _ _ _ _ _ _ _ _ b r j

end Cert.ReferenceIdeal.Hand
-- ==== Proof.Algebraic.lean ====
/-
  The two runs compared: the kernel's five result arrays and the reference's are one function of the
  argument arrays.
-/
module

public import proofs.«01_k».proof.Defs
public import proofs.«01_k».proof.Proof.KernelIdeal.Values
public import proofs.«01_k».proof.Proof.ReferenceIdeal.Values

@[expose] public section

set_option maxRecDepth 16384

noncomputable section

namespace Cert.Vit

open Idealize.ShloMosaic Idealize.ShloMosaic.TcCoe
open Idealize.SL Idealize.SL.Sem

variable (seg : (⟨2, ![6, 256]⟩ : Shape).Idx → BitVec 32) (ι : Fin 6 → St Ideal)

/-- The layer's result, padding masked. -/
def y : (⟨3, ![6, 256, 1024]⟩ : Shape).Idx → EReal := fun i => pad (seg (ix2 (i 0) (i 1))) (oRow (ι (i 0)) (i 1) (i 2))

/-- The codes of the normalised rows. -/
def uCodes : (⟨3, ![6, 256, 1024]⟩ : Shape).Idx → EReal := fun i => rowCode (uRow (ι (i 0)) (i 1)) (i 2)

/-- The scales of the normalised rows. -/
def uScales : (⟨3, ![6, 1, 256]⟩ : Shape).Idx → EReal := fun i => rowScale (uRow (ι (i 0)) (i 2))

/-- The codes of the activation's rows. -/
def gCodes : (⟨3, ![6, 256, 4096]⟩ : Shape).Idx → EReal := fun i => rowCode (gRow (ι (i 0)) (i 1)) (i 2)

/-- The scales of the activation's rows. -/
def gScales : (⟨3, ![6, 1, 256]⟩ : Shape).Idx → EReal := fun i => rowScale (gRow (ι (i 0)) (i 2))

end Cert.Vit

namespace Cert.KernelIdeal.Hand

open Idealize.ShloMosaic Idealize.ShloMosaic.TcCoe
open Idealize.SL Idealize.SL.Sem
open Cert.KernelIdeal Cert.KernelIdeal.Gen Cert.Vit

variable (m : (ℓ : Loc nD τ sig) → Buf (Elt Ideal) ℓ) (ρ : Dev nD → PrngReg)

/-- The five result arrays hold the layer's rows. -/
def Results (r : PUnit × MemSt nD τ sig (Elt Ideal)) : Prop := ∀ c : Dev nD,
    r.2.mem ((c.tc : Thread nD τ).loc main_v0_0) = y (V m c main_arg1) (argIn m c)
      ∧ r.2.mem ((c.tc : Thread nD τ).loc main_v0_1) = uCodes (argIn m c)
      ∧ r.2.mem ((c.tc : Thread nD τ).loc main_v0_2) = uScales (argIn m c)
      ∧ r.2.mem ((c.tc : Thread nD τ).loc main_v0_3) = gCodes (argIn m c)
      ∧ r.2.mem ((c.tc : Thread nD τ).loc main_v0_4) = gScales (argIn m c)

theorem results_of (r : PUnit × MemSt nD τ sig (Elt Ideal)) (h : Pipeline.FramePost cfgs (dats m) 0 (V m) r ∧ r.2.sem = fun _ => 0) : Results m r :=
  fun c => ⟨((h.1 c).1 4).trans (final4 m c),
    ((h.1 c).1 5).trans (final5 m c),
    ((h.1 c).1 6).trans (final6 m c),
    ((h.1 c).1 7).trans (final7 m c),
    ((h.1 c).1 8).trans (final8 m c)⟩

end Cert.KernelIdeal.Hand

namespace Cert.ReferenceIdeal.Hand

open Idealize.ShloMosaic Idealize.ShloMosaic.TcCoe
open Idealize.SL Idealize.SL.Sem
open Cert.ReferenceIdeal Cert.ReferenceIdeal.Gen Cert.Vit

variable (m : (ℓ : Loc nD τ sig) → Buf (Elt Ideal) ℓ) (ρ : Dev nD → PrngReg)

/-- The five result arrays hold the layer's rows. -/
def Results (r : PUnit × MemSt nD τ sig (Elt Ideal)) : Prop := ∀ c : Dev nD,
    r.2.mem ((c.tc : Thread nD τ).loc main_v0_0) = y (V m c main_arg1) (argIn m c)
      ∧ r.2.mem ((c.tc : Thread nD τ).loc main_v0_1) = uCodes (argIn m c)
      ∧ r.2.mem ((c.tc : Thread nD τ).loc main_v0_2) = uScales (argIn m c)
      ∧ r.2.mem ((c.tc : Thread nD τ).loc main_v0_3) = gCodes (argIn m c)
      ∧ r.2.mem ((c.tc : Thread nD τ).loc main_v0_4) = gScales (argIn m c)

theorem results_of (r : PUnit × MemSt nD τ sig (Elt Ideal)) (h : Pipeline.FramePost cfgs (dats m) 0 (V m) r) : Results m r :=
  fun c => ⟨((h c).1 15).trans (final15 m c),
    ((h c).1 16).trans (final16 m c),
    ((h c).1 17).trans (final17 m c),
    ((h c).1 18).trans (final18 m c),
    ((h c).1 19).trans (final19 m c)⟩

end Cert.ReferenceIdeal.Hand

namespace Cert.Vit

open Idealize.ShloMosaic Idealize.ShloMosaic.TcCoe
open Idealize.SL Idealize.SL.Sem

/-- From arguments that agree the two programs read the same rows. -/
theorem argIn_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15))
    (h16 : m' ((c.tc : Thread ReferenceIdeal.nD ReferenceIdeal.τ).loc ReferenceIdeal.main_arg16) = m ((c.tc : Thread KernelIdeal.nD KernelIdeal.τ).loc KernelIdeal.main_arg16))
    (h17 : m' ((c.tc : Thread ReferenceIdeal.nD ReferenceIdeal.τ).loc ReferenceIdeal.main_arg17) = m ((c.tc : Thread KernelIdeal.nD KernelIdeal.τ).loc KernelIdeal.main_arg17))
    (h18 : m' ((c.tc : Thread ReferenceIdeal.nD ReferenceIdeal.τ).loc ReferenceIdeal.main_arg18) = m ((c.tc : Thread KernelIdeal.nD KernelIdeal.τ).loc KernelIdeal.main_arg18))
    (h19 : m' ((c.tc : Thread ReferenceIdeal.nD ReferenceIdeal.τ).loc ReferenceIdeal.main_arg19) = m ((c.tc : Thread KernelIdeal.nD KernelIdeal.τ).loc KernelIdeal.main_arg19)) :
    ReferenceIdeal.Hand.argIn m' c = KernelIdeal.Hand.argIn m c := by
  funext b
  unfold ReferenceIdeal.Hand.argIn KernelIdeal.Hand.argIn
  rw [show ReferenceIdeal.Gen.V m' c ReferenceIdeal.main_arg0 = KernelIdeal.Gen.V m c KernelIdeal.main_arg0 from
      (ReferenceIdeal.Gen.V_main_arg0 m' c).trans (h0.trans (KernelIdeal.Gen.V_main_arg0 m c).symm),
    show ReferenceIdeal.Gen.V m' c ReferenceIdeal.main_arg1 = KernelIdeal.Gen.V m c KernelIdeal.main_arg1 from
      (ReferenceIdeal.Gen.V_main_arg1 m' c).trans (h1.trans (KernelIdeal.Gen.V_main_arg1 m c).symm),
    show ReferenceIdeal.Gen.V m' c ReferenceIdeal.main_arg2 = KernelIdeal.Gen.V m c KernelIdeal.main_arg2 from
      (ReferenceIdeal.Gen.V_main_arg2 m' c).trans (h2.trans (KernelIdeal.Gen.V_main_arg2 m c).symm),
    show ReferenceIdeal.Gen.V m' c ReferenceIdeal.main_arg3 = KernelIdeal.Gen.V m c KernelIdeal.main_arg3 from
      (ReferenceIdeal.Gen.V_main_arg3 m' c).trans (h3.trans (KernelIdeal.Gen.V_main_arg3 m c).symm),
    show ReferenceIdeal.Gen.V m' c ReferenceIdeal.main_arg9 = KernelIdeal.Gen.V m c KernelIdeal.main_arg9 from
      (ReferenceIdeal.Gen.V_main_arg9 m' c).trans (h9.trans (KernelIdeal.Gen.V_main_arg9 m c).symm),
    show ReferenceIdeal.Gen.V m' c ReferenceIdeal.main_arg10 = KernelIdeal.Gen.V m c KernelIdeal.main_arg10 from
      (ReferenceIdeal.Gen.V_main_arg10 m' c).trans (h10.trans (KernelIdeal.Gen.V_main_arg10 m c).symm),
    show ReferenceIdeal.Gen.V m' c ReferenceIdeal.main_arg11 = KernelIdeal.Gen.V m c KernelIdeal.main_arg11 from
      (ReferenceIdeal.Gen.V_main_arg11 m' c).trans (h11.trans (KernelIdeal.Gen.V_main_arg11 m c).symm),
    show ReferenceIdeal.Gen.V m' c ReferenceIdeal.main_arg12 = KernelIdeal.Gen.V m c KernelIdeal.main_arg12 from
      (ReferenceIdeal.Gen.V_main_arg12 m' c).trans (h12.trans (KernelIdeal.Gen.V_main_arg12 m c).symm),
    show ReferenceIdeal.Gen.V m' c ReferenceIdeal.main_arg13 = KernelIdeal.Gen.V m c KernelIdeal.main_arg13 from
      (ReferenceIdeal.Gen.V_main_arg13 m' c).trans (h13.trans (KernelIdeal.Gen.V_main_arg13 m c).symm),
    show ReferenceIdeal.Gen.V m' c ReferenceIdeal.main_arg14 = KernelIdeal.Gen.V m c KernelIdeal.main_arg14 from
      (ReferenceIdeal.Gen.V_main_arg14 m' c).trans (h14.trans (KernelIdeal.Gen.V_main_arg14 m c).symm),
    show ReferenceIdeal.Gen.V m' c ReferenceIdeal.main_arg15 = KernelIdeal.Gen.V m c KernelIdeal.main_arg15 from
      (ReferenceIdeal.Gen.V_main_arg15 m' c).trans (h15.trans (KernelIdeal.Gen.V_main_arg15 m c).symm),
    show ReferenceIdeal.Gen.V m' c ReferenceIdeal.main_arg16 = KernelIdeal.Gen.V m c KernelIdeal.main_arg16 from
      (ReferenceIdeal.Gen.V_main_arg16 m' c).trans (h16.trans (KernelIdeal.Gen.V_main_arg16 m c).symm),
    show ReferenceIdeal.Gen.V m' c ReferenceIdeal.main_arg17 = KernelIdeal.Gen.V m c KernelIdeal.main_arg17 from
      (ReferenceIdeal.Gen.V_main_arg17 m' c).trans (h17.trans (KernelIdeal.Gen.V_main_arg17 m c).symm),
    show ReferenceIdeal.Gen.V m' c ReferenceIdeal.main_arg18 = KernelIdeal.Gen.V m c KernelIdeal.main_arg18 from
      (ReferenceIdeal.Gen.V_main_arg18 m' c).trans (h18.trans (KernelIdeal.Gen.V_main_arg18 m c).symm),
    show ReferenceIdeal.Gen.V m' c ReferenceIdeal.main_arg19 = KernelIdeal.Gen.V m c KernelIdeal.main_arg19 from
      (ReferenceIdeal.Gen.V_main_arg19 m' c).trans (h19.trans (KernelIdeal.Gen.V_main_arg19 m c).symm)]

theorem seg_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h1 : m' ((c.tc : Thread ReferenceIdeal.nD ReferenceIdeal.τ).loc ReferenceIdeal.main_arg1) = m ((c.tc : Thread KernelIdeal.nD KernelIdeal.τ).loc KernelIdeal.main_arg1)) :
    ReferenceIdeal.Gen.V m' c ReferenceIdeal.main_arg1 = KernelIdeal.Gen.V m c KernelIdeal.main_arg1 :=
  (ReferenceIdeal.Gen.V_main_arg1 m' c).trans (h1.trans (KernelIdeal.Gen.V_main_arg1 m c).symm)

/-- From memories that agree on the arguments both programs end with the same five results, their arguments as they began. -/
theorem algebraic [hKernelIdeal : KernelIdeal.Facts] [hReferenceIdeal : ReferenceIdeal.Facts] : algebraic_KernelIdeal_ReferenceIdeal := by
  intro m g m' g' _ hargs
  refine ⟨fun c => y (KernelIdeal.Gen.V m c KernelIdeal.main_arg1) (KernelIdeal.Hand.argIn m c), fun c => uCodes (KernelIdeal.Hand.argIn m c), fun c => uScales (KernelIdeal.Hand.argIn m c), fun c => gCodes (KernelIdeal.Hand.argIn m c), fun c => gScales (KernelIdeal.Hand.argIn m c), ?_, ?_⟩
  · refine (θ_run _ _ _).mono (fun r h c => ?_) (KernelIdeal.Hand.run_main m g)
    obtain ⟨e0, e1, e2, e3, e4⟩ := KernelIdeal.Hand.results_of m r h c
    exact ⟨e0, e1, e2, e3, e4, KernelIdeal.Hand.frame_of m (KernelIdeal.Hand.dats m) (KernelIdeal.Hand.A_eq m) r h c⟩
  · refine (θ_run _ _ _).mono (fun r h c => ?_) (θ_run_and (ReferenceIdeal.Gen.run_main m' g') (ReferenceIdeal.Gen.unchanged m' g'))
    obtain ⟨e0, e1, e2, e3, e4⟩ := ReferenceIdeal.Hand.results_of m' r h.1 c
    obtain ⟨h0, h1, h2, h3, h4, h5, h6, h7, h8, h9, h10, h11, h12, h13, h14, h15, h16, h17, h18, h19⟩ := hargs c
    have hι := argIn_eq m m' c h0 h1 h2 h3 h9 h10 h11 h12 h13 h14 h15 h16 h17 h18 h19
    refine ⟨e0.trans (congrArg₂ y (seg_eq m m' c h1) hι), e1.trans (congrArg uCodes hι), e2.trans (congrArg uScales hι),
      e3.trans (congrArg gCodes hι), e4.trans (congrArg gScales hι), h.2 c⟩

end Cert.Vit
-- ==== Proof.lean ====
/-
  The proof of `Cert.Claim`: the kernel's frame at the bits and at the ideal instance come from the
  modules beside this one, the reference's frame from its generated module, the one rewritten
  constant is stated as such, and the comparison of the two runs from `Algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    IdealRules.named_const.statement Cert.KernelIdeal.κ "inv_sqrt2" .f32 0x3F3504F3#32 (((Real.sqrt 2)⁻¹ : ℝ) : EReal) rfl,
    @Cert.Vit.algebraic Cert.KernelIdeal.Gen.facts Cert.ReferenceIdeal.Gen.facts⟩

end Cert.Proof

end
